-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.bf16_pair.Statement Cert.Kernel2Ideal.S512x1024 Cert.Kernel2Ideal.S256x1024

def algebraic_Kernel2Ideal_Reference2Ideal_on_rows_used [hKernel2Ideal : Cert.Kernel2Ideal.Facts] [hReference2Ideal : Cert.Reference2Ideal.Facts] [hPre_tables : Cert.Pre_tables.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![141312, 2048]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![141312, 2048]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference2Ideal.nD Cert.Reference2Ideal.τ).loc Cert.Reference2Ideal.main_v55) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)) (v3 : (c : Dev Cert.Kernel3Ideal.nD) → Buf (Elt Ideal) ((c.tc : Thread Cert.Kernel3Ideal.nD Cert.Kernel3Ideal.τ).loc Cert.Kernel3Ideal.main_v17_3)) (v4 : (c : Dev Cert.Kernel3Ideal.nD) → Buf (Elt Ideal) ((c.tc : Thread Cert.Kernel3Ideal.nD Cert.Kernel3Ideal.τ).loc Cert.Kernel3Ideal.main_v17_4)) (v5 : (c : Dev Cert.Kernel3Ideal.nD) → Buf (Elt Ideal) ((c.tc : Thread Cert.Kernel3Ideal.nD Cert.Kernel3Ideal.τ).loc Cert.Kernel3Ideal.main_v17_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_v17_3) = v3 c
          ∧ r.2.mem ((c.tc : Thread Cert.Kernel3Ideal.nD Cert.Kernel3Ideal.τ).loc Cert.Kernel3Ideal.main_v17_4) = v4 c
          ∧ r.2.mem ((c.tc : Thread Cert.Kernel3Ideal.nD Cert.Kernel3Ideal.τ).loc Cert.Kernel3Ideal.main_v17_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_v21) = v3 c
          ∧ r.2.mem ((c.tc : Thread Cert.Reference3Ideal.nD Cert.Reference3Ideal.τ).loc Cert.Reference3Ideal.main_v22) = v4 c
          ∧ r.2.mem ((c.tc : Thread Cert.Reference3Ideal.nD Cert.Reference3Ideal.τ).loc Cert.Reference3Ideal.main_v25) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v44_0)) (v1 : (c : Dev Cert.Kernel4Ideal.nD) → Buf (Elt Ideal) ((c.tc : Thread Cert.Kernel4Ideal.nD Cert.Kernel4Ideal.τ).loc Cert.Kernel4Ideal.main_v44_1)) (v2 : (c : Dev Cert.Kernel4Ideal.nD) → Buf (Elt Ideal) ((c.tc : Thread Cert.Kernel4Ideal.nD Cert.Kernel4Ideal.τ).loc Cert.Kernel4Ideal.main_v44_2)) (v3 : (c : Dev Cert.Kernel4Ideal.nD) → Buf (Elt Ideal) ((c.tc : Thread Cert.Kernel4Ideal.nD Cert.Kernel4Ideal.τ).loc Cert.Kernel4Ideal.main_v44_3)) (v4 : (c : Dev Cert.Kernel4Ideal.nD) → Buf (Elt Ideal) ((c.tc : Thread Cert.Kernel4Ideal.nD Cert.Kernel4Ideal.τ).loc Cert.Kernel4Ideal.main_v44_4)) (v5 : (c : Dev Cert.Kernel4Ideal.nD) → Buf (Elt Ideal) ((c.tc : Thread Cert.Kernel4Ideal.nD Cert.Kernel4Ideal.τ).loc Cert.Kernel4Ideal.main_v44_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v44_0) = v0 c
          ∧ r.2.mem ((c.tc : Thread Cert.Kernel4Ideal.nD Cert.Kernel4Ideal.τ).loc Cert.Kernel4Ideal.main_v44_1) = v1 c
          ∧ r.2.mem ((c.tc : Thread Cert.Kernel4Ideal.nD Cert.Kernel4Ideal.τ).loc Cert.Kernel4Ideal.main_v44_2) = v2 c
          ∧ r.2.mem ((c.tc : Thread Cert.Kernel4Ideal.nD Cert.Kernel4Ideal.τ).loc Cert.Kernel4Ideal.main_v44_3) = v3 c
          ∧ r.2.mem ((c.tc : Thread Cert.Kernel4Ideal.nD Cert.Kernel4Ideal.τ).loc Cert.Kernel4Ideal.main_v44_4) = v4 c
          ∧ r.2.mem ((c.tc : Thread Cert.Kernel4Ideal.nD Cert.Kernel4Ideal.τ).loc Cert.Kernel4Ideal.main_v44_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v114) = v0 c
          ∧ r.2.mem ((c.tc : Thread Cert.Reference4Ideal.nD Cert.Reference4Ideal.τ).loc Cert.Reference4Ideal.main_v115) = v1 c
          ∧ r.2.mem ((c.tc : Thread Cert.Reference4Ideal.nD Cert.Reference4Ideal.τ).loc Cert.Reference4Ideal.main_v116) = v2 c
          ∧ r.2.mem ((c.tc : Thread Cert.Reference4Ideal.nD Cert.Reference4Ideal.τ).loc Cert.Reference4Ideal.main_v117) = v3 c
          ∧ r.2.mem ((c.tc : Thread Cert.Reference4Ideal.nD Cert.Reference4Ideal.τ).loc Cert.Reference4Ideal.main_v118) = v4 c
          ∧ r.2.mem ((c.tc : Thread Cert.Reference4Ideal.nD Cert.Reference4Ideal.τ).loc Cert.Reference4Ideal.main_v119) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_tables : Cert.Pre_tables.Facts) (hPre_finite4 : Cert.Pre_finite4.Facts) (hOn_rows_used : Cert.On_rows_used.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_rows_used (hKernel2Ideal := hKernel2Ideal) (hReference2Ideal := hReference2Ideal) (hPre_tables := hPre_tables) (hOn_rows_used := hOn_rows_used)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== On_rows_used.lean ====
abbrev S552 : Shape := ⟨1, ![552]⟩
abbrev S1 : Shape := ⟨1, ![1]⟩
abbrev S282624x1024 : Shape := ⟨2, ![282624, 1024]⟩
abbrev S32x2048x1024 : Shape := ⟨3, ![32, 2048, 1024]⟩
abbrev S32x1x1024 : Shape := ⟨3, ![32, 1, 1024]⟩
abbrev S32x512x2048 : Shape := ⟨3, ![32, 512, 2048]⟩
abbrev S32x1x2048 : Shape := ⟨3, ![32, 1, 2048]⟩
abbrev S_ : Shape := ⟨0, ![]⟩
abbrev S552x1x1 : Shape := ⟨3, ![552, 1, 1]⟩
abbrev S552x256x2048 : Shape := ⟨3, ![552, 256, 2048]⟩
abbrev S141312x2048 : Shape := ⟨2, ![141312, 2048]⟩

class Facts : Prop where
  shapeCasts_S1_S_ : S1.ShapeCasts S_
  bcast_S_S552 : S_.BroadcastsInDim S552 (![] : Fin 0 → Fin S552.rank)
  bcast_S552_S552x1x1_0 : S552.BroadcastsInDim S552x1x1 (![0] : Fin 1 → Fin S552x1x1.rank)
  bcast_S552x1x1_S552x256x2048_0_1_2 : S552x1x1.BroadcastsInDim S552x256x2048 (![0, 1, 2] : Fin 3 → Fin S552x256x2048.rank)
  shapeCasts_S552x256x2048_S141312x2048 : S552x256x2048.ShapeCasts S141312x2048

variable [Facts]

def fn {F : FTy → Type} [FloatOps F] (main_arg0 : IVec S552 32) (main_arg1 : IVec S1 32) (main_arg2 : FVec F S282624x1024 .bf16) (main_arg3 : FVec F S32x2048x1024 .bf16) (main_arg4 : FVec F S32x1x1024 .f32) (main_arg5 : FVec F S32x512x2048 .bf16) (main_arg6 : FVec F S32x1x2048 .f32) : IVec S141312x2048 1 :=
  let main_v0 : IVec S552 32 := iotaInDim S552 32 0
  let main_v1 : IVec S_ 32 := shapeCast S_ main_arg1 shapeCasts_S1_S_
  let main_v2 : IVec S552 32 := broadcastInDim S552 ![] bcast_S_S552 main_v1
  let main_v3 : IVec S552 1 := cmpi .slt main_v0 main_v2
  let main_v4 : IVec S552x1x1 1 := broadcastInDim S552x1x1 ![0] bcast_S552_S552x1x1_0 main_v3
  let main_v5 : IVec S552x256x2048 1 := broadcastInDim S552x256x2048 ![0, 1, 2] bcast_S552x1x1_S552x256x2048_0_1_2 main_v4
  let main_v6 : IVec S141312x2048 1 := shapeCast S141312x2048 main_v5 shapeCasts_S552x256x2048_S141312x2048
  main_v6
-- ==== Pre_finite.lean ====
abbrev S33280x1024 : Shape := ⟨2, ![33280, 1024]⟩
abbrev S33280x512 : Shape := ⟨2, ![33280, 512]⟩
abbrev S_ : Shape := ⟨0, ![]⟩

class Facts : Prop where
  bitsLt_bf16_f32 : FTy.bits .bf16 < FTy.bits .f32
  bcast_S_S33280x1024 : S_.BroadcastsInDim S33280x1024 (![] : Fin 0 → Fin S33280x1024.rank)
  reducesTo_S33280x1024_S_d0_1 : S33280x1024.ReducesTo [0, 1] S_
  h_S_ : 0 < S_.numel

variable [Facts]

def fn {F : FTy → Type} [FloatOps F] (main_arg0 : FVec F S33280x1024 .bf16) (main_arg1 : FVec F S33280x1024 .bf16) (main_arg2 : FVec F S33280x512 .bf16) : IVec S_ 1 :=
  let main_v0 : FVec F S33280x1024 .f32 := (extf .f32 · bitsLt_bf16_f32) main_arg0
  let main_v1 : FVec F S33280x1024 .f32 := Host.absf main_v0
  let main_cst : FVec F S_ .f32 := constant S_ .f32 0x7F800000#32
  let main_v2 : FVec F S33280x1024 .f32 := broadcastInDim S33280x1024 ![] bcast_S_S33280x1024 main_cst
  let main_v3 : IVec S33280x1024 1 := cmpf .olt main_v1 main_v2
  let main_c : IVec S_ 1 := constantI S_ 1 1#1
  let main_v4 : IVec S_ 1 := (fun x v => Host.reduce IntOp.andi x v reducesTo_S33280x1024_S_d0_1 h_S_) main_v3 main_c
  let main_v5 : FVec F S33280x1024 .f32 := (extf .f32 · bitsLt_bf16_f32) main_arg1
  let main_v6 : FVec F S33280x1024 .f32 := Host.absf main_v5
  let main_cst_0 : FVec F S_ .f32 := constant S_ .f32 0x7F800000#32
  let main_v7 : FVec F S33280x1024 .f32 := broadcastInDim S33280x1024 ![] bcast_S_S33280x1024 main_cst_0
  let main_v8 : IVec S33280x1024 1 := cmpf .olt main_v6 main_v7
  let main_c_1 : IVec S_ 1 := constantI S_ 1 1#1
  let main_v9 : IVec S_ 1 := (fun x v => Host.reduce IntOp.andi x v reducesTo_S33280x1024_S_d0_1 h_S_) main_v8 main_c_1
  let main_v10 : IVec S_ 1 := andi main_v4 main_v9
  main_v10
-- ==== Pre_finite4.lean ====
abbrev S33280x2048 : Shape := ⟨2, ![33280, 2048]⟩
abbrev S2048x2368 : Shape := ⟨2, ![2048, 2368]⟩
abbrev S512 : Shape := ⟨1, ![512]⟩
abbrev S256 : Shape := ⟨1, ![256]⟩
abbrev S512x768 : Shape := ⟨2, ![512, 768]⟩
abbrev S256x1024 : Shape := ⟨2, ![256, 1024]⟩
abbrev S_ : Shape := ⟨0, ![]⟩

class Facts : Prop where
  bitsLt_bf16_f32 : FTy.bits .bf16 < FTy.bits .f32
  bcast_S_S33280x2048 : S_.BroadcastsInDim S33280x2048 (![] : Fin 0 → Fin S33280x2048.rank)
  reducesTo_S33280x2048_S_d0_1 : S33280x2048.ReducesTo [0, 1] S_
  h_S_ : 0 < S_.numel
  bcast_S_S2048x2368 : S_.BroadcastsInDim S2048x2368 (![] : Fin 0 → Fin S2048x2368.rank)
  reducesTo_S2048x2368_S_d0_1 : S2048x2368.ReducesTo [0, 1] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_

variable [Facts]

def fn_part1 {F : FTy → Type} [FloatOps F] (main_v9 : IVec S_ 1) (main_v13 : IVec S_ 1) (main_v16 : IVec S512x768 1) : IVec S_ 1 :=
  let main_c_5 : IVec S_ 1 := constantI S_ 1 1#1
  let main_v17 : IVec S_ 1 := (fun x v => Host.reduce IntOp.andi x v reducesTo_S512x768_S_d0_1 h_S_) main_v16 main_c_5
  let main_v18 : IVec S_ 1 := andi main_v13 main_v17
  let main_v19 : IVec S_ 1 := andi main_v9 main_v18
  main_v19

def fn {F : FTy → Type} [FloatOps F] (main_arg0 : FVec F S33280x2048 .bf16) (main_arg1 : FVec F S2048x2368 .f32) (main_arg2 : FVec F S512 .f32) (main_arg3 : FVec F S256 .f32) (main_arg4 : FVec F S512x768 .f32) (main_arg5 : FVec F S256x1024 .f32) : IVec S_ 1 :=
  let main_v0 : FVec F S33280x2048 .f32 := (extf .f32 · bitsLt_bf16_f32) main_arg0
  let main_v1 : FVec F S33280x2048 .f32 := Host.absf main_v0
  let main_cst : FVec F S_ .f32 := constant S_ .f32 0x7F800000#32
  let main_v2 : FVec F S33280x2048 .f32 := broadcastInDim S33280x2048 ![] bcast_S_S33280x2048 main_cst
  let main_v3 : IVec S33280x2048 1 := cmpf .olt main_v1 main_v2
  let main_c : IVec S_ 1 := constantI S_ 1 1#1
  let main_v4 : IVec S_ 1 := (fun x v => Host.reduce IntOp.andi x v reducesTo_S33280x2048_S_d0_1 h_S_) main_v3 main_c
  let main_v5 : FVec F S2048x2368 .f32 := Host.absf main_arg1
  let main_cst_0 : FVec F S_ .f32 := constant S_ .f32 0x7F800000#32
  let main_v6 : FVec F S2048x2368 .f32 := broadcastInDim S2048x2368 ![] bcast_S_S2048x2368 main_cst_0
  let main_v7 : IVec S2048x2368 1 := cmpf .olt main_v5 main_v6
  let main_c_1 : IVec S_ 1 := constantI S_ 1 1#1
  let main_v8 : IVec S_ 1 := (fun x v => Host.reduce IntOp.andi x v reducesTo_S2048x2368_S_d0_1 h_S_) main_v7 main_c_1
  let main_v9 : IVec S_ 1 := andi main_v4 main_v8
  let main_v10 : FVec F S512 .f32 := Host.absf main_arg2
  let main_cst_2 : FVec F S_ .f32 := constant S_ .f32 0x7F800000#32
  let main_v11 : FVec F S512 .f32 := broadcastInDim S512 ![] bcast_S_S512 main_cst_2
  let main_v12 : IVec S512 1 := cmpf .olt main_v10 main_v11
  let main_c_3 : IVec S_ 1 := constantI S_ 1 1#1
  let main_v13 : IVec S_ 1 := (fun x v => Host.reduce IntOp.andi x v reducesTo_S512_S_d0 h_S_) main_v12 main_c_3
  let main_v14 : FVec F S512x768 .f32 := Host.absf main_arg4
  let main_cst_4 : FVec F S_ .f32 := constant S_ .f32 0x7F800000#32
  let main_v15 : FVec F S512x768 .f32 := broadcastInDim S512x768 ![] bcast_S_S512x768 main_cst_4
  let main_v16 : IVec S512x768 1 := cmpf .olt main_v14 main_v15
  fn_part1 (F := F) main_v9 main_v13 main_v16
-- ==== Pre_tables.lean ====
abbrev S552 : Shape := ⟨1, ![552]⟩
abbrev S1 : Shape := ⟨1, ![1]⟩
abbrev S282624x1024 : Shape := ⟨2, ![282624, 1024]⟩
abbrev S32x2048x1024 : Shape := ⟨3, ![32, 2048, 1024]⟩
abbrev S32x1x1024 : Shape := ⟨3, ![32, 1, 1024]⟩
abbrev S32x512x2048 : Shape := ⟨3, ![32, 512, 2048]⟩
abbrev S32x1x2048 : Shape := ⟨3, ![32, 1, 2048]⟩
abbrev S_ : Shape := ⟨0, ![]⟩

class Facts : Prop where
  bcast_S_S552 : S_.BroadcastsInDim S552 (![] : Fin 0 → Fin S552.rank)
  reducesTo_S552_S_d0 : S552.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S552 32) (main_arg1 : IVec S1 32) (main_arg2 : FVec F S282624x1024 .bf16) (main_arg3 : FVec F S32x2048x1024 .bf16) (main_arg4 : FVec F S32x1x1024 .f32) (main_arg5 : FVec F S32x512x2048 .bf16) (main_arg6 : FVec F S32x1x2048 .f32) : IVec S_ 1 :=
  let main_c : IVec S_ 32 := constantI S_ 32 0#32
  let main_v0 : IVec S552 32 := broadcastInDim S552 ![] bcast_S_S552 main_c
  let main_v1 : IVec S552 1 := cmpi .sge main_arg0 main_v0
  let main_c_0 : IVec S_ 1 := constantI S_ 1 1#1
  let main_v2 : IVec S_ 1 := (fun x v => Host.reduce IntOp.andi x v reducesTo_S552_S_d0 h_S_) main_v1 main_c_0
  let main_c_1 : IVec S_ 32 := constantI S_ 32 32#32
  let main_v3 : IVec S552 32 := broadcastInDim S552 ![] bcast_S_S552 main_c_1
  let main_v4 : IVec S552 1 := cmpi .slt main_arg0 main_v3
  let main_c_2 : IVec S_ 1 := constantI S_ 1 1#1
  let main_v5 : IVec S_ 1 := (fun x v => Host.reduce IntOp.andi x v reducesTo_S552_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S33280x1024 : Shape := ⟨2, ![33280, 1024]⟩
abbrev S33280x512 : Shape := ⟨2, ![33280, 512]⟩
abbrev S640x256 : Shape := ⟨2, ![640, 256]⟩
abbrev S8320x256 : Shape := ⟨2, ![8320, 256]⟩
abbrev S8320x128 : Shape := ⟨2, ![8320, 128]⟩
abbrev S640x128 : Shape := ⟨2, ![640, 128]⟩
abbrev S640x1 : Shape := ⟨2, ![640, 1]⟩
abbrev S640x640 : Shape := ⟨2, ![640, 640]⟩
abbrev S640 : Shape := ⟨1, ![640]⟩

abbrev nBuf : Space → Nat
  | .hbm => 4
  | .vmem => 11
  | .smem => 0
  | _ => 0

abbrev bufTy : (tb : Table) → Fin (tcTables nBuf tb) → BufTy
  | .hbm, ⟨0, _⟩ => ⟨S33280x1024, .bf16⟩
  | .hbm, ⟨1, _⟩ => ⟨S33280x1024, .bf16⟩
  | .hbm, ⟨2, _⟩ => ⟨S33280x512, .bf16⟩
  | .hbm, ⟨3, _⟩ => ⟨S33280x512, .bf16⟩
  | .local _ .vmem, ⟨0, _⟩ => ⟨S640x256, .bf16⟩
  | .local _ .vmem, ⟨1, _⟩ => ⟨S640x256, .bf16⟩
  | .local _ .vmem, ⟨2, _⟩ => ⟨S8320x256, .bf16⟩
  | .local _ .vmem, ⟨3, _⟩ => ⟨S8320x256, .bf16⟩
  | .local _ .vmem, ⟨4, _⟩ => ⟨S8320x128, .bf16⟩
  | .local _ .vmem, ⟨5, _⟩ => ⟨S8320x128, .bf16⟩
  | .local _ .vmem, ⟨6, _⟩ => ⟨S640x128, .bf16⟩
  | .local _ .vmem, ⟨7, _⟩ => ⟨S640x128, .bf16⟩
  | .local _ .vmem, ⟨8, _⟩ => ⟨S640x1, .f32⟩
  | .local _ .vmem, ⟨9, _⟩ => ⟨S640x1, .f32⟩
  | .local _ .vmem, ⟨10, _⟩ => ⟨S640x128, .f32⟩
  | _, _ => ⟨S33280x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 13], ![false, false, false]⟩

@[reducible] def k0_t1_loop (i : grid0.Coords) : Scf.Loop 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_10 : BitVec 32 := 1#32
  ⟨c0_i32_9, v17, c1_i32_10⟩
def k0_mult1 (i : grid0.Coords) (k0_t1 : Fin (k0_t1_loop i).trips) : BitVec 32 :=
  let c0_i32_9 : BitVec 32 := 0#32
  let c1_i32_10 : BitVec 32 := 1#32
  let arg10 : BitVec 32 := Scf.iv c0_i32_9 c1_i32_10 k0_t1
  let c640_i32 : BitVec 32 := 640#32
  let v31 : BitVec 32 := Scalar.muli arg10 c640_i32
  v31
def k0_off1 (i : grid0.Coords) (k0_t1 : Fin (k0_t1_loop i).trips) : Fin 2 → Nat :=
  let c0_i32_9 : BitVec 32 := 0#32
  let c1_i32_10 : BitVec 32 := 1#32
  let arg10 : BitVec 32 := Scf.iv c0_i32_9 c1_i32_10 k0_t1
  let c640_i32 : BitVec 32 := 640#32
  let v31 : BitVec 32 := Scalar.muli arg10 c640_i32
  let v32 : BitVec 32 := v31
  let v33 : Index := Scalar.indexCast v32
  let c0_22 : Index := 0#32
  ![v33.toNat, 0]
def k0_off2 (i : grid0.Coords) (k0_t1 : Fin (k0_t1_loop i).trips) : Fin 2 → Nat :=
  let c0_i32_9 : BitVec 32 := 0#32
  let c1_i32_10 : BitVec 32 := 1#32
  let arg10 : BitVec 32 := Scf.iv c0_i32_9 c1_i32_10 k0_t1
  let c640_i32 : BitVec 32 := 640#32
  let v31 : BitVec 32 := Scalar.muli arg10 c640_i32
  let v32 : BitVec 32 := v31
  let v57 : Index := Scalar.indexCast v32
  let c0_34 : Index := 0#32
  ![v57.toNat, 0]
@[reducible] def k0_t2_loop (i : grid0.Coords) : Scf.Loop 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let v14 : BitVec 32 := Scalar.addi c0_i32_9 v13
  let c1_i32_11 : BitVec 32 := 1#32
  ⟨v17, v14, c1_i32_11⟩
def k0_mult2 (i : grid0.Coords) (k0_t2 : Fin (k0_t2_loop i).trips) : BitVec 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg10 : BitVec 32 := Scf.iv v17 c1_i32_11 k0_t2
  let c640_i32 : BitVec 32 := 640#32
  let v31 : BitVec 32 := Scalar.muli arg10 c640_i32
  v31
def k0_off3 (i : grid0.Coords) (k0_t2 : Fin (k0_t2_loop i).trips) : Fin 2 → Nat :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg10 : BitVec 32 := Scf.iv v17 c1_i32_11 k0_t2
  let c640_i32 : BitVec 32 := 640#32
  let v31 : BitVec 32 := Scalar.muli arg10 c640_i32
  let v32 : BitVec 32 := v31
  let v33 : Index := Scalar.indexCast v32
  let c0_22 : Index := 0#32
  ![v33.toNat, 0]
def k0_off4 (i : grid0.Coords) (k0_t2 : Fin (k0_t2_loop i).trips) : Fin 2 → Nat :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg10 : BitVec 32 := Scf.iv v17 c1_i32_11 k0_t2
  let c640_i32 : BitVec 32 := 640#32
  let v31 : BitVec 32 := Scalar.muli arg10 c640_i32
  let v32 : BitVec 32 := v31
  let v57 : Index := Scalar.indexCast v32
  let c0_34 : Index := 0#32
  ![v57.toNat, 0]
@[reducible] def k0_t3_loop (i : grid0.Coords) : Scf.Loop 32 :=
  let arg2 : BitVec 32 := BitVec.ofNat 32 (i 2).val
  let c2_i32 : BitVec 32 := 2#32
  let v18 : BitVec 32 := Scalar.addi arg2 c2_i32
  let c13_i32 : BitVec 32 := 13#32
  let v19 : BitVec 32 := Scalar.minsi v18 c13_i32
  let v20 : BitVec 32 := Scalar.subi v19 arg2
  let c1_i32_13 : BitVec 32 := 1#32
  let v22 : BitVec 32 := Scalar.divsi v20 c1_i32_13
  let v23 : BitVec 32 := Scalar.muli v22 c1_i32_13
  let v24 : BitVec 32 := Scalar.addi arg2 v23
  let c1_i32_14 : BitVec 32 := 1#32
  ⟨arg2, v24, c1_i32_14⟩
def k0_mult3 (i : grid0.Coords) (k0_t3 : Fin (k0_t3_loop i).trips) : BitVec 32 :=
  let arg2 : BitVec 32 := BitVec.ofNat 32 (i 2).val
  let c1_i32_14 : BitVec 32 := 1#32
  let arg10 : BitVec 32 := Scf.iv arg2 c1_i32_14 k0_t3
  let c640_i32 : BitVec 32 := 640#32
  let v31 : BitVec 32 := Scalar.muli arg10 c640_i32
  v31
def k0_off5 (i : grid0.Coords) (k0_t3 : Fin (k0_t3_loop i).trips) : Fin 2 → Nat :=
  let arg2 : BitVec 32 := BitVec.ofNat 32 (i 2).val
  let c1_i32_14 : BitVec 32 := 1#32
  let arg10 : BitVec 32 := Scf.iv arg2 c1_i32_14 k0_t3
  let c640_i32 : BitVec 32 := 640#32
  let v31 : BitVec 32 := Scalar.muli arg10 c640_i32
  let v32 : BitVec 32 := v31
  let v33 : Index := Scalar.indexCast v32
  let c0_22 : Index := 0#32
  ![v33.toNat, 0]
def k0_off6 (i : grid0.Coords) (k0_t3 : Fin (k0_t3_loop i).trips) : Fin 2 → Nat :=
  let arg2 : BitVec 32 := BitVec.ofNat 32 (i 2).val
  let c1_i32_14 : BitVec 32 := 1#32
  let arg10 : BitVec 32 := Scf.iv arg2 c1_i32_14 k0_t3
  let c640_i32 : BitVec 32 := 640#32
  let v31 : BitVec 32 := Scalar.muli arg10 c640_i32
  let v32 : BitVec 32 := v31
  let v75 : Index := Scalar.indexCast v32
  let c0_38 : Index := 0#32
  ![v75.toNat, 0]
@[reducible] def k0_t4_loop (i : grid0.Coords) : Scf.Loop 32 :=
  let arg2 : BitVec 32 := BitVec.ofNat 32 (i 2).val
  let c2_i32 : BitVec 32 := 2#32
  let v18 : BitVec 32 := Scalar.addi arg2 c2_i32
  let c13_i32 : BitVec 32 := 13#32
  let v19 : BitVec 32 := Scalar.minsi v18 c13_i32
  let v20 : BitVec 32 := Scalar.subi v19 arg2
  let c1_i32_13 : BitVec 32 := 1#32
  let v22 : BitVec 32 := Scalar.divsi v20 c1_i32_13
  let v23 : BitVec 32 := Scalar.muli v22 c1_i32_13
  let v24 : BitVec 32 := Scalar.addi arg2 v23
  let v21 : BitVec 32 := Scalar.addi arg2 v20
  let c1_i32_15 : BitVec 32 := 1#32
  ⟨v24, v21, c1_i32_15⟩
def k0_mult4 (i : grid0.Coords) (k0_t4 : Fin (k0_t4_loop i).trips) : BitVec 32 :=
  let arg2 : BitVec 32 := BitVec.ofNat 32 (i 2).val
  let c2_i32 : BitVec 32 := 2#32
  let v18 : BitVec 32 := Scalar.addi arg2 c2_i32
  let c13_i32 : BitVec 32 := 13#32
  let v19 : BitVec 32 := Scalar.minsi v18 c13_i32
  let v20 : BitVec 32 := Scalar.subi v19 arg2
  let c1_i32_13 : BitVec 32 := 1#32
  let v22 : BitVec 32 := Scalar.divsi v20 c1_i32_13
  let v23 : BitVec 32 := Scalar.muli v22 c1_i32_13
  let v24 : BitVec 32 := Scalar.addi arg2 v23
  let c1_i32_15 : BitVec 32 := 1#32
  let arg10 : BitVec 32 := Scf.iv v24 c1_i32_15 k0_t4
  let c640_i32 : BitVec 32 := 640#32
  let v31 : BitVec 32 := Scalar.muli arg10 c640_i32
  v31
def k0_off7 (i : grid0.Coords) (k0_t4 : Fin (k0_t4_loop i).trips) : Fin 2 → Nat :=
  let arg2 : BitVec 32 := BitVec.ofNat 32 (i 2).val
  let c2_i32 : BitVec 32 := 2#32
  let v18 : BitVec 32 := Scalar.addi arg2 c2_i32
  let c13_i32 : BitVec 32 := 13#32
  let v19 : BitVec 32 := Scalar.minsi v18 c13_i32
  let v20 : BitVec 32 := Scalar.subi v19 arg2
  let c1_i32_13 : BitVec 32 := 1#32
  let v22 : BitVec 32 := Scalar.divsi v20 c1_i32_13
  let v23 : BitVec 32 := Scalar.muli v22 c1_i32_13
  let v24 : BitVec 32 := Scalar.addi arg2 v23
  let c1_i32_15 : BitVec 32 := 1#32
  let arg10 : BitVec 32 := Scf.iv v24 c1_i32_15 k0_t4
  let c640_i32 : BitVec 32 := 640#32
  let v31 : BitVec 32 := Scalar.muli arg10 c640_i32
  let v32 : BitVec 32 := v31
  let v33 : Index := Scalar.indexCast v32
  let c0_22 : Index := 0#32
  ![v33.toNat, 0]
def k0_off8 (i : grid0.Coords) (k0_t4 : Fin (k0_t4_loop i).trips) : Fin 2 → Nat :=
  let arg2 : BitVec 32 := BitVec.ofNat 32 (i 2).val
  let c2_i32 : BitVec 32 := 2#32
  let v18 : BitVec 32 := Scalar.addi arg2 c2_i32
  let c13_i32 : BitVec 32 := 13#32
  let v19 : BitVec 32 := Scalar.minsi v18 c13_i32
  let v20 : BitVec 32 := Scalar.subi v19 arg2
  let c1_i32_13 : BitVec 32 := 1#32
  let v22 : BitVec 32 := Scalar.divsi v20 c1_i32_13
  let v23 : BitVec 32 := Scalar.muli v22 c1_i32_13
  let v24 : BitVec 32 := Scalar.addi arg2 v23
  let c1_i32_15 : BitVec 32 := 1#32
  let arg10 : BitVec 32 := Scf.iv v24 c1_i32_15 k0_t4
  let c640_i32 : BitVec 32 := 640#32
  let v31 : BitVec 32 := Scalar.muli arg10 c640_i32
  let v32 : BitVec 32 := v31
  let v75 : Index := Scalar.indexCast v32
  let c0_38 : Index := 0#32
  ![v75.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.muli arg0 c13_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.muli arg0 c13_i32
  let v1 : BitVec 32 := Scalar.addi v0 arg2
  let c0_i32 : BitVec 32 := 0#32
  ![v1.toNat, arg1.toNat]

abbrev stage0_0 : Fin 2 → Memref sig .tc .vmem S640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8320x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8320x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S33280x1024 : Shape := ⟨2, ![33280, 1024]⟩
abbrev S33280x512 : Shape := ⟨2, ![33280, 512]⟩
abbrev S4x8320x4x256 : Shape := ⟨4, ![4, 8320, 4, 256]⟩
abbrev S4x8320x4x128 : Shape := ⟨4, ![4, 8320, 4, 128]⟩
abbrev S8320 : Shape := ⟨1, ![8320]⟩
abbrev S_ : Shape := ⟨0, ![]⟩
abbrev S4x4x8320x8320 : Shape := ⟨4, ![4, 4, 8320, 8320]⟩
abbrev S1x8320 : Shape := ⟨2, ![1, 8320]⟩
abbrev S8320x1 : Shape := ⟨2, ![8320, 1]⟩
abbrev S8320x8320 : Shape := ⟨2, ![8320, 8320]⟩
abbrev S4x4x8320 : Shape := ⟨3, ![4, 4, 8320]⟩
abbrev S4x4x8320x1 : Shape := ⟨4, ![4, 4, 8320, 1]⟩
abbrev S4x4x128x8320 : Shape := ⟨4, ![4, 4, 128, 8320]⟩

abbrev nBuf : Space → Nat
  | .hbm => 70
  | .vmem => 0
  | .smem => 0
  | _ => 0

abbrev bufTy : (tb : Table) → Fin (tcTables nBuf tb) → BufTy
  | .hbm, ⟨0, _⟩ => ⟨S33280x1024, .bf16⟩
  | .hbm, ⟨1, _⟩ => ⟨S33280x1024, .bf16⟩
  | .hbm, ⟨2, _⟩ => ⟨S33280x512, .bf16⟩
  | .hbm, ⟨3, _⟩ => ⟨S33280x1024, .f32⟩
  | .hbm, ⟨4, _⟩ => ⟨S4x8320x4x256, .f32⟩
  | .hbm, ⟨5, _⟩ => ⟨S33280x1024, .f32⟩
  | .hbm, ⟨6, _⟩ => ⟨S4x8320x4x256, .f32⟩
  | .hbm, ⟨7, _⟩ => ⟨S33280x512, .f32⟩
  | .hbm, ⟨8, _⟩ => ⟨S4x8320x4x128, .f32⟩
  | .hbm, ⟨9, _⟩ => ⟨S8320, .i32⟩
  | .hbm, ⟨10, _⟩ => ⟨S_, .i32⟩
  | .hbm, ⟨11, _⟩ => ⟨S8320, .i32⟩
  | .hbm, ⟨12, _⟩ => ⟨S8320, .i1⟩
  | .hbm, ⟨13, _⟩ => ⟨S_, .i32⟩
  | .hbm, ⟨14, _⟩ => ⟨S8320, .i32⟩
  | .hbm, ⟨15, _⟩ => ⟨S8320, .i32⟩
  | .hbm, ⟨16, _⟩ => ⟨S_, .i32⟩
  | .hbm, ⟨17, _⟩ => ⟨S_, .i32⟩
  | .hbm, ⟨18, _⟩ => ⟨S8320, .i32⟩
  | .hbm, ⟨19, _⟩ => ⟨S8320, .i32⟩
  | .hbm, ⟨20, _⟩ => ⟨S8320, .i32⟩
  | .hbm, ⟨21, _⟩ => ⟨S_, .i32⟩
  | .hbm, ⟨22, _⟩ => ⟨S8320, .i32⟩
  | .hbm, ⟨23, _⟩ => ⟨S8320, .i1⟩
  | .hbm, ⟨24, _⟩ => ⟨S8320, .i32⟩
  | .hbm, ⟨25, _⟩ => ⟨S8320, .i32⟩
  | .hbm, ⟨26, _⟩ => ⟨S_, .i32⟩
  | .hbm, ⟨27, _⟩ => ⟨S8320, .i32⟩
  | .hbm, ⟨28, _⟩ => ⟨S8320, .i1⟩
  | .hbm, ⟨29, _⟩ => ⟨S8320, .i1⟩
  | .hbm, ⟨30, _⟩ => ⟨S_, .i32⟩
  | .hbm, ⟨31, _⟩ => ⟨S8320, .i32⟩
  | .hbm, ⟨32, _⟩ => ⟨S8320, .i32⟩
  | .hbm, ⟨33, _⟩ => ⟨S8320, .i32⟩
  | .hbm, ⟨34, _⟩ => ⟨S_, .i32⟩
  | .hbm, ⟨35, _⟩ => ⟨S8320, .i32⟩
  | .hbm, ⟨36, _⟩ => ⟨S8320, .i32⟩
  | .hbm, ⟨37, _⟩ => ⟨S_, .i32⟩
  | .hbm, ⟨38, _⟩ => ⟨S_, .i32⟩
  | .hbm, ⟨39, _⟩ => ⟨S8320, .i32⟩
  | .hbm, ⟨40, _⟩ => ⟨S8320, .i32⟩
  | .hbm, ⟨41, _⟩ => ⟨S4x4x8320x8320, .f32⟩
  | .hbm, ⟨42, _⟩ => ⟨S1x8320, .i32⟩
  | .hbm, ⟨43, _⟩ => ⟨S8320x1, .i32⟩
  | .hbm, ⟨44, _⟩ => ⟨S8320x8320, .i32⟩
  | .hbm, ⟨45, _⟩ => ⟨S8320x8320, .i32⟩
  | .hbm, ⟨46, _⟩ => ⟨S8320x8320, .i1⟩
  | .hbm, ⟨47, _⟩ => ⟨S_, .f32⟩
  | .hbm, ⟨48, _⟩ => ⟨S_, .f32⟩
  | .hbm, ⟨49, _⟩ => ⟨S4x4x8320x8320, .i1⟩
  | .hbm, ⟨50, _⟩ => ⟨S4x4x8320x8320, .f32⟩
  | .hbm, ⟨51, _⟩ => ⟨S4x4x8320x8320, .f32⟩
  | .hbm, ⟨52, _⟩ => ⟨S_, .f32⟩
  | .hbm, ⟨53, _⟩ => ⟨S4x4x8320, .f32⟩
  | .hbm, ⟨54, _⟩ => ⟨S_, .f32⟩
  | .hbm, ⟨55, _⟩ => ⟨S4x4x8320, .f32⟩
  | .hbm, ⟨56, _⟩ => ⟨S4x4x8320, .f32⟩
  | .hbm, ⟨57, _⟩ => ⟨S4x4x8320x1, .f32⟩
  | .hbm, ⟨58, _⟩ => ⟨S4x4x8320x8320, .f32⟩
  | .hbm, ⟨59, _⟩ => ⟨S4x4x8320x8320, .f32⟩
  | .hbm, ⟨60, _⟩ => ⟨S4x4x8320x8320, .f32⟩
  | .hbm, ⟨61, _⟩ => ⟨S_, .f32⟩
  | .hbm, ⟨62, _⟩ => ⟨S4x4x8320, .f32⟩
  | .hbm, ⟨63, _⟩ => ⟨S4x4x8320x1, .f32⟩
  | .hbm, ⟨64, _⟩ => ⟨S4x4x8320x8320, .f32⟩
  | .hbm, ⟨65, _⟩ => ⟨S4x4x8320x8320, .f32⟩
  | .hbm, ⟨66, _⟩ => ⟨S4x4x128x8320, .f32⟩
  | .hbm, ⟨67, _⟩ => ⟨S4x8320x4x128, .f32⟩
  | .hbm, ⟨68, _⟩ => ⟨S33280x512, .f32⟩
  | .hbm, ⟨69, _⟩ => ⟨S33280x512, .bf16⟩
  | _, _ => ⟨S33280x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_c_3 : Ref sig .tc := ⟨.hbm, 37, rfl⟩
abbrev main_call1_v0 : Ref sig .tc := ⟨.hbm, 38, rfl⟩
abbrev main_call1_v1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v21 : Ref sig .tc := ⟨.hbm, 51, rfl⟩
abbrev main_cst_4 : Ref sig .tc := ⟨.hbm, 52, rfl⟩
abbrev main_v22 : Ref sig .tc := ⟨.hbm, 53, rfl⟩
abbrev main_cst_5 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_6 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩

abbrev nD : Nat := 1
abbrev τ : Topo := Topo.v7x

variable {F : FTy → Type} [FloatOps F]
-- ==== Kernel2.lean ====
abbrev S552 : Shape := ⟨1, ![552]⟩
abbrev S1 : Shape := ⟨1, ![1]⟩
abbrev S282624x1024 : Shape := ⟨2, ![282624, 1024]⟩
abbrev S32x2048x1024 : Shape := ⟨3, ![32, 2048, 1024]⟩
abbrev S32x1x1024 : Shape := ⟨3, ![32, 1, 1024]⟩
abbrev S32x512x2048 : Shape := ⟨3, ![32, 512, 2048]⟩
abbrev S32x1x2048 : Shape := ⟨3, ![32, 1, 2048]⟩
abbrev S141312x2048 : Shape := ⟨2, ![141312, 2048]⟩
abbrev S512x1024 : Shape := ⟨2, ![512, 1024]⟩
abbrev S1x2048x1024 : Shape := ⟨3, ![1, 2048, 1024]⟩
abbrev S1x1x1024 : Shape := ⟨3, ![1, 1, 1024]⟩
abbrev S1x512x2048 : Shape := ⟨3, ![1, 512, 2048]⟩
abbrev S1x1x2048 : Shape := ⟨3, ![1, 1, 2048]⟩
abbrev S256x2048 : Shape := ⟨2, ![256, 2048]⟩
abbrev S256x1024 : Shape := ⟨2, ![256, 1024]⟩
abbrev S2048x1024 : Shape := ⟨2, ![2048, 1024]⟩
abbrev S1x1024 : Shape := ⟨2, ![1, 1024]⟩
abbrev S256x512 : Shape := ⟨2, ![256, 512]⟩
abbrev S512x2048 : Shape := ⟨2, ![512, 2048]⟩
abbrev S1x2048 : Shape := ⟨2, ![1, 2048]⟩

abbrev nBuf : Space → Nat
  | .hbm => 6
  | .vmem => 12
  | .smem => 2
  | _ => 0

abbrev bufTy : (tb : Table) → Fin (tcTables nBuf tb) → BufTy
  | .hbm, ⟨0, _⟩ => ⟨S282624x1024, .bf16⟩
  | .hbm, ⟨1, _⟩ => ⟨S32x2048x1024, .bf16⟩
  | .hbm, ⟨2, _⟩ => ⟨S32x1x1024, .f32⟩
  | .hbm, ⟨3, _⟩ => ⟨S32x512x2048, .bf16⟩
  | .hbm, ⟨4, _⟩ => ⟨S32x1x2048, .f32⟩
  | .hbm, ⟨5, _⟩ => ⟨S141312x2048, .f32⟩
  | .local _ .vmem, ⟨0, _⟩ => ⟨S512x1024, .bf16⟩
  | .local _ .vmem, ⟨1, _⟩ => ⟨S512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x512x2048, .bf16⟩
  | .local _ .vmem, ⟨7, _⟩ => ⟨S1x512x2048, .bf16⟩
  | .local _ .vmem, ⟨8, _⟩ => ⟨S1x1x2048, .f32⟩
  | .local _ .vmem, ⟨9, _⟩ => ⟨S1x1x2048, .f32⟩
  | .local _ .vmem, ⟨10, _⟩ => ⟨S256x2048, .f32⟩
  | .local _ .vmem, ⟨11, _⟩ => ⟨S256x2048, .f32⟩
  | .local _ .smem, ⟨0, _⟩ => ⟨S552, .i32⟩
  | .local _ .smem, ⟨1, _⟩ => ⟨S1, .i32⟩
  | _, _ => ⟨S282624x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![552], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S552.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S552) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S552.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S552) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S552.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S552) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S552.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S552) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel2Ideal.lean ====
variable {F : FTy → Type} [FloatOps F]
-- ==== Reference2Ideal.lean ====
abbrev S552 : Shape := ⟨1, ![552]⟩
abbrev S1 : Shape := ⟨1, ![1]⟩
abbrev S282624x1024 : Shape := ⟨2, ![282624, 1024]⟩
abbrev S32x2048x1024 : Shape := ⟨3, ![32, 2048, 1024]⟩
abbrev S32x1x1024 : Shape := ⟨3, ![32, 1, 1024]⟩
abbrev S32x512x2048 : Shape := ⟨3, ![32, 512, 2048]⟩
abbrev S32x1x2048 : Shape := ⟨3, ![32, 1, 2048]⟩
abbrev S552x256x2048 : Shape := ⟨3, ![552, 256, 2048]⟩
abbrev S_ : Shape := ⟨0, ![]⟩
abbrev S552x1 : Shape := ⟨2, ![552, 1]⟩
abbrev S552x2048x1024 : Shape := ⟨3, ![552, 2048, 1024]⟩
abbrev S552x256x1024 : Shape := ⟨3, ![552, 256, 1024]⟩
abbrev S552x1x1024 : Shape := ⟨3, ![552, 1, 1024]⟩
abbrev S552x256x512 : Shape := ⟨3, ![552, 256, 512]⟩
abbrev S552x512x2048 : Shape := ⟨3, ![552, 512, 2048]⟩
abbrev S552x1x2048 : Shape := ⟨3, ![552, 1, 2048]⟩
abbrev S141312x2048 : Shape := ⟨2, ![141312, 2048]⟩

abbrev nBuf : Space → Nat
  | .hbm => 83
  | .vmem => 0
  | .smem => 0
  | _ => 0

abbrev bufTy : (tb : Table) → Fin (tcTables nBuf tb) → BufTy
  | .hbm, ⟨0, _⟩ => ⟨S552, .i32⟩
  | .hbm, ⟨1, _⟩ => ⟨S1, .i32⟩
  | .hbm, ⟨2, _⟩ => ⟨S282624x1024, .bf16⟩
  | .hbm, ⟨3, _⟩ => ⟨S32x2048x1024, .bf16⟩
  | .hbm, ⟨4, _⟩ => ⟨S32x1x1024, .f32⟩
  | .hbm, ⟨5, _⟩ => ⟨S32x512x2048, .bf16⟩
  | .hbm, ⟨6, _⟩ => ⟨S32x1x2048, .f32⟩
  | .hbm, ⟨7, _⟩ => ⟨S282624x1024, .f32⟩
  | .hbm, ⟨8, _⟩ => ⟨S552x256x2048, .f32⟩
  | .hbm, ⟨9, _⟩ => ⟨S32x2048x1024, .f32⟩
  | .hbm, ⟨10, _⟩ => ⟨S_, .i32⟩
  | .hbm, ⟨11, _⟩ => ⟨S552, .i32⟩
  | .hbm, ⟨12, _⟩ => ⟨S552, .i1⟩
  | .hbm, ⟨13, _⟩ => ⟨S_, .i32⟩
  | .hbm, ⟨14, _⟩ => ⟨S552, .i32⟩
  | .hbm, ⟨15, _⟩ => ⟨S552, .i32⟩
  | .hbm, ⟨16, _⟩ => ⟨S552, .i32⟩
  | .hbm, ⟨17, _⟩ => ⟨S552x1, .i32⟩
  | .hbm, ⟨18, _⟩ => ⟨S552x2048x1024, .f32⟩
  | .hbm, ⟨19, _⟩ => ⟨S552x256x1024, .f32⟩
  | .hbm, ⟨20, _⟩ => ⟨S_, .i32⟩
  | .hbm, ⟨21, _⟩ => ⟨S552, .i32⟩
  | .hbm, ⟨22, _⟩ => ⟨S552, .i1⟩
  | .hbm, ⟨23, _⟩ => ⟨S_, .i32⟩
  | .hbm, ⟨24, _⟩ => ⟨S552, .i32⟩
  | .hbm, ⟨25, _⟩ => ⟨S552, .i32⟩
  | .hbm, ⟨26, _⟩ => ⟨S552, .i32⟩
  | .hbm, ⟨27, _⟩ => ⟨S552x1, .i32⟩
  | .hbm, ⟨28, _⟩ => ⟨S552x1x1024, .f32⟩
  | .hbm, ⟨29, _⟩ => ⟨S552x256x1024, .f32⟩
  | .hbm, ⟨30, _⟩ => ⟨S552x256x1024, .f32⟩
  | .hbm, ⟨31, _⟩ => ⟨S552x256x512, .f32⟩
  | .hbm, ⟨32, _⟩ => ⟨S552x256x512, .f32⟩
  | .hbm, ⟨33, _⟩ => ⟨S_, .f32⟩
  | .hbm, ⟨34, _⟩ => ⟨S552x256x512, .f32⟩
  | .hbm, ⟨35, _⟩ => ⟨S552x256x512, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S552x256x512, .f32⟩
  | .hbm, ⟨40, _⟩ => ⟨S552x256x512, .f32⟩
  | .hbm, ⟨41, _⟩ => ⟨S_, .f32⟩
  | .hbm, ⟨42, _⟩ => ⟨S552x256x512, .f32⟩
  | .hbm, ⟨43, _⟩ => ⟨S552x256x512, .f32⟩
  | .hbm, ⟨44, _⟩ => ⟨S_, .f32⟩
  | .hbm, ⟨45, _⟩ => ⟨S552x256x512, .f32⟩
  | .hbm, ⟨46, _⟩ => ⟨S552x256x512, .f32⟩
  | .hbm, ⟨47, _⟩ => ⟨S552x256x512, .f32⟩
  | .hbm, ⟨48, _⟩ => ⟨S552x256x512, .f32⟩
  | .hbm, ⟨49, _⟩ => ⟨S_, .f32⟩
  | .hbm, ⟨50, _⟩ => ⟨S552x256x512, .f32⟩
  | .hbm, ⟨51, _⟩ => ⟨S552x256x512, .f32⟩
  | .hbm, ⟨52, _⟩ => ⟨S_, .f32⟩
  | .hbm, ⟨53, _⟩ => ⟨S552x256x512, .f32⟩
  | .hbm, ⟨54, _⟩ => ⟨S552x256x512, .f32⟩
  | .hbm, ⟨55, _⟩ => ⟨S552x256x512, .f32⟩
  | .hbm, ⟨56, _⟩ => ⟨S_, .f32⟩
  | .hbm, ⟨57, _⟩ => ⟨S552x256x512, .f32⟩
  | .hbm, ⟨58, _⟩ => ⟨S552x256x512, .f32⟩
  | .hbm, ⟨59, _⟩ => ⟨S552x256x512, .f32⟩
  | .hbm, ⟨60, _⟩ => ⟨S32x512x2048, .f32⟩
  | .hbm, ⟨61, _⟩ => ⟨S_, .i32⟩
  | .hbm, ⟨62, _⟩ => ⟨S552, .i32⟩
  | .hbm, ⟨63, _⟩ => ⟨S552, .i1⟩
  | .hbm, ⟨64, _⟩ => ⟨S_, .i32⟩
  | .hbm, ⟨65, _⟩ => ⟨S552, .i32⟩
  | .hbm, ⟨66, _⟩ => ⟨S552, .i32⟩
  | .hbm, ⟨67, _⟩ => ⟨S552, .i32⟩
  | .hbm, ⟨68, _⟩ => ⟨S552x1, .i32⟩
  | .hbm, ⟨69, _⟩ => ⟨S552x512x2048, .f32⟩
  | .hbm, ⟨70, _⟩ => ⟨S552x256x2048, .f32⟩
  | .hbm, ⟨71, _⟩ => ⟨S_, .i32⟩
  | .hbm, ⟨72, _⟩ => ⟨S552, .i32⟩
  | .hbm, ⟨73, _⟩ => ⟨S552, .i1⟩
  | .hbm, ⟨74, _⟩ => ⟨S_, .i32⟩
  | .hbm, ⟨75, _⟩ => ⟨S552, .i32⟩
  | .hbm, ⟨76, _⟩ => ⟨S552, .i32⟩
  | .hbm, ⟨77, _⟩ => ⟨S552, .i32⟩
  | .hbm, ⟨78, _⟩ => ⟨S552x1, .i32⟩
  | .hbm, ⟨79, _⟩ => ⟨S552x1x2048, .f32⟩
  | .hbm, ⟨80, _⟩ => ⟨S552x256x2048, .f32⟩
  | .hbm, ⟨81, _⟩ => ⟨S552x256x2048, .f32⟩
  | .hbm, ⟨82, _⟩ => ⟨S141312x2048, .f32⟩
  | _, _ => ⟨S552, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== Kernel3.lean ====
abbrev S33280x2048 : Shape := ⟨2, ![33280, 2048]⟩
abbrev S2048x1864 : Shape := ⟨2, ![2048, 1864]⟩
abbrev S2048x1024 : Shape := ⟨2, ![2048, 1024]⟩
abbrev S2048x128 : Shape := ⟨2, ![2048, 128]⟩
abbrev S2048x512 : Shape := ⟨2, ![2048, 512]⟩
abbrev S2048x8x64 : Shape := ⟨3, ![2048, 8, 64]⟩
abbrev S_ : Shape := ⟨0, ![]⟩
abbrev S2048x8x128 : Shape := ⟨3, ![2048, 8, 128]⟩
abbrev S2048x64 : Shape := ⟨2, ![2048, 64]⟩
abbrev S2048x8 : Shape := ⟨2, ![2048, 8]⟩
abbrev S2048x2304 : Shape := ⟨2, ![2048, 2304]⟩
abbrev S128x2048 : Shape := ⟨2, ![128, 2048]⟩
abbrev S8x2048 : Shape := ⟨2, ![8, 2048]⟩
abbrev S16x2048 : Shape := ⟨2, ![16, 2048]⟩
abbrev S33280x1024 : Shape := ⟨2, ![33280, 1024]⟩
abbrev S33280x128 : Shape := ⟨2, ![33280, 128]⟩
abbrev S260x128x128 : Shape := ⟨3, ![260, 128, 128]⟩
abbrev S8x33280 : Shape := ⟨2, ![8, 33280]⟩
abbrev S640x2048 : Shape := ⟨2, ![640, 2048]⟩
abbrev S640x1024 : Shape := ⟨2, ![640, 1024]⟩
abbrev S640x128 : Shape := ⟨2, ![640, 128]⟩
abbrev S5x128x128 : Shape := ⟨3, ![5, 128, 128]⟩
abbrev S8x640 : Shape := ⟨2, ![8, 640]⟩
abbrev S640x2304 : Shape := ⟨2, ![640, 2304]⟩
abbrev S128x640 : Shape := ⟨2, ![128, 640]⟩
abbrev S128x128 : Shape := ⟨2, ![128, 128]⟩
abbrev S1x128x128 : Shape := ⟨3, ![1, 128, 128]⟩
abbrev S16x640 : Shape := ⟨2, ![16, 640]⟩

abbrev nBuf : Space → Nat
  | .hbm => 31
  | .vmem => 17
  | .smem => 0
  | _ => 0

abbrev bufTy : (tb : Table) → Fin (tcTables nBuf tb) → BufTy
  | .hbm, ⟨0, _⟩ => ⟨S33280x2048, .bf16⟩
  | .hbm, ⟨1, _⟩ => ⟨S2048x1864, .f32⟩
  | .hbm, ⟨2, _⟩ => ⟨S2048x1024, .f32⟩
  | .hbm, ⟨3, _⟩ => ⟨S2048x128, .f32⟩
  | .hbm, ⟨4, _⟩ => ⟨S2048x128, .f32⟩
  | .hbm, ⟨5, _⟩ => ⟨S2048x512, .f32⟩
  | .hbm, ⟨6, _⟩ => ⟨S2048x8x64, .f32⟩
  | .hbm, ⟨7, _⟩ => ⟨S_, .i32⟩
  | .hbm, ⟨8, _⟩ => ⟨S_, .f32⟩
  | .hbm, ⟨9, _⟩ => ⟨S2048x8x128, .f32⟩
  | .hbm, ⟨10, _⟩ => ⟨S2048x1024, .f32⟩
  | .hbm, ⟨11, _⟩ => ⟨S2048x64, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x8, .f32⟩
  | .hbm, ⟨16, _⟩ => ⟨S2048x2304, .f32⟩
  | .hbm, ⟨17, _⟩ => ⟨S2048x2304, .bf16⟩
  | .hbm, ⟨18, _⟩ => ⟨S128x2048, .f32⟩
  | .hbm, ⟨19, _⟩ => ⟨S128x2048, .bf16⟩
  | .hbm, ⟨20, _⟩ => ⟨S8x2048, .f32⟩
  | .hbm, ⟨21, _⟩ => ⟨S_, .i32⟩
  | .hbm, ⟨22, _⟩ => ⟨S_, .f32⟩
  | .hbm, ⟨23, _⟩ => ⟨S16x2048, .f32⟩
  | .hbm, ⟨24, _⟩ => ⟨S16x2048, .bf16⟩
  | .hbm, ⟨25, _⟩ => ⟨S33280x1024, .bf16⟩
  | .hbm, ⟨26, _⟩ => ⟨S33280x128, .bf16⟩
  | .hbm, ⟨27, _⟩ => ⟨S33280x1024, .bf16⟩
  | .hbm, ⟨28, _⟩ => ⟨S33280x128, .bf16⟩
  | .hbm, ⟨29, _⟩ => ⟨S260x128x128, .bf16⟩
  | .hbm, ⟨30, _⟩ => ⟨S8x33280, .f32⟩
  | .local _ .vmem, ⟨0, _⟩ => ⟨S640x2048, .bf16⟩
  | .local _ .vmem, ⟨1, _⟩ => ⟨S640x2048, .bf16⟩
  | .local _ .vmem, ⟨2, _⟩ => ⟨S2048x2304, .bf16⟩
  | .local _ .vmem, ⟨3, _⟩ => ⟨S128x2048, .bf16⟩
  | .local _ .vmem, ⟨4, _⟩ => ⟨S16x2048, .bf16⟩
  | .local _ .vmem, ⟨5, _⟩ => ⟨S640x1024, .bf16⟩
  | .local _ .vmem, ⟨6, _⟩ => ⟨S640x1024, .bf16⟩
  | .local _ .vmem, ⟨7, _⟩ => ⟨S640x128, .bf16⟩
  | .local _ .vmem, ⟨8, _⟩ => ⟨S640x128, .bf16⟩
  | .local _ .vmem, ⟨9, _⟩ => ⟨S640x1024, .bf16⟩
  | .local _ .vmem, ⟨10, _⟩ => ⟨S640x1024, .bf16⟩
  | .local _ .vmem, ⟨11, _⟩ => ⟨S640x128, .bf16⟩
  | .local _ .vmem, ⟨12, _⟩ => ⟨S640x128, .bf16⟩
  | .local _ .vmem, ⟨13, _⟩ => ⟨S5x128x128, .bf16⟩
  | .local _ .vmem, ⟨14, _⟩ => ⟨S5x128x128, .bf16⟩
  | .local _ .vmem, ⟨15, _⟩ => ⟨S8x640, .f32⟩
  | .local _ .vmem, ⟨16, _⟩ => ⟨S8x640, .f32⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_call2_v0 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev main_v17_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S33280x2048 : Shape := ⟨2, ![33280, 2048]⟩
abbrev S2048x1864 : Shape := ⟨2, ![2048, 1864]⟩
abbrev S33280x1864 : Shape := ⟨2, ![33280, 1864]⟩
abbrev S33280x1024 : Shape := ⟨2, ![33280, 1024]⟩
abbrev S33280x128 : Shape := ⟨2, ![33280, 128]⟩
abbrev S33280x512 : Shape := ⟨2, ![33280, 512]⟩
abbrev S33280x64 : Shape := ⟨2, ![33280, 64]⟩
abbrev S33280x8 : Shape := ⟨2, ![33280, 8]⟩
abbrev S_ : Shape := ⟨0, ![]⟩
abbrev S33280x8x64 : Shape := ⟨3, ![33280, 8, 64]⟩
abbrev S33280x8x128 : Shape := ⟨3, ![33280, 8, 128]⟩
abbrev S260x128x128 : Shape := ⟨3, ![260, 128, 128]⟩
abbrev S8x33280 : Shape := ⟨2, ![8, 33280]⟩

abbrev nBuf : Space → Nat
  | .hbm => 35
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S2048x1864, .f32⟩
  | .hbm, ⟨2, _⟩ => ⟨S33280x2048, .f32⟩
  | .hbm, ⟨3, _⟩ => ⟨S33280x1864, .f32⟩
  | .hbm, ⟨4, _⟩ => ⟨S33280x1024, .f32⟩
  | .hbm, ⟨5, _⟩ => ⟨S33280x128, .f32⟩
  | .hbm, ⟨6, _⟩ => ⟨S33280x128, .f32⟩
  | .hbm, ⟨7, _⟩ => ⟨S33280x512, .f32⟩
  | .hbm, ⟨8, _⟩ => ⟨S33280x64, .f32⟩
  | .hbm, ⟨9, _⟩ => ⟨S33280x8, .f32⟩
  | .hbm, ⟨10, _⟩ => ⟨S_, .f32⟩
  | .hbm, ⟨11, _⟩ => ⟨S33280x1024, .f32⟩
  | .hbm, ⟨12, _⟩ => ⟨S33280x1024, .f32⟩
  | .hbm, ⟨13, _⟩ => ⟨S33280x1024, .bf16⟩
  | .hbm, ⟨14, _⟩ => ⟨S_, .f32⟩
  | .hbm, ⟨15, _⟩ => ⟨S33280x512, .f32⟩
  | .hbm, ⟨16, _⟩ => ⟨S33280x512, .f32⟩
  | .hbm, ⟨17, _⟩ => ⟨S33280x8x64, .f32⟩
  | .hbm, ⟨18, _⟩ => ⟨S_, .i32⟩
  | .hbm, ⟨19, _⟩ => ⟨S_, .f32⟩
  | .hbm, ⟨20, _⟩ => ⟨S33280x8x128, .f32⟩
  | .hbm, ⟨21, _⟩ => ⟨S_, .i32⟩
  | .hbm, ⟨22, _⟩ => ⟨S_, .f32⟩
  | .hbm, ⟨23, _⟩ => ⟨S33280x128, .f32⟩
  | .hbm, ⟨24, _⟩ => ⟨S260x128x128, .f32⟩
  | .hbm, ⟨25, _⟩ => ⟨S260x128x128, .f32⟩
  | .hbm, ⟨26, _⟩ => ⟨S33280x128, .bf16⟩
  | .hbm, ⟨27, _⟩ => ⟨S33280x1024, .f32⟩
  | .hbm, ⟨28, _⟩ => ⟨S33280x1024, .bf16⟩
  | .hbm, ⟨29, _⟩ => ⟨S33280x128, .bf16⟩
  | .hbm, ⟨30, _⟩ => ⟨S260x128x128, .bf16⟩
  | .hbm, ⟨31, _⟩ => ⟨S8x33280, .f32⟩
  | .hbm, ⟨32, _⟩ => ⟨S_, .f32⟩
  | .hbm, ⟨33, _⟩ => ⟨S8x33280, .f32⟩
  | .hbm, ⟨34, _⟩ => ⟨S8x33280, .f32⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_v14 : Ref sig .tc := ⟨.hbm, 20, rfl⟩
abbrev main_c_1 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel4.lean ====
abbrev S33280x2048 : Shape := ⟨2, ![33280, 2048]⟩
abbrev S2048x2368 : Shape := ⟨2, ![2048, 2368]⟩
abbrev S512 : Shape := ⟨1, ![512]⟩
abbrev S256 : Shape := ⟨1, ![256]⟩
abbrev S512x768 : Shape := ⟨2, ![512, 768]⟩
abbrev S256x1024 : Shape := ⟨2, ![256, 1024]⟩
abbrev S2048x64 : Shape := ⟨2, ![2048, 64]⟩
abbrev S2048x768 : Shape := ⟨2, ![2048, 768]⟩
abbrev S2048x1536 : Shape := ⟨2, ![2048, 1536]⟩
abbrev S2048x32 : Shape := ⟨2, ![2048, 32]⟩
abbrev S2048x2432 : Shape := ⟨2, ![2048, 2432]⟩
abbrev S512x4x192 : Shape := ⟨3, ![512, 4, 192]⟩
abbrev S512x4x64 : Shape := ⟨3, ![512, 4, 64]⟩
abbrev S512x4x128 : Shape := ⟨3, ![512, 4, 128]⟩
abbrev S512x4x32 : Shape := ⟨3, ![512, 4, 32]⟩
abbrev S512x4x256 : Shape := ⟨3, ![512, 4, 256]⟩
abbrev S512x1024 : Shape := ⟨2, ![512, 1024]⟩
abbrev S256x4x256 : Shape := ⟨3, ![256, 4, 256]⟩
abbrev S256x4x128 : Shape := ⟨3, ![256, 4, 128]⟩
abbrev S256x512 : Shape := ⟨2, ![256, 512]⟩
abbrev S1x512 : Shape := ⟨2, ![1, 512]⟩
abbrev S1x256 : Shape := ⟨2, ![1, 256]⟩
abbrev S32 : Shape := ⟨1, ![32]⟩
abbrev S_ : Shape := ⟨0, ![]⟩
abbrev S8320 : Shape := ⟨1, ![8320]⟩
abbrev S8320x1 : Shape := ⟨2, ![8320, 1]⟩
abbrev S1x32 : Shape := ⟨2, ![1, 32]⟩
abbrev S8320x32 : Shape := ⟨2, ![8320, 32]⟩
abbrev S8320x128 : Shape := ⟨2, ![8320, 128]⟩
abbrev S33280x1024 : Shape := ⟨2, ![33280, 1024]⟩
abbrev S33280x512 : Shape := ⟨2, ![33280, 512]⟩
abbrev S640x2048 : Shape := ⟨2, ![640, 2048]⟩
abbrev S640x128 : Shape := ⟨2, ![640, 128]⟩
abbrev S640x1024 : Shape := ⟨2, ![640, 1024]⟩
abbrev S640x512 : Shape := ⟨2, ![640, 512]⟩
abbrev S640x2432 : Shape := ⟨2, ![640, 2432]⟩
abbrev S640 : Shape := ⟨1, ![640]⟩
abbrev S640x1 : Shape := ⟨2, ![640, 1]⟩
abbrev S640x256 : Shape := ⟨2, ![640, 256]⟩

abbrev nBuf : Space → Nat
  | .hbm => 58
  | .vmem => 21
  | .smem => 0
  | _ => 0

abbrev bufTy : (tb : Table) → Fin (tcTables nBuf tb) → BufTy
  | .hbm, ⟨0, _⟩ => ⟨S33280x2048, .bf16⟩
  | .hbm, ⟨1, _⟩ => ⟨S2048x2368, .f32⟩
  | .hbm, ⟨2, _⟩ => ⟨S512, .f32⟩
  | .hbm, ⟨3, _⟩ => ⟨S256, .f32⟩
  | .hbm, ⟨4, _⟩ => ⟨S512x768, .f32⟩
  | .hbm, ⟨5, _⟩ => ⟨S256x1024, .f32⟩
  | .hbm, ⟨6, _⟩ => ⟨S2048x64, .f32⟩
  | .hbm, ⟨7, _⟩ => ⟨S2048x768, .f32⟩
  | .hbm, ⟨8, _⟩ => ⟨S2048x1536, .f32⟩
  | .hbm, ⟨9, _⟩ => ⟨S2048x32, .f32⟩
  | .hbm, ⟨10, _⟩ => ⟨S2048x32, .f32⟩
  | .hbm, ⟨11, _⟩ => ⟨S2048x32, .f32⟩
  | .hbm, ⟨12, _⟩ => ⟨S2048x64, .f32⟩
  | .hbm, ⟨13, _⟩ => ⟨S2048x2432, .f32⟩
  | .hbm, ⟨14, _⟩ => ⟨S2048x2432, .bf16⟩
  | .hbm, ⟨15, _⟩ => ⟨S512x4x192, .f32⟩
  | .hbm, ⟨16, _⟩ => ⟨S512x4x64, .f32⟩
  | .hbm, ⟨17, _⟩ => ⟨S512x4x128, .f32⟩
  | .hbm, ⟨18, _⟩ => ⟨S512x4x32, .f32⟩
  | .hbm, ⟨19, _⟩ => ⟨S512x4x32, .f32⟩
  | .hbm, ⟨20, _⟩ => ⟨S512x4x32, .f32⟩
  | .hbm, ⟨21, _⟩ => ⟨S512x4x64, .f32⟩
  | .hbm, ⟨22, _⟩ => ⟨S512x4x256, .f32⟩
  | .hbm, ⟨23, _⟩ => ⟨S512x1024, .f32⟩
  | .hbm, ⟨24, _⟩ => ⟨S256x4x256, .f32⟩
  | .hbm, ⟨25, _⟩ => ⟨S256x4x128, .f32⟩
  | .hbm, ⟨26, _⟩ => ⟨S256x512, .f32⟩
  | .hbm, ⟨27, _⟩ => ⟨S256x4x128, .f32⟩
  | .hbm, ⟨28, _⟩ => ⟨S256x512, .f32⟩
  | .hbm, ⟨29, _⟩ => ⟨S256x1024, .f32⟩
  | .hbm, ⟨30, _⟩ => ⟨S512x1024, .bf16⟩
  | .hbm, ⟨31, _⟩ => ⟨S256x1024, .bf16⟩
  | .hbm, ⟨32, _⟩ => ⟨S1x512, .f32⟩
  | .hbm, ⟨33, _⟩ => ⟨S1x256, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S8320, .i32⟩
  | .hbm, ⟨43, _⟩ => ⟨S8320, .f32⟩
  | .hbm, ⟨44, _⟩ => ⟨S8320x1, .f32⟩
  | .hbm, ⟨45, _⟩ => ⟨S1x32, .f32⟩
  | .hbm, ⟨46, _⟩ => ⟨S8320x32, .f32⟩
  | .hbm, ⟨47, _⟩ => ⟨S8320x32, .f32⟩
  | .hbm, ⟨48, _⟩ => ⟨S8320x32, .f32⟩
  | .hbm, ⟨49, _⟩ => ⟨S8320x32, .f32⟩
  | .hbm, ⟨50, _⟩ => ⟨S8320x32, .f32⟩
  | .hbm, ⟨51, _⟩ => ⟨S8320x128, .f32⟩
  | .hbm, ⟨52, _⟩ => ⟨S33280x1024, .bf16⟩
  | .hbm, ⟨53, _⟩ => ⟨S33280x1024, .bf16⟩
  | .hbm, ⟨54, _⟩ => ⟨S33280x512, .bf16⟩
  | .hbm, ⟨55, _⟩ => ⟨S33280x512, .bf16⟩
  | .hbm, ⟨56, _⟩ => ⟨S33280x512, .bf16⟩
  | .hbm, ⟨57, _⟩ => ⟨S33280x512, .bf16⟩
  | .local _ .vmem, ⟨0, _⟩ => ⟨S640x2048, .bf16⟩
  | .local _ .vmem, ⟨1, _⟩ => ⟨S640x2048, .bf16⟩
  | .local _ .vmem, ⟨2, _⟩ => ⟨S2048x2432, .bf16⟩
  | .local _ .vmem, ⟨3, _⟩ => ⟨S1x512, .f32⟩
  | .local _ .vmem, ⟨4, _⟩ => ⟨S1x256, .f32⟩
  | .local _ .vmem, ⟨5, _⟩ => ⟨S512x1024, .bf16⟩
  | .local _ .vmem, ⟨6, _⟩ => ⟨S256x1024, .bf16⟩
  | .local _ .vmem, ⟨7, _⟩ => ⟨S640x128, .f32⟩
  | .local _ .vmem, ⟨8, _⟩ => ⟨S640x128, .f32⟩
  | .local _ .vmem, ⟨9, _⟩ => ⟨S640x1024, .bf16⟩
  | .local _ .vmem, ⟨10, _⟩ => ⟨S640x1024, .bf16⟩
  | .local _ .vmem, ⟨11, _⟩ => ⟨S640x1024, .bf16⟩
  | .local _ .vmem, ⟨12, _⟩ => ⟨S640x1024, .bf16⟩
  | .local _ .vmem, ⟨13, _⟩ => ⟨S640x512, .bf16⟩
  | .local _ .vmem, ⟨14, _⟩ => ⟨S640x512, .bf16⟩
  | .local _ .vmem, ⟨15, _⟩ => ⟨S640x512, .bf16⟩
  | .local _ .vmem, ⟨16, _⟩ => ⟨S640x512, .bf16⟩
  | .local _ .vmem, ⟨17, _⟩ => ⟨S640x512, .bf16⟩
  | .local _ .vmem, ⟨18, _⟩ => ⟨S640x512, .bf16⟩
  | .local _ .vmem, ⟨19, _⟩ => ⟨S640x512, .bf16⟩
  | .local _ .vmem, ⟨20, _⟩ => ⟨S640x512, .bf16⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_cst_0 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44_0 : Ref sig .tc := ⟨.hbm, 52, rfl⟩
abbrev main_v44_1 : Ref sig .tc := ⟨.hbm, 53, rfl⟩
abbrev main_v44_2 : Ref sig .tc := ⟨.hbm, 54, rfl⟩
abbrev main_v44_3 : Ref sig .tc := ⟨.hbm, 55, rfl⟩
abbrev main_v44_4 : Ref sig .tc := ⟨.hbm, 56, rfl⟩
abbrev main_v44_5 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S640x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S640x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S33280x2048 : Shape := ⟨2, ![33280, 2048]⟩
abbrev S2048x2368 : Shape := ⟨2, ![2048, 2368]⟩
abbrev S512 : Shape := ⟨1, ![512]⟩
abbrev S256 : Shape := ⟨1, ![256]⟩
abbrev S512x768 : Shape := ⟨2, ![512, 768]⟩
abbrev S256x1024 : Shape := ⟨2, ![256, 1024]⟩
abbrev S33280x2368 : Shape := ⟨2, ![33280, 2368]⟩
abbrev S33280x512 : Shape := ⟨2, ![33280, 512]⟩
abbrev S33280x256 : Shape := ⟨2, ![33280, 256]⟩
abbrev S33280x64 : Shape := ⟨2, ![33280, 64]⟩
abbrev S_ : Shape := ⟨0, ![]⟩
abbrev S33280 : Shape := ⟨1, ![33280]⟩
abbrev S33280x1 : Shape := ⟨2, ![33280, 1]⟩
abbrev S1x512 : Shape := ⟨2, ![1, 512]⟩
abbrev S33280x768 : Shape := ⟨2, ![33280, 768]⟩
abbrev S4x8320x4x192 : Shape := ⟨4, ![4, 8320, 4, 192]⟩
abbrev S1x256 : Shape := ⟨2, ![1, 256]⟩
abbrev S33280x1024 : Shape := ⟨2, ![33280, 1024]⟩
abbrev S4x8320x4x256 : Shape := ⟨4, ![4, 8320, 4, 256]⟩
abbrev S4x8320x1x64 : Shape := ⟨4, ![4, 8320, 1, 64]⟩
abbrev S32 : Shape := ⟨1, ![32]⟩
abbrev S8320 : Shape := ⟨1, ![8320]⟩
abbrev S8320x1 : Shape := ⟨2, ![8320, 1]⟩
abbrev S1x32 : Shape := ⟨2, ![1, 32]⟩
abbrev S8320x32 : Shape := ⟨2, ![8320, 32]⟩
abbrev S1x8320x1x32 : Shape := ⟨4, ![1, 8320, 1, 32]⟩
abbrev S4x8320x1x32 : Shape := ⟨4, ![4, 8320, 1, 32]⟩
abbrev S4x8320x4x64 : Shape := ⟨4, ![4, 8320, 4, 64]⟩
abbrev S4x8320x4x128 : Shape := ⟨4, ![4, 8320, 4, 128]⟩
abbrev S4x8320x4x32 : Shape := ⟨4, ![4, 8320, 4, 32]⟩

abbrev nBuf : Space → Nat
  | .hbm => 140
  | .vmem => 0
  | .smem => 0
  | _ => 0

abbrev hbmTy0_0 (i : Nat) : BufTy := match i % 128 with
  | 0 => ⟨S33280x2048, .bf16⟩
  | 1 => ⟨S2048x2368, .f32⟩
  | 2 => ⟨S512, .f32⟩
  | 3 => ⟨S256, .f32⟩
  | 4 => ⟨S512x768, .f32⟩
  | 5 => ⟨S256x1024, .f32⟩
  | 6 => ⟨S33280x2048, .f32⟩
  | 7 => ⟨S33280x2368, .f32⟩
  | 8 => ⟨S33280x512, .f32⟩
  | 9 => ⟨S33280x256, .f32⟩
  | 10 => ⟨S33280x64, .f32⟩
  | 11 => ⟨S33280x512, .f32⟩
  | 12 => ⟨S33280x512, .f32⟩
  | 13 => ⟨S33280x512, .f32⟩
  | 14 => ⟨S33280x512, .f32⟩
  | 15 => ⟨S_, .f32⟩
  | 16 => ⟨S33280, .f32⟩
  | 17 => ⟨S33280x1, .f32⟩
  | 18 => ⟨S_, .f32⟩
  | 19 => ⟨S33280x1, .f32⟩
  | 20 => ⟨S33280x1, .f32⟩
  | 21 => ⟨S_, .f32⟩
  | 22 => ⟨S33280x1, .f32⟩
  | 23 => ⟨S33280x1, .f32⟩
  | 24 => ⟨S33280x1, .f32⟩
  | 25 => ⟨S33280x512, .f32⟩
  | 26 => ⟨S33280x512, .f32⟩
  | 27 => ⟨S1x512, .f32⟩
  | 28 => ⟨S33280x512, .f32⟩
  | 29 => ⟨S33280x512, .f32⟩
  | 30 => ⟨S33280x768, .f32⟩
  | 31 => ⟨S4x8320x4x192, .f32⟩
  | 32 => ⟨S33280x256, .f32⟩
  | 33 => ⟨S_, .f32⟩
  | 34 => ⟨S33280, .f32⟩
  | 35 => ⟨S33280x1, .f32⟩
  | 36 => ⟨S_, .f32⟩
  | 37 => ⟨S33280x1, .f32⟩
  | 38 => ⟨S33280x1, .f32⟩
  | 39 => ⟨S_, .f32⟩
  | 40 => ⟨S33280x1, .f32⟩
  | 41 => ⟨S33280x1, .f32⟩
  | 42 => ⟨S33280x1, .f32⟩
  | 43 => ⟨S33280x256, .f32⟩
  | 44 => ⟨S33280x256, .f32⟩
  | 45 => ⟨S1x256, .f32⟩
  | 46 => ⟨S33280x256, .f32⟩
  | 47 => ⟨S33280x256, .f32⟩
  | 48 => ⟨S33280x1024, .f32⟩
  | 49 => ⟨S4x8320x4x256, .f32⟩
  | 50 => ⟨S4x8320x1x64, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S8320, .i32⟩
  | 60 => ⟨S8320, .f32⟩
  | 61 => ⟨S8320x1, .f32⟩
  | 62 => ⟨S1x32, .f32⟩
  | 63 => ⟨S8320x32, .f32⟩
  | 64 => ⟨S8320x32, .f32⟩
  | 65 => ⟨S8320x32, .f32⟩
  | 66 => ⟨S8320x32, .f32⟩
  | 67 => ⟨S1x8320x1x32, .f32⟩
  | 68 => ⟨S8320x32, .f32⟩
  | 69 => ⟨S1x8320x1x32, .f32⟩
  | 70 => ⟨S4x8320x1x32, .f32⟩
  | 71 => ⟨S4x8320x1x32, .f32⟩
  | 72 => ⟨S4x8320x1x32, .f32⟩
  | 73 => ⟨S4x8320x1x32, .f32⟩
  | 74 => ⟨S4x8320x1x32, .f32⟩
  | 75 => ⟨S4x8320x1x32, .f32⟩
  | 76 => ⟨S4x8320x1x32, .f32⟩
  | 77 => ⟨S4x8320x1x32, .f32⟩
  | 78 => ⟨S4x8320x1x32, .f32⟩
  | 79 => ⟨S4x8320x1x32, .f32⟩
  | 80 => ⟨S4x8320x1x32, .f32⟩
  | 81 => ⟨S4x8320x1x32, .f32⟩
  | 82 => ⟨S4x8320x1x64, .f32⟩
  | 83 => ⟨S4x8320x4x64, .f32⟩
  | 84 => ⟨S4x8320x4x128, .f32⟩
  | 85 => ⟨S4x8320x4x64, .f32⟩
  | 86 => ⟨S32, .f32⟩
  | 87 => ⟨S32, .f32⟩
  | 88 => ⟨S_, .f32⟩
  | 89 => ⟨S32, .f32⟩
  | 90 => ⟨S32, .f32⟩
  | 91 => ⟨S_, .f32⟩
  | 92 => ⟨S32, .f32⟩
  | 93 => ⟨S32, .f32⟩
  | 94 => ⟨S8320, .i32⟩
  | 95 => ⟨S8320, .f32⟩
  | 96 => ⟨S8320x1, .f32⟩
  | 97 => ⟨S1x32, .f32⟩
  | 98 => ⟨S8320x32, .f32⟩
  | 99 => ⟨S8320x32, .f32⟩
  | 100 => ⟨S8320x32, .f32⟩
  | 101 => ⟨S8320x32, .f32⟩
  | 102 => ⟨S1x8320x1x32, .f32⟩
  | 103 => ⟨S8320x32, .f32⟩
  | 104 => ⟨S1x8320x1x32, .f32⟩
  | 105 => ⟨S4x8320x4x32, .f32⟩
  | 106 => ⟨S4x8320x4x32, .f32⟩
  | 107 => ⟨S4x8320x4x32, .f32⟩
  | 108 => ⟨S4x8320x4x32, .f32⟩
  | 109 => ⟨S4x8320x4x32, .f32⟩
  | 110 => ⟨S4x8320x4x32, .f32⟩
  | 111 => ⟨S4x8320x4x32, .f32⟩
  | 112 => ⟨S4x8320x4x32, .f32⟩
  | 113 => ⟨S4x8320x4x32, .f32⟩
  | 114 => ⟨S4x8320x4x32, .f32⟩
  | 115 => ⟨S4x8320x4x32, .f32⟩
  | 116 => ⟨S4x8320x4x32, .f32⟩
  | 117 => ⟨S4x8320x4x64, .f32⟩
  | 118 => ⟨S4x8320x4x192, .f32⟩
  | 119 => ⟨S_, .f32⟩
  | 120 => ⟨S4x8320x4x192, .f32⟩
  | 121 => ⟨S4x8320x4x192, .f32⟩
  | 122 => ⟨S_, .i32⟩
  | 123 => ⟨S_, .f32⟩
  | 124 => ⟨S4x8320x4x256, .f32⟩
  | 125 => ⟨S4x8320x4x128, .f32⟩
  | 126 => ⟨S4x8320x4x256, .f32⟩
  | 127 => ⟨S33280x1024, .f32⟩
  | _ => ⟨S33280x2048, .bf16⟩

abbrev hbmTy0_1 (i : Nat) : BufTy := match i % 128 with
  | 0 => ⟨S33280x1024, .f32⟩
  | 1 => ⟨S4x8320x4x128, .f32⟩
  | 2 => ⟨S33280x512, .f32⟩
  | 3 => ⟨S_, .f32⟩
  | 4 => ⟨S33280x512, .f32⟩
  | 5 => ⟨S33280x512, .f32⟩
  | 6 => ⟨S33280x1024, .bf16⟩
  | 7 => ⟨S33280x1024, .bf16⟩
  | 8 => ⟨S33280x512, .bf16⟩
  | 9 => ⟨S33280x512, .bf16⟩
  | 10 => ⟨S33280x512, .bf16⟩
  | 11 => ⟨S33280x512, .bf16⟩
  | _ => ⟨S33280x2048, .bf16⟩

abbrev hbmTy (i : Nat) : BufTy := match i / 128 with
  | 0 => hbmTy0_0 i
  | 1 => hbmTy0_1 i
  | _ => ⟨S33280x2048, .bf16⟩

abbrev bufTy : (tb : Table) → Fin (tcTables nBuf tb) → BufTy
  | .hbm, ⟨i, _⟩ => hbmTy i
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_7 : Ref sig .tc := ⟨.hbm, 88, rfl⟩
abbrev main_v74 : Ref sig .tc := ⟨.hbm, 89, rfl⟩
abbrev main_v75 : Ref sig .tc := ⟨.hbm, 90, rfl⟩
abbrev main_cst_8 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_cst_9 : Ref sig .tc := ⟨.hbm, 119, rfl⟩
abbrev main_v103 : Ref sig .tc := ⟨.hbm, 120, rfl⟩
abbrev main_v104 : Ref sig .tc := ⟨.hbm, 121, rfl⟩
abbrev main_c : Ref sig .tc := ⟨.hbm, 122, rfl⟩
abbrev main_call0_v0 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_10 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩

abbrev nD : Nat := 1
abbrev τ : Topo := Topo.v7x

variable {F : FTy → Type} [FloatOps F]
-- ==== Proof.Online.lean ====
/-
  The mathematics of a softmax taken block by block, on the extended reals. `s k` is a row's score against key
  `k`, which may be `-∞` (a masked key) but not `+∞`; `w k` is one coordinate of the key's value, which may be
  anything. The row keeps the maximum of the scores met so far, the sum of their exponentials less that maximum,
  and the same sum weighted by the values; meeting a further block multiplies both sums by one factor.
-/
module

public import Idealize.ShloMosaic.PureOps.Ideal
public import Idealize.ShloMosaic.PureOps.Ideal.Laws

@[expose] public section

noncomputable section

namespace Cert.Online

open Idealize.ShloMosaic Finset

/-- The largest of the first `n` scores (`-∞` of none). -/
def top (s : ℕ → EReal) (n : ℕ) : EReal := (range n).sup s

/-- The sum of the first `n` weights, each the exponential of a score less the largest. -/
def mass (s : ℕ → EReal) (n : ℕ) : EReal := ∑ k ∈ range n, Ideal.exp (s k - top s n)

/-- The weighted sum of the first `n` values. -/
def mix (s w : ℕ → EReal) (n : ℕ) : EReal := ∑ k ∈ range n, Ideal.exp (s k - top s n) * w k

theorem top_zero (s : ℕ → EReal) : top s 0 = ⊥ := rfl
theorem mass_zero (s : ℕ → EReal) : mass s 0 = 0 := rfl
theorem mix_zero (s w : ℕ → EReal) : mix s w 0 = 0 := rfl

/-- The largest of the first `n + t` scores is the larger of the largest of the first `n` and the largest of the next `t`. -/
theorem top_step (s : ℕ → EReal) (n t : ℕ) : top s (n + t) = max (top s n) ((range t).sup fun j => s (n + j)) := by
  unfold top
  apply le_antisymm
  · refine Finset.sup_le fun k hk => ?_
    rcases lt_or_ge k n with h | h
    · exact le_max_of_le_left (Finset.le_sup (f := s) (mem_range.2 h))
    · refine le_max_of_le_right ?_
      have hk' := mem_range.1 hk
      have := Finset.le_sup (f := fun j => s (n + j)) (mem_range.2 (show k - n < t by omega))
      simpa [Nat.add_sub_cancel' h] using this
  · refine max_le (Finset.sup_le fun k hk => ?_) (Finset.sup_le fun j hj => ?_)
    · exact Finset.le_sup (f := s) (mem_range.2 (by have := mem_range.1 hk; omega))
    · exact Finset.le_sup (f := s) (mem_range.2 (by have := mem_range.1 hj; omega))

/-- The largest of finitely many scores none of which is `+∞` is not `+∞`. -/
theorem top_ne_top {s : ℕ → EReal} (hs : ∀ k, s k ≠ ⊤) (n : ℕ) : top s n ≠ ⊤ := by
  refine ne_of_lt ((Finset.sup_lt_iff bot_lt_top).2 fun k _ => lt_top_iff_ne_top.2 (hs k))

theorem le_top {s : ℕ → EReal} {n k : ℕ} (h : k < n) : s k ≤ top s n := Finset.le_sup (f := s) (mem_range.2 h)

theorem top_mono (s : ℕ → EReal) {n m : ℕ} (h : n ≤ m) : top s n ≤ top s m :=
  Finset.sup_mono (range_mono h)

/-- The factor between two maxima, times a weight under the first, is the weight under the second. -/
theorem scale_weight {a b x : EReal} (hxa : x ≤ a) (hab : a ≤ b) (hb : b ≠ ⊤) :
    Ideal.exp (a - b) * Ideal.exp (x - a) = Ideal.exp (x - b) := by
  induction x with
  | bot => simp [EReal.bot_sub]
  | top => exact absurd (top_le_iff.1 (hxa.trans hab)) hb
  | coe x =>
    induction b with
    | bot => exact absurd (le_bot_iff.1 (hxa.trans hab)) (EReal.coe_ne_bot x)
    | top => exact absurd rfl hb
    | coe b =>
      induction a with
      | bot => exact absurd (le_bot_iff.1 hxa) (EReal.coe_ne_bot x)
      | top => exact absurd (top_le_iff.1 hab) (EReal.coe_ne_top b)
      | coe a =>
        rw [← EReal.coe_sub, ← EReal.coe_sub, ← EReal.coe_sub, Ideal.exp_coe, Ideal.exp_coe, Ideal.exp_coe, ← EReal.coe_mul,
          ← Real.exp_add]
        congr 2; ring

/-- The factor between two maxima is a real number that is not negative. -/
theorem scale_real {a b : EReal} (hab : a ≤ b) (hb : b ≠ ⊤) : ∃ r : ℝ, 0 ≤ r ∧ Ideal.exp (a - b) = (r : EReal) := by
  induction a with
  | bot => exact ⟨0, le_rfl, by simp [EReal.bot_sub]⟩
  | top => exact absurd (top_le_iff.1 hab) hb
  | coe a =>
    induction b with
    | bot => exact absurd (le_bot_iff.1 hab) (EReal.coe_ne_bot a)
    | top => exact absurd rfl hb
    | coe b => exact ⟨Real.exp (a - b), (Real.exp_pos _).le, by rw [← EReal.coe_sub, Ideal.exp_coe]⟩

/-- A real number that is not negative, times a sum, is the sum of the products, whatever the terms are. -/
theorem real_mul_sum {ι : Type*} (r : ℝ) (hr : 0 ≤ r) (t : Finset ι) (f : ι → EReal) :
    (r : EReal) * ∑ k ∈ t, f k = ∑ k ∈ t, (r : EReal) * f k := by
  classical
  induction t using Finset.induction_on with
  | empty => simp
  | insert a t ha ih =>
    rw [Finset.sum_insert ha, Finset.sum_insert ha,
      EReal.left_distrib_of_nonneg_of_ne_top (by exact_mod_cast hr) (EReal.coe_ne_top r), ih]

/-- The sum of weights after a further block of `t` keys: the old sum times the factor, plus the block's own. -/
theorem mass_step {s : ℕ → EReal} (hs : ∀ k, s k ≠ ⊤) (n t : ℕ) :
    mass s (n + t) = Ideal.exp (top s n - top s (n + t)) * mass s n
      + ∑ j ∈ range t, Ideal.exp (s (n + j) - top s (n + t)) := by
  obtain ⟨r, hr, hα⟩ := scale_real (top_mono s (Nat.le_add_right n t)) (top_ne_top hs (n + t))
  unfold mass
  rw [sum_range_add, hα, real_mul_sum r hr]
  congr 1
  refine Finset.sum_congr rfl fun k hk => ?_
  rw [← hα, scale_weight (le_top (mem_range.1 hk)) (top_mono s (Nat.le_add_right n t)) (top_ne_top hs _)]

/-- The weighted sum after a further block of `t` keys: the old sum times the factor, plus the block's own. -/
theorem mix_step {s : ℕ → EReal} (hs : ∀ k, s k ≠ ⊤) (w : ℕ → EReal) (n t : ℕ) :
    mix s w (n + t) = Ideal.exp (top s n - top s (n + t)) * mix s w n
      + ∑ j ∈ range t, Ideal.exp (s (n + j) - top s (n + t)) * w (n + j) := by
  obtain ⟨r, hr, hα⟩ := scale_real (top_mono s (Nat.le_add_right n t)) (top_ne_top hs (n + t))
  unfold mix
  rw [sum_range_add, hα, real_mul_sum r hr]
  congr 1
  refine Finset.sum_congr rfl fun k hk => ?_
  rw [← hα, ← mul_assoc, scale_weight (le_top (mem_range.1 hk)) (top_mono s (Nat.le_add_right n t)) (top_ne_top hs _)]

/-- Masked keys after the `n`-th change the maximum by nothing. -/
theorem top_masked {s : ℕ → EReal} {n N : ℕ} (hnN : n ≤ N) (hm : ∀ k, n ≤ k → k < N → s k = ⊥) : top s N = top s n := by
  refine le_antisymm (Finset.sup_le fun k hk => ?_) (top_mono s hnN)
  rcases lt_or_ge k n with h | h
  · exact le_top h
  · rw [hm k h (mem_range.1 hk)]; exact bot_le

/-- Masked keys after the `n`-th add nothing to a sum of weighted terms. -/
theorem sum_masked {s : ℕ → EReal} {n N : ℕ} (hnN : n ≤ N) (hm : ∀ k, n ≤ k → k < N → s k = ⊥) (x : EReal) (w : ℕ → EReal) :
    ∑ k ∈ range N, Ideal.exp (s k - x) * w k = ∑ k ∈ range n, Ideal.exp (s k - x) * w k := by
  refine (Finset.sum_subset (range_mono hnN) fun k hk hk' => ?_).symm
  rw [hm k (by simpa using hk') (mem_range.1 hk), EReal.bot_sub, Ideal.exp_bot, zero_mul]

theorem mass_masked {s : ℕ → EReal} {n N : ℕ} (hnN : n ≤ N) (hm : ∀ k, n ≤ k → k < N → s k = ⊥) : mass s N = mass s n := by
  have h := sum_masked hnN hm (top s n) (fun _ => 1)
  simp only [mul_one] at h
  unfold mass; rw [top_masked hnN hm, h]

/-- With one key that isn't masked the sum of weights is a positive real. -/
theorem mass_real {s : ℕ → EReal} (hs : ∀ k, s k ≠ ⊤) {n k : ℕ} (hk : k < n) (hb : s k ≠ ⊥) :
    ∃ L : ℝ, 0 < L ∧ mass s n = (L : EReal) := by
  have key : ∀ t : Finset ℕ, (∀ j ∈ t, s j ≤ top s n) →
      ∃ L : ℝ, 0 ≤ L ∧ (k ∈ t → 0 < L) ∧ ∑ j ∈ t, Ideal.exp (s j - top s n) = (L : EReal) := by
    intro t
    classical
    induction t using Finset.induction_on with
    | empty => exact fun _ => ⟨0, le_rfl, by simp, by simp⟩
    | insert a t ha ih =>
      intro h
      obtain ⟨L, hL, hk', e⟩ := ih fun j hj => h j (mem_insert_of_mem hj)
      obtain ⟨r, hr, hα⟩ := scale_real (h a (mem_insert_self a t)) (top_ne_top hs n)
      refine ⟨r + L, add_nonneg hr hL, fun hm => ?_, by rw [sum_insert ha, e, hα, EReal.coe_add]⟩
      rcases mem_insert.1 hm with rfl | hm
      · refine add_pos_of_pos_of_nonneg (lt_of_le_of_ne hr fun h0 => ?_) hL
        have hle := h k (mem_insert_self k t)
        have hne := top_ne_top hs n
        revert hα hle hne
        generalize top s n = b
        intro hα hle hne
        generalize hx : s k = x at *
        induction x with
        | bot => exact hb rfl
        | top => exact hs k hx
        | coe x =>
          induction b with
          | bot => exact absurd (le_bot_iff.1 hle) (EReal.coe_ne_bot x)
          | top => exact hne rfl
          | coe b =>
            rw [← EReal.coe_sub, Ideal.exp_coe, EReal.coe_eq_coe_iff, ← h0] at hα
            exact (Real.exp_pos _).ne' hα
      · exact add_pos_of_nonneg_of_pos hr (hk' hm)
  obtain ⟨L, _, hp, e⟩ := key (range n) fun j hj => le_top (mem_range.1 hj)
  exact ⟨L, hp (mem_range.2 hk), e⟩

/-- The weighted sum over the first `n` keys divided by the sum of weights is, when every later key is masked and one is
    not, the sum over all `N` keys of the softmax's weights times the values. -/
theorem div_eq {s : ℕ → EReal} (hs : ∀ k, s k ≠ ⊤) (w : ℕ → EReal) {n N k : ℕ} (hnN : n ≤ N)
    (hm : ∀ k, n ≤ k → k < N → s k = ⊥) (hk : k < n) (hb : s k ≠ ⊥) :
    Ideal.div (mix s w n) (mass s n) = ∑ k ∈ range N, Ideal.div (Ideal.exp (s k - top s N)) (mass s N) * w k := by
  obtain ⟨L, hL, e⟩ := mass_real hs hk hb
  rw [mass_masked hnN hm, top_masked hnN hm, e, Ideal.div_coe hL.ne']
  have h := sum_masked hnN hm (top s n) w
  unfold mix
  rw [← h, mul_comm, real_mul_sum _ (one_div_pos.2 hL).le]
  refine Finset.sum_congr rfl fun k _ => ?_
  rw [Ideal.div_coe hL.ne', mul_comm (Ideal.exp _) ((1 / L : ℝ) : EReal), mul_assoc]

end Cert.Online

end
-- ==== Proof.Attn.lean ====
/-
  The attention as one function of the arrays: 4 sequences of 8320 rows under one another, 4 heads of 256 columns of
  queries and keys and 128 columns of values beside one another. A query sees the keys whose group of 64 (the first
  group has 16) is not after its own; its weights are the exponentials of the scores less their maximum, over their
  sum.
-/
module

public import proofs.«01_k».proof.Proof.Online
public import Idealize.ShloMosaic.Lib.Pointwise.Index

@[expose] public section

noncomputable section

namespace Cert.Att

open Cert.Online Idealize.ShloMosaic Finset

/-- Row `t` of sequence `b`. -/
abbrev row (b : Fin 4) (t : Fin 8320) : Fin 33280 := ⟨b.val * 8320 + t.val, by omega⟩
/-- Column `d` of head `h` of the queries and keys. -/
abbrev col (h : Fin 4) (d : Fin 256) : Fin 1024 := ⟨h.val * 256 + d.val, by omega⟩
/-- Column `e` of head `h` of the values. -/
abbrev vcol (h : Fin 4) (e : Fin 128) : Fin 512 := ⟨h.val * 128 + e.val, by omega⟩

/-- The score of query `t` against key `n`, `-∞` where the key is masked (and past the last key). -/
def gscore (q k : (⟨2, ![33280, 1024]⟩ : Shape).Idx → EReal) (b h : Fin 4) (t : Fin 8320) (n : ℕ) : EReal :=
  if hn : n < 8320 then
    if (n + 48) / 64 ≤ (t.val + 48) / 64 then ∑ d : Fin 256, q (ix2 (row b t) (col h d)) * k (ix2 (row b ⟨n, hn⟩) (col h d)) else ⊥
  else ⊥

/-- Coordinate `e` of key `n`'s value. -/
def gvalue (v : (⟨2, ![33280, 512]⟩ : Shape).Idx → EReal) (b h : Fin 4) (e : Fin 128) (n : ℕ) : EReal :=
  if hn : n < 8320 then v (ix2 (row b ⟨n, hn⟩) (vcol h e)) else 0

/-- The softmax of a row of scores times the values. -/
def softmix (s w : ℕ → EReal) : EReal :=
  ∑ n ∈ range 8320, Ideal.div (Ideal.exp (s n - top s 8320)) (mass s 8320) * w n

/-- The attention's result at a sequence, a head, a row and a column. -/
def attnAt (q k : (⟨2, ![33280, 1024]⟩ : Shape).Idx → EReal) (v : (⟨2, ![33280, 512]⟩ : Shape).Idx → EReal)
    (b h : Fin 4) (t : Fin 8320) (e : Fin 128) : EReal := softmix (gscore q k b h t) (gvalue v b h e)

/-- The attention's result as an array. -/
def attn (q k : (⟨2, ![33280, 1024]⟩ : Shape).Idx → EReal) (v : (⟨2, ![33280, 512]⟩ : Shape).Idx → EReal)
    (i : (⟨2, ![33280, 512]⟩ : Shape).Idx) : EReal :=
  have h0 : (i 0).val < 33280 := (i 0).isLt
  have h1 : (i 1).val < 512 := (i 1).isLt
  attnAt q k v ⟨(i 0).val / 8320, by omega⟩ ⟨(i 1).val / 128, by omega⟩ ⟨(i 0).val % 8320, by omega⟩ ⟨(i 1).val % 128, by omega⟩

/-- The array at an index, by the index's quotients and remainders. -/
theorem attn_of (q k : (⟨2, ![33280, 1024]⟩ : Shape).Idx → EReal) (v : (⟨2, ![33280, 512]⟩ : Shape).Idx → EReal)
    (i : (⟨2, ![33280, 512]⟩ : Shape).Idx) (b h : Fin 4) (t : Fin 8320) (e : Fin 128) (hb : (i 0).val / 8320 = b.val)
    (hh : (i 1).val / 128 = h.val) (ht : (i 0).val % 8320 = t.val) (he : (i 1).val % 128 = e.val) :
    attn q k v i = attnAt q k v b h t e := by
  obtain ⟨b, _⟩ := b
  obtain ⟨h, _⟩ := h
  obtain ⟨t, _⟩ := t
  obtain ⟨e, _⟩ := e
  dsimp only at hb hh ht he
  subst hb hh ht he
  rfl

/-- The array at a sequence's row and a head's column. -/
theorem attn_row (q k : (⟨2, ![33280, 1024]⟩ : Shape).Idx → EReal) (v : (⟨2, ![33280, 512]⟩ : Shape).Idx → EReal)
    (b h : Fin 4) (t : Fin 8320) (e : Fin 128) : attn q k v (ix2 (row b t) (vcol h e)) = attnAt q k v b h t e := by
  refine attn_of q k v _ b h t e ?_ ?_ ?_ ?_
  · show (b.val * 8320 + t.val) / 8320 = b.val
    omega
  · show (h.val * 128 + e.val) / 128 = h.val
    omega
  · show (b.val * 8320 + t.val) % 8320 = t.val
    omega
  · show (h.val * 128 + e.val) % 128 = e.val
    omega

/-- Every index of the result is a sequence's row and a head's column. -/
theorem exists_row (i : (⟨2, ![33280, 512]⟩ : Shape).Idx) :
    ∃ (b h : Fin 4) (t : Fin 8320) (e : Fin 128), i = ix2 (row b t) (vcol h e) := by
  have h0 : (i 0).val < 33280 := (i 0).isLt
  have h1 : (i 1).val < 512 := (i 1).isLt
  refine ⟨⟨(i 0).val / 8320, by omega⟩, ⟨(i 1).val / 128, by omega⟩, ⟨(i 0).val % 8320, by omega⟩, ⟨(i 1).val % 128, by omega⟩,
    funext fun a => Fin.ext ?_⟩
  match a with
  | ⟨0, _⟩ => show (i 0).val = (i 0).val / 8320 * 8320 + (i 0).val % 8320; omega
  | ⟨1, _⟩ => show (i 1).val = (i 1).val / 128 * 128 + (i 1).val % 128; omega

/-- The word of minus infinity. -/
theorem neg_inf : Ideal.ofBits .f32 0xFF800000#32 = ⊥ := by simp [Ideal.ofBits, Ideal.ieee]

/-- An array with no infinity in it. -/
def Finite {s : Shape} (x : s.Idx → EReal) : Prop := ∀ i, x i ≠ ⊤ ∧ x i ≠ ⊥

/-- A sum of products of numbers is a number. -/
theorem dot_real {n : ℕ} (f g : Fin n → EReal) (hf : ∀ d, f d ≠ ⊤ ∧ f d ≠ ⊥) (hg : ∀ d, g d ≠ ⊤ ∧ g d ≠ ⊥) :
    ∃ x : ℝ, ∑ d, f d * g d = (x : EReal) := by
  refine Finset.sum_induction _ (fun y => ∃ x : ℝ, y = (x : EReal)) ?_ ⟨0, rfl⟩ fun d _ => ?_
  · rintro _ _ ⟨x, rfl⟩ ⟨y, rfl⟩
    exact ⟨x + y, rfl⟩
  · refine ⟨(f d).toReal * (g d).toReal, ?_⟩
    rw [EReal.coe_mul, EReal.coe_toReal (hf d).1 (hf d).2, EReal.coe_toReal (hg d).1 (hg d).2]

variable {q k : (⟨2, ![33280, 1024]⟩ : Shape).Idx → EReal} (hq : Finite q) (hk : Finite k) (b h : Fin 4) (t : Fin 8320)
include hq hk

/-- No score is `+∞`. -/
theorem gscore_ne_top (n : ℕ) : gscore q k b h t n ≠ ⊤ := by
  unfold gscore
  split
  · split
    · obtain ⟨x, hx⟩ := dot_real _ _ (fun d => hq (ix2 (row b t) (col h d))) (fun d => hk (ix2 (row b ⟨n, by assumption⟩) (col h d)))
      rw [hx]; exact EReal.coe_ne_top x
    · exact bot_ne_top
  · exact bot_ne_top

/-- Every query sees the first key. -/
theorem gscore_zero_ne_bot : gscore q k b h t 0 ≠ ⊥ := by
  unfold gscore
  rw [dif_pos (by decide), if_pos (by omega)]
  obtain ⟨x, hx⟩ := dot_real _ _ (fun d => hq (ix2 (row b t) (col h d))) (fun d => hk (ix2 (row b ⟨0, by decide⟩) (col h d)))
  rw [hx]; exact EReal.coe_ne_bot x

/-- The keys of the blocks up to the one after the query's are enough: the others are masked. -/
theorem softmix_eq (w : ℕ → EReal) (a : ℕ) (hta : t.val < 640 * (a + 1)) (ha : a < 13) :
    Ideal.div (mix (gscore q k b h t) w (640 * min (a + 2) 13)) (mass (gscore q k b h t) (640 * min (a + 2) 13))
      = softmix (gscore q k b h t) w := by
  refine div_eq (gscore_ne_top hq hk b h t) w (k := 0) (by omega) (fun n h1 h2 => ?_) (by omega) (gscore_zero_ne_bot hq hk b h t)
  unfold gscore
  rw [dif_pos h2, if_neg (by omega)]

end Cert.Att

end
-- ==== Proof.Words.lean ====
/-
  The integers of the attention kernel: how many blocks of keys each of its two loops goes through, where a block
  begins, and which keys the comparison of two shifted words leaves visible.
-/
module

public import proofs.«01_k».proof.Proof.Gen.KernelIdeal
public import Idealize.ShloMosaic.Lib.KernelVsHost

@[expose] public section

noncomputable section

namespace Cert.KernelIdeal.Att

open Cert.KernelIdeal Cert.KernelIdeal.Gen Idealize.ShloMosaic

/-- The loop over the blocks before the diagonal makes as many trips as the query block's number. -/
theorem trips1 (i : grid0.Coords) : (k0_t1_loop i).trips = (i 2).val := by
  generalize hq : i 2 = q
  unfold k0_t1_loop
  rw [hq]
  clear hq i
  revert q
  decide

/-- The loop over the blocks at the diagonal makes two trips, one at the last query block. -/
theorem trips3 (i : grid0.Coords) : (k0_t3_loop i).trips = min ((i 2).val + 2) 13 - (i 2).val := by
  generalize hq : i 2 = q
  unfold k0_t3_loop
  rw [hq]
  clear hq i
  revert q
  decide

theorem trips2 (i : grid0.Coords) : (k0_t2_loop i).trips = 0 := Nat.le_zero.1 (k0_t2_abs i).2.1

theorem trips4 (i : grid0.Coords) : (k0_t4_loop i).trips = 0 := Nat.le_zero.1 (k0_t4_abs i).2.1

/-- The word of a block's first key. -/
theorem start_word (b k : ℕ) (h : b + k < 13) :
    Affine.IsInt (Scalar.muli (Scf.iv (BitVec.ofNat 32 b) 1#32 k) 640#32) ((640 * (b + k) : ℕ) : Int) :=
  Affine.muli (Affine.iv (Affine.ofNat b ⟨rfl, by omega⟩) (Affine.ofNat 1 ⟨rfl, by omega⟩) k ⟨rfl, by omega, by omega⟩)
    (Affine.ofNat 640 ⟨rfl, by omega⟩) (by omega)

/-- The same as a natural number. -/
theorem start_nat (b k : ℕ) (h : b + k < 13) :
    (Scalar.indexCast (Scalar.muli (Scf.iv (BitVec.ofNat 32 b) 1#32 k) 640#32)).toNat = 640 * (b + k) := by
  have e : Scalar.muli (Scf.iv (BitVec.ofNat 32 b) 1#32 k) 640#32 = BitVec.ofNat 32 (640 * (b + k)) := by
    apply BitVec.eq_of_toNat_eq
    simp only [Scalar.muli, IntOp.muli, Scf.iv, BitVec.toNat_mul, BitVec.toNat_add, BitVec.toNat_ofNat]
    omega
  rw [e]
  show (BitVec.ofNat 32 (640 * (b + k))).toNat = _
  rw [BitVec.toNat_ofNat]; omega

/-- The comparison of two words, each shifted right by six places, compares the quotients by 64. -/
theorem shifted_le (x y : BitVec 32) (n p : ℕ) (hx : Affine.IsInt x (n : Int)) (hy : Affine.IsInt y (p : Int)) :
    IntOp.cmpi .sle (IntOp.shrsi .vector x 6#32) (IntOp.shrsi .vector y 6#32) = if n / 64 ≤ p / 64 then 1#1 else 0#1 := by
  have h6 : Affine.IsInt 6#32 (6 : Int) := Affine.ofNat 6 ⟨rfl, by omega⟩
  have hx' : Affine.IsInt (Scalar.shrsi x 6#32) ((n / 64 : ℕ) : Int) :=
    Affine.shrsi hx h6 6 64 (by norm_num) ⟨by omega, rfl, by omega⟩
  have hy' : Affine.IsInt (Scalar.shrsi y 6#32) ((p / 64 : ℕ) : Int) :=
    Affine.shrsi hy h6 6 64 (by norm_num) ⟨by omega, rfl, by omega⟩
  rw [shrsi_unit .vector .scalar x, shrsi_unit .vector .scalar y]
  split
  · exact Affine.sle_holds hx' hy' (by omega)
  · exact (BitVec.eq_zero_or_eq_one _).resolve_right (Affine.sle_fails hx' hy' (by omega))

/-- Whether key `j` of block `a + k` is visible to query `r` of block `a`, as the kernel's words say it. -/
theorem visible_word (a k : ℕ) (h : a + k < 13) (r j : Fin 640) :
    IntOp.cmpi .sle
        (IntOp.shrsi .vector (IntOp.addi (IntOp.addi (Scalar.muli (Scf.iv (BitVec.ofNat 32 a) 1#32 k) 640#32) (BitVec.ofNat 32 j.val)) 48#32) 6#32)
        (IntOp.shrsi .vector (IntOp.addi (IntOp.addi (Scalar.muli (BitVec.ofNat 32 a) 640#32) (BitVec.ofNat 32 r.val)) 48#32) 6#32)
      = if (640 * (a + k) + j.val + 48) / 64 ≤ (640 * a + r.val + 48) / 64 then 1#1 else 0#1 := by
  have h48 : Affine.IsInt 48#32 (48 : Int) := Affine.ofNat 48 ⟨rfl, by omega⟩
  have hr : Affine.IsInt (BitVec.ofNat 32 r.val) (r.val : Int) := Affine.ofNat r.val ⟨rfl, by omega⟩
  have hj : Affine.IsInt (BitVec.ofNat 32 j.val) (j.val : Int) := Affine.ofNat j.val ⟨rfl, by omega⟩
  have ha : Affine.IsInt (Scalar.muli (BitVec.ofNat 32 a) 640#32) ((640 * a : ℕ) : Int) :=
    Affine.muli (Affine.ofNat a ⟨rfl, by omega⟩) (Affine.ofNat 640 ⟨rfl, by omega⟩) (by omega)
  refine shifted_le _ _ (640 * (a + k) + j.val + 48) (640 * a + r.val + 48) ?_ ?_
  · exact Affine.addi (Affine.addi (start_word a k h) hj ⟨rfl, by omega, by omega⟩) h48 (by omega)
  · exact Affine.addi (Affine.addi ha hr ⟨rfl, by omega, by omega⟩) h48 (by omega)

end Cert.KernelIdeal.Att

end
-- ==== Proof.Block.lean ====
/-
  What one block of keys does to a block of queries' running maximum, running sum and running weighted sum, as
  functions of the block of scores, and what these are at a row, read as the mathematics of Online.lean.
-/
module

public import proofs.«01_k».proof.Proof.Gen.KernelIdeal.Value
public import proofs.«01_k».proof.Proof.Online
public import proofs.«01_k».proof.Proof.Words
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.Lib.Pointwise.Select

@[expose] public section

noncomputable section

namespace Cert.KernelIdeal.Att

open Cert.KernelIdeal Cert.KernelIdeal.Gen Cert.Online Idealize.ShloMosaic Finset

/-- The running maximum after a block of scores. -/
def newM (S : FVec Ideal S640x640 .f32) (m : FVec Ideal S640x1 .f32) : FVec Ideal S640x1 .f32 :=
  maximumf m (shapeCast S640x1 (multiReduction .maximumf [1] S640 S 0xFF800000#32 reduces_S640x640_S640 (.inl rfl) rfl)
    shapeCasts_S640_S640x1)

/-- The weights of a block, its scores less the new maximum, exponentiated. -/
def newP (S : FVec Ideal S640x640 .f32) (m : FVec Ideal S640x1 .f32) : FVec Ideal S640x640 .f32 :=
  exp (subf S (broadcastTo S640x640 (newM S m) broadcasts_S640x1_S640x640))

/-- The factor between the old maximum and the new. -/
def newF (S : FVec Ideal S640x640 .f32) (m : FVec Ideal S640x1 .f32) : FVec Ideal S640x1 .f32 :=
  exp (subf m (newM S m))

/-- The running sum of weights after a block. -/
def newL (S : FVec Ideal S640x640 .f32) (m l : FVec Ideal S640x1 .f32) : FVec Ideal S640x1 .f32 :=
  shapeCast S640x1 (addf (mulf (newF S m) l)
    (shapeCast S640x1 (multiReduction .add [1] S640 (newP S m) 0x00000000#32 reduces_S640x640_S640 (.inl rfl) rfl)
      shapeCasts_S640_S640x1)) shapeCasts_S640x1_S640x1

/-- The running weighted sum of values after a block. -/
def newA (S : FVec Ideal S640x640 .f32) (m : FVec Ideal S640x1 .f32) (acc : FVec Ideal S640x128 .f32)
    (v : FVec Ideal S640x128 .bf16) : FVec Ideal S640x128 .f32 :=
  shapeCast S640x128 (addf (mulf (broadcastTo S640x128 (newF S m) broadcasts_S640x1_S640x128) acc)
    (matmul dot_S640x640_S640x128_S640x128_1_0_0_1_n_n none (truncf .bf16 (newP S m) bitsLt_bf16_f32) v
      (constant S640x128 .f32 0x00000000#32))) shapeCasts_S640x128_S640x128

theorem pay19_eq (v0 v34 v36 v45) : k0_pay19 (F := Ideal) v0 v34 v36 v45 = newL (k0_pay15 v0 v34) v36 v45 := rfl
theorem pay20_eq (v0 v34 v36 v53 v58) : k0_pay20 (F := Ideal) v0 v34 v36 v53 v58 = newA (k0_pay15 v0 v34) v36 v53 v58 := rfl
theorem pay16_eq (v0 v34 v36) : k0_pay16 (F := Ideal) v0 v34 v36 = newM (k0_pay15 v0 v34) v36 := rfl
theorem pay3_eq (i a v0 c k v34 v54) : k0_pay3 (F := Ideal) i a v0 c k v34 v54 = newM (k0_pay2 i a v0 c k v34) v54 := rfl
theorem pay6_eq (i a v0 c k v34 v54 l) :
    k0_pay6 (F := Ideal) i a v0 c k v34 v54 l = newL (k0_pay2 i a v0 c k v34) v54 l := rfl
theorem pay29_eq (i a v0 c k v34 v54 acc v) :
    k0_pay29 (F := Ideal) (k0_pay4 i a v0 c k v34 v54) (k0_pay5 i a v0 c k v34 v54) acc v
      = newA (k0_pay2 i a v0 c k v34) v54 acc v := rfl

theorem ofBits_neg_inf : Ideal.ofBits .f32 0xFF800000#32 = ⊥ := by simp [Ideal.ofBits, Ideal.ieee]

theorem newM_raw (S : FVec Ideal S640x640 .f32) (m : FVec Ideal S640x1 .f32) (r : Fin 640) :
    newM S m (ix2 r 0) = max (m (ix2 r 0)) ((Finset.univ : Finset (Fin 640)).fold max ⊥ fun k => S (ix2 r k)) := by
  unfold newM
  pointwise
  rw [ofBits_neg_inf]

theorem newL_raw (S : FVec Ideal S640x640 .f32) (m l : FVec Ideal S640x1 .f32) (r : Fin 640) :
    newL S m l (ix2 r 0) = Ideal.exp (m (ix2 r 0) - newM S m (ix2 r 0)) * l (ix2 r 0)
      + ∑ k : Fin 640, Ideal.exp (S (ix2 r k) - newM S m (ix2 r 0)) := by
  unfold newL newF newP
  generalize newM S m = y
  pointwise

theorem newA_raw (S : FVec Ideal S640x640 .f32) (m : FVec Ideal S640x1 .f32) (acc : FVec Ideal S640x128 .f32)
    (v : FVec Ideal S640x128 .bf16) (r : Fin 640) (e : Fin 128) :
    newA S m acc v (ix2 r e) = Ideal.exp (m (ix2 r 0) - newM S m (ix2 r 0)) * acc (ix2 r e)
      + ∑ k : Fin 640, Ideal.exp (S (ix2 r k) - newM S m (ix2 r 0)) * v (ix2 k e) := by
  unfold newA newF newP
  generalize newM S m = y
  pointwise

/-- The fold of the maximum over a block is the supremum over its positions. -/
theorem fold_eq_sup (n : ℕ) (f : ℕ → EReal) :
    (Finset.univ : Finset (Fin n)).fold max ⊥ (fun k => f k.val) = (range n).sup f := by
  refine le_antisymm ?_ (Finset.sup_le fun k hk => ?_)
  · exact (Finset.fold_max_le _).2 ⟨bot_le, fun k _ => Finset.le_sup (f := f) (mem_range.2 k.isLt)⟩
  · exact (Finset.le_fold_max _).2 (.inr ⟨⟨k, mem_range.1 hk⟩, mem_univ _, le_rfl⟩)

section Row
variable {s w : ℕ → EReal} (hs : ∀ k, s k ≠ ⊤) {n : ℕ} {r : Fin 640} {S : FVec Ideal S640x640 .f32} {m l : FVec Ideal S640x1 .f32}
  (hS : ∀ j : Fin 640, S (ix2 r j) = s (n + j.val)) (hm : m (ix2 r 0) = top s n)
include hS hm

/-- A row's running maximum after a block is the largest score met. -/
theorem newM_row : newM S m (ix2 r 0) = top s (n + 640) := by
  rw [newM_raw, hm, top_step, ← fold_eq_sup]
  simp only [hS]

include hs

/-- A row's running sum after a block is the sum of the weights met. -/
theorem newL_row (hl : l (ix2 r 0) = mass s n) : newL S m l (ix2 r 0) = mass s (n + 640) := by
  rw [newL_raw, newM_row hS hm, hm, hl, mass_step hs, Finset.sum_range]
  simp only [hS]

/-- A row's running weighted sum after a block is the weighted sum of the values met. -/
theorem newA_row {acc : FVec Ideal S640x128 .f32} {v : FVec Ideal S640x128 .bf16} {e : Fin 128}
    (hv : ∀ j : Fin 640, v (ix2 j e) = w (n + j.val)) (ha : acc (ix2 r e) = mix s w n) :
    newA S m acc v (ix2 r e) = mix s w (n + 640) := by
  rw [newA_raw, newM_row hS hm, hm, ha, mix_step hs, Finset.sum_range]
  simp only [hS, hv]

end Row

/-- The scores of a block with no mask. -/
theorem pay15_apply (v0 kb : FVec Ideal S640x256 .bf16) (r j : Fin 640) :
    k0_pay15 (F := Ideal) v0 kb (ix2 r j) = ∑ d : Fin 256, v0 (ix2 r d) * kb (ix2 j d) := by
  unfold k0_pay15
  pointwise

/-- The named mask is `-∞`. -/
theorem mask_eq : Named.named (F := Ideal) (φ := .f32) κ "mask" 0xF149F2CA#32 = (⊥ : EReal) := rfl

/-- The scores of a block under the mask: `-∞` where the key's block of 64 comes after the query's. -/
theorem pay2_apply (i : grid0.Coords) (v0 kb : FVec Ideal S640x256 .bf16) (k : Fin (k0_t3_loop i).trips)
    (hk : (i 2).val + k.val < 13) (r j : Fin 640) :
    k0_pay2 (F := Ideal) i (BitVec.ofNat 32 (i 2).val) v0 1#32 k kb (ix2 r j)
      = if (640 * ((i 2).val + k.val) + j.val + 48) / 64 ≤ (640 * (i 2).val + r.val + 48) / 64
        then ∑ d : Fin 256, v0 (ix2 r d) * kb (ix2 j d) else ⊥ := by
  unfold k0_pay2
  pointwise
  rw [visible_word _ _ hk, mask_eq]
  split
  · rfl
  · rfl

end Cert.KernelIdeal.Att

end
-- ==== Proof.Trip.lean ====
/-
  One trip of each of the kernel's two loops over blocks of keys: if the three scratch buffers hold, at every row of
  the query block, the maximum, the sum and the weighted sum over the first `n` keys, then after the trip they hold
  those over the first `n + 640`.
-/
module

public import proofs.«01_k».proof.Proof.Block
public import Idealize.ShloMosaic.Lib.VecWindow

@[expose] public section

noncomputable section

namespace Cert.KernelIdeal.Att

open Cert.KernelIdeal Cert.KernelIdeal.Gen Cert.Online Idealize.ShloMosaic Idealize.ShloMosaic.TcCoe Idealize.SL.Sem Finset

/-- Row `r` of query block `a`: its score against key `n`, `-∞` where the key is masked (and past the last key). -/
def score (q : FVec Ideal S640x256 .bf16) (k : FVec Ideal S8320x256 .bf16) (a : ℕ) (r : Fin 640) (n : ℕ) : EReal :=
  if h : n < 8320 then
    if (n + 48) / 64 ≤ (640 * a + r.val + 48) / 64 then ∑ d : Fin 256, q (ix2 r d) * k (ix2 ⟨n, h⟩ d) else ⊥
  else ⊥

/-- Coordinate `e` of the value of key `n`. -/
def value (v : FVec Ideal S8320x128 .bf16) (e : Fin 128) (n : ℕ) : EReal := if h : n < 8320 then v (ix2 ⟨n, h⟩ e) else 0

/-- What the three scratch buffers hold after the first `n` keys. -/
structure Inv (s : Fin 640 → ℕ → EReal) (w : Fin 128 → ℕ → EReal) (n : ℕ) (m l : FVec Ideal S640x1 .f32)
    (acc : FVec Ideal S640x128 .f32) : Prop where
  m : ∀ r, m (ix2 r 0) = top (s r) n
  l : ∀ r, l (ix2 r 0) = mass (s r) n
  acc : ∀ r e, acc (ix2 r e) = mix (s r) (w e) n

/-- A load of 640 rows from row `n`, at an index. -/
theorem load_rows {c : ℕ} {e : EltTy} {sp : Space} (v : View sig .tc sp ⟨2, ![8320, c]⟩ e) (f : v.ty.Contents (Elt Ideal)) {off : Fin 2 → ℕ}
    (inb : ∀ a, off a + (![640, c] : Fin 2 → ℕ) a ≤ (⟨2, ![8320, c]⟩ : Shape).size a) (n : ℕ) (h0 : off 0 = n) (h1 : off 1 = 0)
    (j : Fin 640) (d : Fin c) (h : n + j.val < 8320) :
    v.readAt (Elt Ideal) (Rect.unit (s := ⟨2, ![8320, c]⟩) off ![640, c] inb).toLoadRect f (ix2 j d)
      = v.read (Elt Ideal) f (ix2 ⟨n + j.val, h⟩ d) := by
  refine congrArg (v.read (Elt Ideal) f) (funext fun a => Fin.ext ?_)
  match a with
  | ⟨0, _⟩ => show off 0 + 1 * j.val = n + j.val; omega
  | ⟨1, _⟩ => show off 1 + 1 * d.val = d.val; omega

/-- Storing the new maxima under their own shape changes nothing. -/
theorem pay21_eq (v0 kb m) : k0_pay21 (F := Ideal) v0 kb m = newM (k0_pay15 v0 kb) m := by
  unfold k0_pay21
  rw [shapeCast_self, pay16_eq]

/-- Storing the new maxima under their own shape changes nothing. -/
theorem pay30_eq (m) : k0_pay30 (F := Ideal) m = m := by
  unfold k0_pay30
  rw [shapeCast_self]

section
variable (𝒱 : Variants) (c : Dev nD) (bd : Option 𝒱.V) (i : grid0.Coords) (arg3 : Memref sig .tc .vmem S640x256 .bf16) (harg3 : arg3.IsWhole) (arg4 : Memref sig .tc .vmem S8320x256 .bf16) (harg4 : arg4.IsWhole) (arg5 : Memref sig .tc .vmem S8320x128 .bf16) (harg5 : arg5.IsWhole) (arg6 : Memref sig .tc .vmem S640x128 .bf16) (harg6 : arg6.IsWhole) (arg7 : Memref sig .tc .vmem S640x1 .f32) (harg7 : arg7.IsWhole) (arg8 : Memref sig .tc .vmem S640x1 .f32) (harg8 : arg8.IsWhole) (arg9 : Memref sig .tc .vmem S640x128 .f32) (harg9 : arg9.IsWhole)
  (v0 : Vec Ideal S640x256 .bf16) (X4 : BufTy.Contents (Elt Ideal) arg4.view.ty) (X5 : BufTy.Contents (Elt Ideal) arg5.view.ty)
  (f7 : BufTy.Contents (Elt Ideal) arg7.view.ty) (f8 : BufTy.Contents (Elt Ideal) arg8.view.ty) (f9 : BufTy.Contents (Elt Ideal) arg9.view.ty)

/-- A trip before the diagonal: every key of its block is visible. -/
theorem trip1 (k : Fin (k0_t1_loop i).trips)
    (hs : ∀ r n, score v0 (arg4.view.read (Elt Ideal) X4) (i 2).val r n ≠ ⊤)
    (H : Inv (score v0 (arg4.view.read (Elt Ideal) X4) (i 2).val) (value (arg5.view.read (Elt Ideal) X5)) (640 * k.val)
      (arg7.view.read (Elt Ideal) f7) (arg8.view.read (Elt Ideal) f8) (arg9.view.read (Elt Ideal) f9)) :
    let L := tripL_k0_t1 (F := Ideal) 𝒱 c bd i arg3 harg3 arg4 harg4 arg5 harg5 arg6 harg6 arg7 harg7 arg8 harg8 arg9 harg9 v0 X4 X5 k f7 f8 f9
    Inv (score v0 (arg4.view.read (Elt Ideal) X4) (i 2).val) (value (arg5.view.read (Elt Ideal) X5)) (640 * (k.val + 1))
      (arg7.view.read (Elt Ideal) (arg7.view.writes (Elt Ideal) f7 L.1)) (arg8.view.read (Elt Ideal) (arg8.view.writes (Elt Ideal) f8 L.2.1))
      (arg9.view.read (Elt Ideal) (arg9.view.writes (Elt Ideal) f9 L.2.2)) := by
  have hq : (i 2).val < 13 := (i 2).isLt
  have hk : k.val < (i 2).val := lt_of_lt_of_eq k.isLt (trips1 i)
  have hS : ∀ (kb : FVec Ideal S640x256 .bf16)
      (_ : ∀ (j : Fin 640) (d : Fin 256), kb (ix2 j d) = arg4.view.read (Elt Ideal) X4 (ix2 ⟨640 * k.val + j.val, by omega⟩ d)) (r j : Fin 640),
      k0_pay15 (F := Ideal) v0 kb (ix2 r j) = score v0 (arg4.view.read (Elt Ideal) X4) (i 2).val r (640 * k.val + j.val) := by
    intro kb hkb r j
    rw [pay15_apply, score, dif_pos (by omega), if_pos (by omega)]
    exact Finset.sum_congr rfl fun d _ => by rw [hkb]
  have h4 := fun inb j d => load_rows (e := .bf16) arg4.view X4 (off := ![BitVec.toNat (Scalar.indexCast (Scalar.muli (Scf.iv 0#32 1#32 k.val) 640#32)), 0]) inb (640 * k.val)
    ((start_nat 0 k.val (by omega)).trans (by rw [Nat.zero_add])) rfl j d (by omega)
  have h5 := fun inb j d => load_rows (e := .bf16) arg5.view X5 (off := ![BitVec.toNat (Scalar.indexCast (Scalar.muli (Scf.iv 0#32 1#32 k.val) 640#32)), 0]) inb (640 * k.val)
    ((start_nat 0 k.val (by omega)).trans (by rw [Nat.zero_add])) rfl j d (by omega)
  intro L
  unfold L tripL_k0_t1 trip_k0_t1
  sl_unfold_words
  dsimp only
  have m7 := fun inb r => (congrFun (View.readAt_full arg7.view f7 (off := ![0, 0]) inb) (ix2 r 0)).trans (H.m r)
  have m8 := fun inb r => (congrFun (View.readAt_full arg8.view f8 (off := ![0, 0]) inb) (ix2 r 0)).trans (H.l r)
  have m9 := fun inb r e => (congrFun (View.readAt_full arg9.view f9 (off := ![0, 0]) inb) (ix2 r e)).trans (H.acc r e)
  refine ⟨fun r => (congrFun (View.read_writes_full arg7.view f7 _ _ _) _).trans ?_,
    fun r => (congrFun (View.read_writes_full arg8.view f8 _ _ _) _).trans ?_,
    fun r e => (congrFun (View.read_writes_full arg9.view f9 _ _ _) _).trans ?_⟩
  · exact (congrFun (pay21_eq _ _ _) _).trans (newM_row (hS _ (h4 _) r) (m7 _ r))
  · exact newL_row (hs r) (hS _ (h4 _) r) (m7 _ r) (m8 _ r)
  · refine newA_row (hs r) (hS _ (h4 _) r) (m7 _ r) (fun j => ?_) (m9 _ r e)
    exact (h5 _ j e).trans (dif_pos (by omega) : value (arg5.view.read (Elt Ideal) X5) e (_ + j.val) = _).symm

/-- A trip at the diagonal: the keys after the query's own group of 64 are masked. -/
theorem trip3 (k : Fin (k0_t3_loop i).trips)
    (hs : ∀ r n, score v0 (arg4.view.read (Elt Ideal) X4) (i 2).val r n ≠ ⊤)
    (H : Inv (score v0 (arg4.view.read (Elt Ideal) X4) (i 2).val) (value (arg5.view.read (Elt Ideal) X5)) (640 * ((i 2).val + k.val))
      (arg7.view.read (Elt Ideal) f7) (arg8.view.read (Elt Ideal) f8) (arg9.view.read (Elt Ideal) f9)) :
    let L := tripL_k0_t3 (F := Ideal) 𝒱 c bd i arg3 harg3 arg4 harg4 arg5 harg5 arg6 harg6 arg7 harg7 arg8 harg8 arg9 harg9 (BitVec.ofNat 32 (i 2).val) v0 X4 X5 k f7 f8 f9
    Inv (score v0 (arg4.view.read (Elt Ideal) X4) (i 2).val) (value (arg5.view.read (Elt Ideal) X5)) (640 * ((i 2).val + (k.val + 1)))
      (arg7.view.read (Elt Ideal) (arg7.view.writes (Elt Ideal) f7 L.1)) (arg8.view.read (Elt Ideal) (arg8.view.writes (Elt Ideal) f8 L.2.1))
      (arg9.view.read (Elt Ideal) (arg9.view.writes (Elt Ideal) f9 L.2.2)) := by
  have hq : (i 2).val < 13 := (i 2).isLt
  have hk : k.val < min ((i 2).val + 2) 13 - (i 2).val := lt_of_lt_of_eq k.isLt (trips3 i)
  have hS : ∀ (kb : FVec Ideal S640x256 .bf16)
      (_ : ∀ (j : Fin 640) (d : Fin 256), kb (ix2 j d) = arg4.view.read (Elt Ideal) X4 (ix2 ⟨640 * ((i 2).val + k.val) + j.val, by omega⟩ d)) (r j : Fin 640),
      k0_pay2 (F := Ideal) i (BitVec.ofNat 32 (i 2).val) v0 1#32 k kb (ix2 r j)
        = score v0 (arg4.view.read (Elt Ideal) X4) (i 2).val r (640 * ((i 2).val + k.val) + j.val) := by
    intro kb hkb r j
    rw [pay2_apply i v0 kb k (by omega), score, dif_pos (by omega)]
    simp only [hkb]
  have h4 := fun inb j d => load_rows (e := .bf16) arg4.view X4 (off := ![BitVec.toNat (Scalar.indexCast (Scalar.muli (Scf.iv (BitVec.ofNat 32 (i 2).val) 1#32 k.val) 640#32)), 0]) inb
    (640 * ((i 2).val + k.val)) (start_nat _ k.val (by omega)) rfl j d (by omega)
  have h5 := fun inb j d => load_rows (e := .bf16) arg5.view X5 (off := ![BitVec.toNat (Scalar.indexCast (Scalar.muli (Scf.iv (BitVec.ofNat 32 (i 2).val) 1#32 k.val) 640#32)), 0]) inb
    (640 * ((i 2).val + k.val)) (start_nat _ k.val (by omega)) rfl j d (by omega)
  intro L
  unfold L tripL_k0_t3 trip_k0_t3
  sl_unfold_words
  dsimp only
  have m7 := fun inb r => (congrFun (View.readAt_full arg7.view f7 (off := ![0, 0]) inb) (ix2 r 0)).trans (H.m r)
  have m8 := fun inb r => (congrFun (View.readAt_full arg8.view f8 (off := ![0, 0]) inb) (ix2 r 0)).trans (H.l r)
  have m9 := fun inb r e => (congrFun (View.readAt_full arg9.view f9 (off := ![0, 0]) inb) (ix2 r e)).trans (H.acc r e)
  refine ⟨fun r => (congrFun (View.read_writes_full arg7.view f7 _ _ _) _).trans ?_,
    fun r => (congrFun (View.read_writes_full arg8.view f8 _ _ _) _).trans ?_,
    fun r e => (congrFun (View.read_writes_full arg9.view f9 _ _ _) _).trans ?_⟩
  · exact (congrFun (pay30_eq _) _).trans (newM_row (hS _ (h4 _) r) (m7 _ r))
  · exact newL_row (hs r) (hS _ (h4 _) r) (m7 _ r) (m8 _ r)
  · refine newA_row (hs r) (hS _ (h4 _) r) (m7 _ r) (fun j => ?_) (m9 _ r e)
    exact (h5 _ j e).trans (dif_pos (by omega) : value (arg5.view.read (Elt Ideal) X5) e (_ + j.val) = _).symm

end

end Cert.KernelIdeal.Att

end
-- ==== Proof.Loop.lean ====
/-
  The kernel's two loops over blocks of keys: before block `k` of the first loop the scratch buffers hold the maximum,
  the sum and the weighted sum over the `640 * k` keys before that block, and the second loop goes on from there.
-/
module

public import proofs.«01_k».proof.Proof.Trip

@[expose] public section

noncomputable section

namespace Cert.KernelIdeal.Att

open Cert.KernelIdeal Cert.KernelIdeal.Gen Cert.Online Idealize.ShloMosaic Idealize.ShloMosaic.TcCoe Idealize.SL.Sem Finset

section
variable (𝒱 : Variants) (c : Dev nD) (bd : Option 𝒱.V) (i : grid0.Coords) (arg3 : Memref sig .tc .vmem S640x256 .bf16) (harg3 : arg3.IsWhole) (arg4 : Memref sig .tc .vmem S8320x256 .bf16) (harg4 : arg4.IsWhole) (arg5 : Memref sig .tc .vmem S8320x128 .bf16) (harg5 : arg5.IsWhole) (arg6 : Memref sig .tc .vmem S640x128 .bf16) (harg6 : arg6.IsWhole) (arg7 : Memref sig .tc .vmem S640x1 .f32) (harg7 : arg7.IsWhole) (arg8 : Memref sig .tc .vmem S640x1 .f32) (harg8 : arg8.IsWhole) (arg9 : Memref sig .tc .vmem S640x128 .f32) (harg9 : arg9.IsWhole)
  (v0 : Vec Ideal S640x256 .bf16) (X4 : BufTy.Contents (Elt Ideal) arg4.view.ty) (X5 : BufTy.Contents (Elt Ideal) arg5.view.ty)
  (G7 : BufTy.Contents (Elt Ideal) arg7.view.ty) (G8 : BufTy.Contents (Elt Ideal) arg8.view.ty) (G9 : BufTy.Contents (Elt Ideal) arg9.view.ty)

/-- The first loop's invariant. -/
theorem loop1 (hs : ∀ r n, score v0 (arg4.view.read (Elt Ideal) X4) (i 2).val r n ≠ ⊤)
    (H : Inv (score v0 (arg4.view.read (Elt Ideal) X4) (i 2).val) (value (arg5.view.read (Elt Ideal) X5)) 0
      (arg7.view.read (Elt Ideal) G7) (arg8.view.read (Elt Ideal) G8) (arg9.view.read (Elt Ideal) G9))
    (k : ℕ) (hk : k ≤ (k0_t1_loop i).trips) :
    let L := pb_k0_t1 (F := Ideal) 𝒱 c bd i arg3 harg3 arg4 harg4 arg5 harg5 arg6 harg6 arg7 harg7 arg8 harg8 arg9 harg9 v0 X4 X5 G7 G8 G9 k
    Inv (score v0 (arg4.view.read (Elt Ideal) X4) (i 2).val) (value (arg5.view.read (Elt Ideal) X5)) (640 * k)
      (arg7.view.read (Elt Ideal) (arg7.view.writes (Elt Ideal) G7 L.1)) (arg8.view.read (Elt Ideal) (arg8.view.writes (Elt Ideal) G8 L.2.1))
      (arg9.view.read (Elt Ideal) (arg9.view.writes (Elt Ideal) G9 L.2.2)) := by
  induction k with
  | zero => exact H
  | succ k ih =>
    intro L
    have e : L = _ := pb_k0_t1_succ (F := Ideal) 𝒱 c bd i arg3 harg3 arg4 harg4 arg5 harg5 arg6 harg6 arg7 harg7 arg8 harg8 arg9 harg9 v0 X4 X5 G7 G8 G9 ⟨k, hk⟩
    rw [e]
    dsimp only
    rw [View.writes_append, View.writes_append, View.writes_append]
    exact trip1 𝒱 c bd i arg3 harg3 arg4 harg4 arg5 harg5 arg6 harg6 arg7 harg7 arg8 harg8 arg9 harg9 v0 X4 X5 _ _ _ ⟨k, hk⟩ hs (ih (Nat.le_of_succ_le hk))

/-- The second loop's invariant. -/
theorem loop3 (hs : ∀ r n, score v0 (arg4.view.read (Elt Ideal) X4) (i 2).val r n ≠ ⊤)
    (H : Inv (score v0 (arg4.view.read (Elt Ideal) X4) (i 2).val) (value (arg5.view.read (Elt Ideal) X5)) (640 * (i 2).val)
      (arg7.view.read (Elt Ideal) G7) (arg8.view.read (Elt Ideal) G8) (arg9.view.read (Elt Ideal) G9))
    (k : ℕ) (hk : k ≤ (k0_t3_loop i).trips) :
    let L := pb_k0_t3 (F := Ideal) 𝒱 c bd i arg3 harg3 arg4 harg4 arg5 harg5 arg6 harg6 arg7 harg7 arg8 harg8 arg9 harg9 (BitVec.ofNat 32 (i 2).val) v0 X4 X5 G7 G8 G9 k
    Inv (score v0 (arg4.view.read (Elt Ideal) X4) (i 2).val) (value (arg5.view.read (Elt Ideal) X5)) (640 * ((i 2).val + k))
      (arg7.view.read (Elt Ideal) (arg7.view.writes (Elt Ideal) G7 L.1)) (arg8.view.read (Elt Ideal) (arg8.view.writes (Elt Ideal) G8 L.2.1))
      (arg9.view.read (Elt Ideal) (arg9.view.writes (Elt Ideal) G9 L.2.2)) := by
  induction k with
  | zero => exact H
  | succ k ih =>
    intro L
    have e : L = _ := pb_k0_t3_succ (F := Ideal) 𝒱 c bd i arg3 harg3 arg4 harg4 arg5 harg5 arg6 harg6 arg7 harg7 arg8 harg8 arg9 harg9 (BitVec.ofNat 32 (i 2).val) v0 X4 X5 G7 G8 G9 ⟨k, hk⟩
    rw [e]
    dsimp only
    rw [View.writes_append, View.writes_append, View.writes_append]
    exact trip3 𝒱 c bd i arg3 harg3 arg4 harg4 arg5 harg5 arg6 harg6 arg7 harg7 arg8 harg8 arg9 harg9 v0 X4 X5 _ _ _ ⟨k, hk⟩ hs (ih (Nat.le_of_succ_le hk))

/-- The buffers as the kernel sets them up hold what no keys at all give. -/
theorem start (w : Fin 128 → ℕ → EReal) (s : Fin 640 → ℕ → EReal) :
    Inv s w 0 (k0_pay12 (F := Ideal)) (k0_pay13 (F := Ideal)) (k0_pay14 (F := Ideal)) := by
  refine ⟨fun r => ?_, fun r => ?_, fun r e => ?_⟩
  · rw [top_zero]; unfold k0_pay12; pointwise; exact mask_eq
  · rw [mass_zero]; unfold k0_pay13; pointwise
  · rw [mix_zero]; unfold k0_pay14; pointwise

/-- What the store of a query block writes: the weighted sum over the sum. -/
theorem pay1_apply (acc : FVec Ideal S640x128 .f32) (l : FVec Ideal S640x1 .f32) (r : Fin 640) (e : Fin 128) :
    k0_pay1 (F := Ideal) acc l (ix2 r e) = Ideal.div (acc (ix2 r e)) (l (ix2 r 0)) := by
  unfold k0_pay1
  pointwise

end

end Cert.KernelIdeal.Att

end
-- ==== Proof.Point.lean ====
/-
  What one point of the grid stores: for each row of its query block the weighted sum of the values over the sum of the
  weights, taken over the keys of the blocks up to the one after the query block.
-/
module

public import proofs.«01_k».proof.Proof.Loop

@[expose] public section

noncomputable section

namespace Cert.KernelIdeal.Att

open Cert.KernelIdeal Cert.KernelIdeal.Gen Cert.Online Idealize.ShloMosaic Idealize.ShloMosaic.TcCoe Idealize.SL.Sem Finset

/-- The block a point of the grid writes, at a row and a column. -/
theorem point (c : Dev nD) (i : grid0.Coords) (arg3 : Memref sig .tc .vmem S640x256 .bf16) (harg3 : arg3.IsWhole) (arg4 : Memref sig .tc .vmem S8320x256 .bf16) (harg4 : arg4.IsWhole) (arg5 : Memref sig .tc .vmem S8320x128 .bf16) (harg5 : arg5.IsWhole) (arg6 : Memref sig .tc .vmem S640x128 .bf16) (harg6 : arg6.IsWhole) (arg7 : Memref sig .tc .vmem S640x1 .f32) (harg7 : arg7.IsWhole) (arg8 : Memref sig .tc .vmem S640x1 .f32) (harg8 : arg8.IsWhole) (arg9 : Memref sig .tc .vmem S640x128 .f32) (harg9 : arg9.IsWhole)
    (x0 : Vec Ideal S640x256 .bf16) (x1 : Vec Ideal S8320x256 .bf16) (x2 : Vec Ideal S8320x128 .bf16)
    (hs : ∀ r n, score x0 x1 (i 2).val r n ≠ ⊤) (r : Fin 640) (e : Fin 128) :
    out0_A_3 (F := Ideal) c i arg3 harg3 arg4 harg4 arg5 harg5 arg6 harg6 arg7 harg7 arg8 harg8 arg9 harg9 x0 x1 x2 (ix2 r e)
      = Ideal.div (mix (score x0 x1 (i 2).val r) (value x2 e) (640 * min ((i 2).val + 2) 13))
          (mass (score x0 x1 (i 2).val r) (640 * min ((i 2).val + 2) 13)) := by
  have e4 := harg4.read_unread (Val := Elt Ideal) x1
  have e5 := harg5.read_unread (Val := Elt Ideal) x2
  unfold out0_A_3 kernelRun0_A
  dsimp only
  refine (congrFun (View.read_writes_full VO0_3 _ _ _ _) _).trans ((pay1_apply _ _ r e).trans ?_)
  have t2 : Scf.trips (k0_t2_loop i).lb (k0_t2_loop i).ub (k0_t2_loop i).st = 0 := trips2 i
  have t4 : Scf.trips (k0_t4_loop i).lb (k0_t4_loop i).ub (k0_t4_loop i).st = 0 := trips4 i
  have t1 : Scf.trips (k0_t1_loop i).lb (k0_t1_loop i).ub (k0_t1_loop i).st = (i 2).val := trips1 i
  have t3 : Scf.trips (k0_t3_loop i).lb (k0_t3_loop i).ub (k0_t3_loop i).st = min ((i 2).val + 2) 13 - (i 2).val := trips3 i
  have e3 : View.readAt (Elt Ideal) arg3.view (Rect.unit ![0, 0] S640x256.size inb_S640x256_S640x256_0_0).toLoadRect (harg3.unread x0) = x0 :=
    (View.readAt_full arg3.view _ _).trans (harg3.read_unread x0)
  have H0 : Inv (score x0 (arg4.view.read (Elt Ideal) (harg4.unread x1)) (i 2).val) (value (arg5.view.read (Elt Ideal) (harg5.unread x2))) 0
      (arg7.view.read (Elt Ideal) (arg7.view.writes (Elt Ideal) arg7.view.junk kernelRun0_A.sl.HS0_1))
      (arg8.view.read (Elt Ideal) (arg8.view.writes (Elt Ideal) arg8.view.junk kernelRun0_A.sl.HS1_1))
      (arg9.view.read (Elt Ideal) (arg9.view.writes (Elt Ideal) arg9.view.junk kernelRun0_A.sl.HS2_1)) := by
    have h := start (value (arg5.view.read (Elt Ideal) (harg5.unread x2))) (score x0 (arg4.view.read (Elt Ideal) (harg4.unread x1)) (i 2).val)
    exact ⟨fun r => (congrFun (View.read_writes_full arg7.view _ _ _ _) _).trans (h.m r),
      fun r => (congrFun (View.read_writes_full arg8.view _ _ _ _) _).trans (h.l r),
      fun r e => (congrFun (View.read_writes_full arg9.view _ _ _ _) _).trans (h.acc r e)⟩
  have hs' : ∀ r n, score x0 (arg4.view.read (Elt Ideal) (harg4.unread x1)) (i 2).val r n ≠ ⊤ := by rw [e4]; exact hs
  have H1 := loop1 Variants.none c none i arg3 harg3 arg4 harg4 arg5 harg5 arg6 harg6 arg7 harg7 arg8 harg8 arg9 harg9 x0 _ _ _ _ _ hs' H0
    (i 2).val (le_of_eq (trips1 i).symm)
  have H3 := loop3 Variants.none c none i arg3 harg3 arg4 harg4 arg5 harg5 arg6 harg6 arg7 harg7 arg8 harg8 arg9 harg9 x0 _ _ _ _ _ hs' H1
    (min ((i 2).val + 2) 13 - (i 2).val) (le_of_eq (trips3 i).symm)
  have hq : (i 2).val < 13 := (i 2).isLt
  have hn : (i 2).val + (min ((i 2).val + 2) 13 - (i 2).val) = min ((i 2).val + 2) 13 := by omega
  dsimp only at H3
  rw [hn, e4, e5] at H3
  unfold kernelRun0_A.sl.v kernelRun0_A.sl.v26 View.readCov
  simp only [t1, t2, t3, t4, e3, pb_k0_t2.eq_1, pb_k0_t4.eq_1, List.nil_append, View.writes_append]
  exact congrArg₂ Ideal.div ((congrFun (View.readAt_full arg9.view _ _) _).trans (H3.acc r e))
    ((congrFun (View.readAt_full arg8.view _ _) _).trans (H3.l r))

end Cert.KernelIdeal.Att

end
-- ==== Proof.Array.lean ====
/-
  The kernel's output array: the attention of its three arguments.
-/
module

public import proofs.«01_k».proof.Proof.Attn
public import proofs.«01_k».proof.Proof.Point
public import proofs.«01_k».proof.Proof.Gen.KernelIdeal.Value
public import Idealize.ShloMosaic.Lib.Pipeline.ValueKit

@[expose] public section

noncomputable section

namespace Cert.KernelIdeal.Att

open Cert.KernelIdeal Cert.KernelIdeal.Gen Cert.Online Cert.Att Idealize.ShloMosaic Idealize.ShloMosaic.TcCoe Idealize.SL.Sem Finset

/-- The query block and the output block of a grid point. -/
theorem index0 : ∀ t : Fin cfg0.N, win0_0.index t = ![13 * (grid0.coords t 0).val + (grid0.coords t 2).val, (grid0.coords t 1).val] :=
  (by decide +kernel : ∀ t : Fin grid0.N, _)
theorem index1 : ∀ t : Fin cfg0.N, win0_1.index t = ![(grid0.coords t 0).val, (grid0.coords t 1).val] :=
  (by decide +kernel : ∀ t : Fin grid0.N, _)
theorem index2 : ∀ t : Fin cfg0.N, win0_2.index t = ![(grid0.coords t 0).val, (grid0.coords t 1).val] :=
  (by decide +kernel : ∀ t : Fin grid0.N, _)
theorem index3 : ∀ t : Fin cfg0.N, win0_3.index t = ![13 * (grid0.coords t 0).val + (grid0.coords t 2).val, (grid0.coords t 1).val] :=
  (by decide +kernel : ∀ t : Fin grid0.N, _)

variable (m : (ℓ : Loc nD τ sig) → Buf (Elt Ideal) ℓ) (c : Dev nD)

/-- The scores of a grid point's rows are the attention's. -/
theorem score_eq (t : Fin cfg0.N) (b h : Fin 4) (a : Fin 13) (hb : (grid0.coords t 0).val = b.val) (hh : (grid0.coords t 1).val = h.val)
    (ha : (grid0.coords t 2).val = a.val) (r : Fin 640) :
    score (iblk m c 0 t) (iblk m c 1 t) a.val r
      = gscore (m ((c : Thread nD τ).loc main_arg0)) (m ((c : Thread nD τ).loc main_arg1)) b h ⟨640 * a.val + r.val, by omega⟩ := by
  funext n
  unfold score gscore
  refine dite_congr rfl (fun hn => if_congr Iff.rfl (Finset.sum_congr rfl fun d _ => ?_) rfl) fun _ => rfl
  blk_simp [iblk]
  rw [V_main_arg0, V_main_arg1]
  have e0 : (win0_0.blk t).view.emb (ix2 r d) = (ix2 (row b ⟨640 * a.val + r.val, by omega⟩) (col h d) : S33280x1024.Idx) := by
    blk_ext [index0, hb, hh, ha]
  have e1 : (win0_1.blk t).view.emb (ix2 ⟨n, hn⟩ d) = (ix2 (row b ⟨n, hn⟩) (col h d) : S33280x1024.Idx) := by
    blk_ext [index1, hb, hh]
  rw [e0, e1]

/-- The values a grid point reads are the attention's. -/
theorem value_eq (t : Fin cfg0.N) (b h : Fin 4) (hb : (grid0.coords t 0).val = b.val) (hh : (grid0.coords t 1).val = h.val) (e : Fin 128) :
    value (iblk m c 2 t) e = gvalue (m ((c : Thread nD τ).loc main_arg2)) b h e := by
  funext n
  unfold value gvalue
  refine dite_congr rfl (fun hn => ?_) fun _ => rfl
  blk_simp [iblk]
  rw [V_main_arg2]
  have e2 : (win0_2.blk t).view.emb (ix2 ⟨n, hn⟩ e) = (ix2 (row b ⟨n, hn⟩) (vcol h e) : S33280x512.Idx) := by
    blk_ext [index2, hb, hh]
  rw [e2]

/-- After the run the output array holds the attention of the arguments, if the queries and keys hold no infinity. -/
theorem array (hq : Finite (m ((c : Thread nD τ).loc main_arg0))) (hk : Finite (m ((c : Thread nD τ).loc main_arg1))) :
    (dats m 0 c).arrAt 3 cfg0.N
      = attn (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have h0 : (grid0.coords t 0).val < 4 := (grid0.coords t 0).isLt
  have h1 : (grid0.coords t 1).val < 4 := (grid0.coords t 1).isLt
  have h2 : (grid0.coords t 2).val < 13 := (grid0.coords t 2).isLt
  obtain ⟨r, e, rfl⟩ : ∃ (r : Fin 640) (e : Fin 128), y = (ix2 r e : S640x128.Idx) :=
    ⟨⟨(y 0).val, (y 0).isLt⟩, ⟨(y 1).val, (y 1).isLt⟩, funext fun a => Fin.ext (by match a with | ⟨0, _⟩ => rfl | ⟨1, _⟩ => rfl)⟩
  have hs := score_eq m c t ⟨_, h0⟩ ⟨_, h1⟩ ⟨_, h2⟩ rfl rfl rfl
  have hw := value_eq m c t ⟨_, h0⟩ ⟨_, h1⟩ rfl rfl e
  unfold outsAt0
  rw [point]
  · rw [hs, hw, softmix_eq hq hk _ _ _ _ _ (by show _ < _; dsimp only; omega) h2]
    have e3 : (win0_3.blk t).view.emb (ix2 r e)
        = (ix2 (row ⟨_, h0⟩ ⟨640 * (grid0.coords t 2).val + r.val, by omega⟩) (vcol ⟨_, h1⟩ e) : S33280x512.Idx) := by
      blk_ext [index3]
    rw [e3, attn_row]
    rfl
  · intro r n
    rw [hs r]
    exact gscore_ne_top hq hk _ _ _ n

end Cert.KernelIdeal.Att

end
-- ==== Proof.Ref.lean ====
/-
  What the reference computes: the same attention.
-/
module

public import proofs.«01_k».proof.Proof.Attn
public import proofs.«01_k».proof.Proof.Gen.ReferenceIdeal.Read
public import Idealize.ShloMosaic.Lib.Pointwise.Index

@[expose] public section

noncomputable section

namespace Cert.ReferenceIdeal.Att

open Cert.ReferenceIdeal Cert.ReferenceIdeal.Read Cert.ReferenceIdeal.Gen Cert.Online Cert.Att Idealize.ShloMosaic Idealize.ShloMosaic.TcCoe Idealize.SL.Sem Finset

/-- Three coordinates and four. -/
abbrev ix3 (b h : Fin 4) (t : Fin 8320) : S4x4x8320.Idx := fun | ⟨0, _⟩ => b | ⟨1, _⟩ => h | ⟨2, _⟩ => t
abbrev ix4 (b h : Fin 4) (t n : Fin 8320) : S4x4x8320x8320.Idx := fun | ⟨0, _⟩ => b | ⟨1, _⟩ => h | ⟨2, _⟩ => t | ⟨3, _⟩ => n

/-- One coordinate. -/
abbrev ix1 (t : Fin 8320) : S8320.Idx := fun | ⟨0, _⟩ => t

/-- The sign of a word. -/
def signOf (x : BitVec 32) : BitVec 32 := if x = 0 then 0 else if x.msb then -1 else 1

/-- The reference's group of a position, as it divides: the quotient of the position less 16 by 64, less one where the
    signs differ and the remainder is not zero; 0 before position 16. -/
def groupOf (t : ℕ) : BitVec 32 :=
  let x := IntOp.subi (BitVec.ofNat 32 t) 16#32
  let d := IntOp.divsi .host x 64#32
  let f := Scalar.select (IntOp.andi (IntOp.cmpi .ne (signOf x) (signOf 64#32)) (IntOp.cmpi .ne (IntOp.remsi .host x 64#32) 0#32))
    (IntOp.subi d 1#32) d
  Scalar.select (IntOp.cmpi .slt (BitVec.ofNat 32 t) 16#32) 0#32 (IntOp.addi f 1#32)

/-- The group of each of the 8320 positions, evaluated. -/
theorem groupOf_eq : ∀ t : Fin 8320, groupOf t.val = BitVec.ofNat 32 ((t.val + 48) / 64) := by decide +kernel

/-- The group of a position. -/
theorem group_apply (t : Fin 8320) : val_main_v14 (F := Ideal) (ix1 t) = BitVec.ofNat 32 ((t.val + 48) / 64) := by
  rw [← groupOf_eq]
  simp only [val_main_v14_apply, val_main_v8_apply, val_main_v7_apply, val_main_call1_v1_apply, val_main_v13_apply, val_main_v11_apply,
    val_main_v12_apply, val_main_call0_v11_apply, val_main_call0_v13_apply, val_main_call0_v12_apply, val_main_call0_v10_apply,
    val_main_call0_v9_apply, val_main_call0_v8_apply, val_main_call0_v7_apply, val_main_call0_v6_apply, val_main_call0_v5_apply,
    val_main_call0_v2_apply, val_main_call0_v1_apply, val_main_v10_apply, val_main_v9_apply]
  rfl

/-- Comparing two groups. -/
theorem group_le (a b : ℕ) (ha : a < 8320) (hb : b < 8320) :
    IntOp.cmpi .sle (BitVec.ofNat 32 ((a + 48) / 64)) (BitVec.ofNat 32 ((b + 48) / 64)) = if (a + 48) / 64 ≤ (b + 48) / 64 then 1#1 else 0#1 := by
  have h1 : (BitVec.ofNat 32 ((a + 48) / 64)).toInt = ((a + 48) / 64 : ℕ) := by
    rw [BitVec.toInt_eq_toNat_of_lt (by rw [BitVec.toNat_ofNat]; omega), BitVec.toNat_ofNat]; omega
  have h2 : (BitVec.ofNat 32 ((b + 48) / 64)).toInt = ((b + 48) / 64 : ℕ) := by
    rw [BitVec.toInt_eq_toNat_of_lt (by rw [BitVec.toNat_ofNat]; omega), BitVec.toNat_ofNat]; omega
  show BitVec.ofBool (BitVec.sle _ _) = _
  rw [BitVec.sle, h1, h2]
  by_cases h : (a + 48) / 64 ≤ (b + 48) / 64
  · rw [if_pos h, decide_eq_true (by exact_mod_cast h)]; rfl
  · rw [if_neg h, decide_eq_false (by exact_mod_cast h)]; rfl

/-- The queries' and keys' array at a sequence, a row, a head and a column. -/
theorem split_apply (x : (⟨S33280x1024, .bf16⟩ : BufTy).Contents (Elt Ideal)) (b : Fin 4) (t : Fin 8320) (h : Fin 4) (d : Fin 256)
    (i : S4x8320x4x256.Idx) (h0 : (i 0).val = b.val) (h1 : (i 1).val = t.val) (h2 : (i 2).val = h.val) (h3 : (i 3).val = d.val) :
    val_main_v1 (F := Ideal) x i = x (ix2 (row b t) (col h d)) := by
  rw [val_main_v1_apply, val_main_v0_apply]
  refine congrArg x (funext fun a => Fin.ext ?_)
  match a with
  | ⟨0, _⟩ => show ((((i 0).val * 8320 + (i 1).val) * 4 + (i 2).val) * 256 + (i 3).val) / 1024 = b.val * 8320 + t.val; omega
  | ⟨1, _⟩ => show ((((i 0).val * 8320 + (i 1).val) * 4 + (i 2).val) * 256 + (i 3).val) % 1024 = h.val * 256 + d.val; omega

/-- The values' array at a sequence, a row, a head and a column. -/
theorem splitv_apply (x : (⟨S33280x512, .bf16⟩ : BufTy).Contents (Elt Ideal)) (b : Fin 4) (t : Fin 8320) (h : Fin 4) (d : Fin 128)
    (i : S4x8320x4x128.Idx) (h0 : (i 0).val = b.val) (h1 : (i 1).val = t.val) (h2 : (i 2).val = h.val) (h3 : (i 3).val = d.val) :
    val_main_v5 (F := Ideal) x i = x (ix2 (row b t) (vcol h d)) := by
  rw [val_main_v5_apply, val_main_v4_apply]
  refine congrArg x (funext fun a => Fin.ext ?_)
  match a with
  | ⟨0, _⟩ => show ((((i 0).val * 8320 + (i 1).val) * 4 + (i 2).val) * 128 + (i 3).val) / 512 = b.val * 8320 + t.val; omega
  | ⟨1, _⟩ => show ((((i 0).val * 8320 + (i 1).val) * 4 + (i 2).val) * 128 + (i 3).val) % 512 = h.val * 128 + d.val; omega

variable (q k : (⟨S33280x1024, .bf16⟩ : BufTy).Contents (Elt Ideal)) (v : (⟨S33280x512, .bf16⟩ : BufTy).Contents (Elt Ideal))

/-- The masked scores. -/
theorem scores_apply (b h : Fin 4) (t n : Fin 8320) : val_main_v21 (F := Ideal) q k (ix4 b h t n) = gscore q k b h t n.val := by
  rw [val_main_v21_apply, val_main_v15_apply, val_main_call2_v1_apply, val_main_v20_apply, val_main_v18_apply, val_main_v19_apply,
    val_main_v16_apply, val_main_v17_apply, val_main_call2_v2_apply, val_main_call2_v0_apply, val_main_cst_apply]
  have e1 : idx_main_v16 (idx_main_v18 (idx_main_call2_v1 (ix4 b h t n))) = ix1 n := funext fun a => by match a with | ⟨0, _⟩ => rfl
  have e2 : idx_main_v17 (idx_main_v19 (idx_main_call2_v1 (ix4 b h t n))) = ix1 t := funext fun a => by match a with | ⟨0, _⟩ => rfl
  rw [e1, e2, group_apply, group_apply, group_le _ _ n.isLt t.isLt]
  unfold gscore
  rw [dif_pos n.isLt]
  split
  · refine (if_pos rfl).trans (Finset.sum_congr rfl fun d _ => congrArg₂ (· * ·) ?_ ?_)
    · exact split_apply q b t h d (lidx_main_v15 (ix4 b h t n) d) rfl rfl rfl rfl
    · exact split_apply k b n h d (ridx_main_v15 (ix4 b h t n) d) rfl rfl rfl rfl
  · exact neg_inf

/-- A maximum taken one element after the other is the largest. -/
theorem fold_top (n : ℕ) (f : ℕ → EReal) : (Finset.univ : Finset (Fin n)).fold max ⊥ (fun k => f k.val) = top f n := by
  refine le_antisymm ?_ (Finset.sup_le fun k hk => ?_)
  · exact (Finset.fold_max_le _).2 ⟨bot_le, fun k _ => Finset.le_sup (f := f) (mem_range.2 k.isLt)⟩
  · exact (Finset.le_fold_max _).2 (.inr ⟨⟨k, mem_range.1 hk⟩, mem_univ _, le_rfl⟩)

/-- The rows' maxima. -/
theorem max_apply (b h : Fin 4) (t : Fin 8320) : val_main_v24 (F := Ideal) q k (ix3 b h t) = top (gscore q k b h t) 8320 := by
  rw [val_main_v24_apply, val_main_v23_apply, val_main_cst_5_apply]
  unfold val_main_v22
  rw [Host.reduce_eq_fold_single _ _ _ _ (by decide)]
  have e : ∀ n, Shape.Reduces.lift (by decide : S4x4x8320x8320.Reduces [3] S4x4x8320) (ix3 b h t) n = ix4 b h t n :=
    fun n => funext fun a => by match a with | ⟨0, _⟩ => rfl | ⟨1, _⟩ => rfl | ⟨2, _⟩ => rfl | ⟨3, _⟩ => rfl
  have f : (val_main_v21 (F := Ideal) q k ∘ Shape.Reduces.lift (by decide : S4x4x8320x8320.Reduces [3] S4x4x8320) (ix3 b h t))
      = fun n : Fin 8320 => gscore q k b h t n.val := funext fun n => (congrArg _ (e n)).trans (scores_apply q k b h t n)
  rw [f]
  refine (congrArg (max · _) neg_inf).trans ((bot_sup_eq _).trans ?_)
  exact (congrArg (fun z => Finset.fold max z _ _) neg_inf).trans (fold_top 8320 _)

/-- The exponentials of the scores less their maximum. -/
theorem exp_apply (b h : Fin 4) (t n : Fin 8320) :
    val_main_v28 (F := Ideal) q k (ix4 b h t n) = Ideal.exp (gscore q k b h t n.val - top (gscore q k b h t) 8320) := by
  have e : idx_main_v25 (idx_main_v26 (ix4 b h t n)) = ix3 b h t :=
    funext fun a => by match a with | ⟨0, _⟩ => rfl | ⟨1, _⟩ => rfl | ⟨2, _⟩ => rfl
  rw [val_main_v28_apply, val_main_v27_apply, val_main_v26_apply, val_main_v25_apply, e, max_apply, scores_apply]
  rfl

/-- The rows' sums. -/
theorem sum_apply (b h : Fin 4) (t : Fin 8320) : val_main_v29 (F := Ideal) q k (ix3 b h t) = mass (gscore q k b h t) 8320 := by
  have e : ∀ n, idx_main_v29 (ix3 b h t) n = ix4 b h t n :=
    fun n => funext fun a => by match a with | ⟨0, _⟩ => rfl | ⟨1, _⟩ => rfl | ⟨2, _⟩ => rfl | ⟨3, _⟩ => rfl
  rw [val_main_v29_apply, val_main_cst_6_apply]
  simp only [e, exp_apply]
  unfold mass
  rw [Finset.sum_range]
  exact (congrArg (· + _) (Ideal.ofBits_zero_f32)).trans (zero_add _)

/-- The softmax's weights. -/
theorem weight_apply (b h : Fin 4) (t n : Fin 8320) : val_main_v32 (F := Ideal) q k (ix4 b h t n)
      = Ideal.div (Ideal.exp (gscore q k b h t n.val - top (gscore q k b h t) 8320)) (mass (gscore q k b h t) 8320) := by
  have e : idx_main_v30 (idx_main_v31 (ix4 b h t n)) = ix3 b h t :=
    funext fun a => by match a with | ⟨0, _⟩ => rfl | ⟨1, _⟩ => rfl | ⟨2, _⟩ => rfl
  rw [val_main_v32_apply, val_main_v31_apply, val_main_v30_apply, e, sum_apply, exp_apply]
  rfl

/-- The reference's result is the attention. -/
theorem result_eq : val_main_v36 (F := Ideal) q k v = attn q k v := by
  funext i
  obtain ⟨b, h, t, e, rfl⟩ := exists_row i
  rw [attn_row, val_main_v36_apply, val_main_v35_apply, val_main_v34_apply, val_main_v33_apply]
  unfold attnAt softmix
  rw [Finset.sum_range]
  have e0 : ∀ n, ridx_main_v33 (idx_main_v34 (idx_main_v35 (ix2 (row b t) (vcol h e)))) n = ix4 b h t n := fun n => funext fun a => Fin.ext (by
    match a with
    | ⟨0, _⟩ => show ((b.val * 8320 + t.val) * 512 + (h.val * 128 + e.val)) / 4259840 = b.val; omega
    | ⟨1, _⟩ => show ((b.val * 8320 + t.val) * 512 + (h.val * 128 + e.val)) / 128 % 4 = h.val; omega
    | ⟨2, _⟩ => show ((b.val * 8320 + t.val) * 512 + (h.val * 128 + e.val)) / 512 % 8320 = t.val; omega
    | ⟨3, _⟩ => rfl)
  have hv : ∀ n : Fin 8320, val_main_v5 (F := Ideal) v (lidx_main_v33 (idx_main_v34 (idx_main_v35 (ix2 (row b t) (vcol h e)))) n)
      = gvalue v b h e n.val := fun n => by
    unfold gvalue
    rw [dif_pos n.isLt]
    exact splitv_apply v b n h e _
      (show ((b.val * 8320 + t.val) * 512 + (h.val * 128 + e.val)) / 4259840 = b.val by omega) rfl
      (show ((b.val * 8320 + t.val) * 512 + (h.val * 128 + e.val)) / 128 % 4 = h.val by omega)
      (show ((b.val * 8320 + t.val) * 512 + (h.val * 128 + e.val)) % 128 = e.val by omega)
  refine Finset.sum_congr rfl fun n _ => ?_
  rw [e0, weight_apply, hv, mul_comm]

end Cert.ReferenceIdeal.Att

end
-- ==== Proof.Pre.lean ====
/-
  What the precondition says: the queries and the keys hold no infinity.
-/
module

public import proofs.«01_k».proof.Pre_finite
public import proofs.«01_k».proof.Proof.Attn
public import Idealize.ShloMosaic.Lib.ReduceAll

@[expose] public section

noncomputable section

namespace Cert.Pre_finite

open Idealize.ShloMosaic Cert.Att

/-- The side conditions that the printed precondition states. -/
instance facts : Facts := ⟨by decide, by decide, by decide, by decide⟩

/-- The word of plus infinity. -/
theorem pos_inf : Ideal.ofBits .f32 0x7F800000#32 = ⊤ := by simp [Ideal.ofBits, Ideal.ieee]

/-- An extended real whose absolute value is below infinity is none of the two infinities. -/
theorem finite_of_abs (x : EReal) (h : BitVec.ofBool (decide (max x (-x) < Ideal.ofBits .f32 0x7F800000#32)) = 1#1) : x ≠ ⊤ ∧ x ≠ ⊥ := by
  rw [pos_inf] at h
  have h' : max x (-x) < ⊤ := by
    by_contra hc
    rw [decide_eq_false hc] at h
    exact absurd h (by decide)
  refine ⟨fun e => ?_, fun e => ?_⟩ <;> subst e <;> simp at h'

/-- Where the precondition holds, the queries hold no infinity and the keys hold none. -/
theorem finite_of_fn (q k : (⟨2, ![33280, 1024]⟩ : Shape).Idx → EReal) (v : (⟨2, ![33280, 512]⟩ : Shape).Idx → EReal)
    (h : fn (F := Ideal) q k v = fun _ => 1#1) : Finite q ∧ Finite k := by
  have h0 := congrFun h (Shape.Idx.first Facts.h_S_)
  dsimp only [fn] at h0
  obtain ⟨h1, h2⟩ := IntOp.andi_eq_one.1 h0
  exact ⟨fun i => finite_of_abs _ (Host.reduce_andi_all _ _ _ _ _ h1 i), fun i => finite_of_abs _ (Host.reduce_andi_all _ _ _ _ _ h2 i)⟩

end Cert.Pre_finite

end
-- ==== Proof.Tables.lean ====
/-
  The two tables of the experts' call: the expert of every block of rows, and the number of blocks in use. What they must
  hold, and the words that the kernel's index maps compute from them.
-/
module

public import Idealize.ShloMosaic.PureOps
public import Idealize.ShloMosaic.Lib.StableHlo

@[expose] public section

noncomputable section

namespace Cert.Moe

open Idealize.ShloMosaic

/-- The index of the one word of the second table. -/
def theWord : (⟨1, ![1]⟩ : Shape).Idx := Shape.Idx.first (by decide)

/-- Every index of the second table is that one. -/
theorem eq_theWord (x : (⟨1, ![1]⟩ : Shape).Idx) : x = theWord := by
  funext a
  fin_cases a
  exact Subsingleton.elim (α := Fin 1) _ _

/-- The index of a block in the first table. -/
def blockIx (n : Fin 552) : (⟨1, ![552]⟩ : Shape).Idx := fun a => ⟨n.val, by fin_cases a; exact n.isLt⟩

/-- Every block names one of the 32 experts, and at least one block is in use. -/
structure Good (T0 : (⟨1, ![552]⟩ : Shape).Idx → BitVec 32) (T1 : (⟨1, ![1]⟩ : Shape).Idx → BitVec 32) : Prop where
  expert : ∀ x, (T0 x).toNat < 32
  one_le : 1 ≤ (T1 theWord).toNat
  lt_signed : (T1 theWord).toNat < 2147483648

/-- A signed comparison of two words below `2 ^ 31` is the comparison of the numbers. -/
theorem slt_eq (n : ℕ) (v : BitVec 32) (hn : n < 2147483648) (hv : v.toNat < 2147483648) :
    (BitVec.ofNat 32 n).slt v = decide (n < v.toNat) := by
  have e : (BitVec.ofNat 32 n).toNat = n := by rw [BitVec.toNat_ofNat]; omega
  rw [BitVec.slt, BitVec.toInt_eq_toNat_of_lt (by rw [e]; omega), BitVec.toInt_eq_toNat_of_lt (by omega), e]
  exact decide_eq_decide.2 Int.ofNat_lt

/-- The kernel's test of a block: it is one of those in use. -/
theorem used_iff (n : ℕ) (v : BitVec 32) (hn : n < 2147483648) (hv : v.toNat < 2147483648) :
    Scalar.cmpi .ne (Scalar.extui (Scalar.cmpi .slt (BitVec.ofNat 32 n) v)) 0#32 = 1#1 ↔ n < v.toNat := by
  unfold Scalar.cmpi IntOp.cmpi Scalar.extui
  simp only [slt_eq n v hn hv]
  by_cases h : n < v.toNat <;> simp [h]

/-- The block that a grid point works on: its own, or the last one in use. -/
theorem min_word (n : ℕ) (v : BitVec 32) (hn : n < 2147483648) (h1 : 1 ≤ v.toNat) (hv : v.toNat < 2147483648) :
    (Scalar.minsi (BitVec.ofNat 32 n) (Scalar.subi v 1#32)).toNat = min n (v.toNat - 1) := by
  have e : (BitVec.ofNat 32 n).toNat = n := by rw [BitVec.toNat_ofNat]; omega
  have es : (v - 1#32).toNat = v.toNat - 1 := by rw [BitVec.toNat_sub]; simp only [BitVec.toNat_ofNat]; omega
  unfold Scalar.minsi IntOp.minsi Scalar.subi IntOp.subi
  rw [slt_eq n _ hn (by rw [es]; omega), es]
  by_cases h : n < v.toNat - 1
  · rw [if_pos (by simpa using h), e]; omega
  · rw [if_neg (by simpa using h), es]; omega

end Cert.Moe

end
-- ==== Proof.MoeBits.lean ====
/-
  The schedule of the experts' call, at any tables that the precondition admits.
-/
module

public import proofs.«01_k».proof.Proof.Tables
public import proofs.«01_k».proof.Proof.Gen.Kernel2.Flash.Runs
public import Idealize.ShloMosaic.Lib.Pipeline.TableIdle
public import Idealize.ShloMosaic.Lib.Pipeline.Covers

@[expose] public section

noncomputable section

namespace Cert.Kernel2.Moe

open Cert.Kernel2 Cert.Kernel2.Gen Cert.Moe
open Idealize.ShloMosaic Idealize.ShloMosaic.TcCoe

/-- The contents of the two tables. -/
def pf (T0 : S552.Idx → BitVec 32) (T1 : S1.Idx → BitVec 32) : pre0.Contents (Elt Bits) :=
  fun | ⟨0, _⟩ => T0 | ⟨1, _⟩ => T1 | ⟨_ + 2, h⟩ => absurd h (by simp)

variable {T0 : S552.Idx → BitVec 32} {T1 : S1.Idx → BitVec 32}

/-- The grid point's coordinate is a number below 552. -/
theorem coord_lt (i : grid0.Coords) : (i 0).val < 552 := (i 0).isLt

/-- The block that a grid point works on: its own, or the last one in use. -/
theorem rows_index (hg : Good T0 T1) (i : grid0.Coords) :
    cc0_transform_0 (F := Bits) inb_S1_S1_0 numel1_S1 (pf T0 T1) i = ![min (i 0).val ((T1 theWord).toNat - 1), 0] := by
  have h := coord_lt i
  unfold cc0_transform_0
  simp only [show (pf T0 T1).at 1 (Rect.unit (s := S1) ![0] S1.size inb_S1_S1_0) numel1_S1 = T1 theWord from congrArg T1 (eq_theWord _)]
  rw [min_word _ _ (by omega) hg.one_le hg.lt_signed]
  rfl

/-- The output block is the rows' block. -/
theorem out_index (hg : Good T0 T1) (i : grid0.Coords) :
    cc0_transform_5 (F := Bits) inb_S1_S1_0 numel1_S1 (pf T0 T1) i = ![min (i 0).val ((T1 theWord).toNat - 1), 0] := rows_index hg i

/-- The expert of a grid point. -/
def expertAt (T0 : S552.Idx → BitVec 32) (n : Fin 552) : BitVec 32 := T0 (blockIx n)

/-- The weights' block is that of the point's expert. -/
theorem expert_index (i : grid0.Coords) :
    cc0_transform_1 (F := Bits) k0_off1_inb numel1_S1 (pf T0 T1) i = ![(expertAt T0 (i 0)).toNat, 0, 0] := by
  have h := coord_lt i
  unfold cc0_transform_1 expertAt
  have e : (pf T0 T1).at 0 (Rect.unit (s := S552) (k0_off1 i) S1.size (k0_off1_inb i)) numel1_S1 = T0 (blockIx (i 0)) := by
    refine congrArg T0 (funext fun a => ?_)
    fin_cases a
    refine Fin.ext ?_
    show (BitVec.ofNat 32 (i 0).val).toNat + 1 * 0 = (i 0).val
    rw [BitVec.toNat_ofNat]; omega
  exact congrArg (fun v : BitVec 32 => (![v.toNat, 0, 0] : Fin 3 → ℕ)) e

/-- Every block that the index maps name lies inside its array. -/
theorem ok (hg : Good T0 T1) : ok0 (F := Bits) (pf T0 T1) := by
  have he : ∀ i : grid0.Coords, (expertAt T0 (i 0)).toNat < 32 := fun i => hg.expert _
  have hr : ∀ i : grid0.Coords, min (i 0).val ((T1 theWord).toNat - 1) < 552 := fun i => lt_of_le_of_lt (Nat.min_le_left _ _) (coord_lt i)
  have hx : ∀ i, cc0_transform_2 (F := Bits) k0_off1_inb numel1_S1 (pf T0 T1) i = ![(expertAt T0 (i 0)).toNat, 0, 0] := fun i => expert_index i
  have hy : ∀ i, cc0_transform_3 (F := Bits) k0_off1_inb numel1_S1 (pf T0 T1) i = ![(expertAt T0 (i 0)).toNat, 0, 0] := fun i => expert_index i
  have hz : ∀ i, cc0_transform_4 (F := Bits) k0_off1_inb numel1_S1 (pf T0 T1) i = ![(expertAt T0 (i 0)).toNat, 0, 0] := fun i => expert_index i
  refine ⟨fun i => ⟨fun a => ?_, .inr (Affine.block_words_dvd (by decide) (by decide))⟩,
    fun i => ⟨fun a => ?_, .inr (Affine.block_words_dvd (by decide) (by decide))⟩,
    fun i => ⟨fun a => ?_, .inl rfl⟩, fun i => ⟨fun a => ?_, .inr (Affine.block_words_dvd (by decide) (by decide))⟩,
    fun i => ⟨fun a => ?_, .inl rfl⟩, fun i => ⟨fun a => ?_, .inl rfl⟩⟩ <;> have := he i <;> have := hr i
  · rw [rows_index hg]; fin_cases a <;> simp <;> omega
  · rw [expert_index]; fin_cases a <;> simp <;> omega
  · rw [hx]; fin_cases a <;> simp <;> omega
  · rw [hy]; fin_cases a <;> simp <;> omega
  · rw [hz]; fin_cases a <;> simp <;> omega
  · rw [out_index hg]; fin_cases a <;> simp <;> omega

/-- The tables as admissible contents, and the pipeline at them. -/
def adm (hg : Good T0 T1) : (pcfg0 (F := Bits)).Adm := ⟨pf T0 T1, ok hg⟩
abbrev cfgA (hg : Good T0 T1) : Pipeline.Cfg sig Λ₀ := cfg0 (F := Bits) (adm hg)

variable (hg : Good T0 T1)

/-- Point `t`'s coordinates. -/
abbrev crd (t : Fin (cfgA hg).N) : (cfgA hg).grid.Coords := (cfgA hg).grid.coords t

/-- The one coordinate of a point is its position. -/
theorem crd_val (t : Fin (cfgA hg).N) : (crd hg t 0).val = t.val :=
  (by decide +kernel : ∀ t : Fin grid0.N, (grid0.coords t 0).val = t.val) t

/-- The body's test at a point, on the words it reads. -/
abbrev Used (t : Fin (cfgA hg).N) : Prop :=
  k0_cond1 (crd hg t) (View.readAt (Elt Bits) (tbM0_1).view (Rect.unit (s := S1) ![0] S1.size inb_S1_S1_0).toLoadRect T1
    (Shape.Idx.first (numel1_S1.symm ▸ Nat.one_pos))) = 1#1

/-- A point is one of those in use. -/
theorem used_iff (t : Fin (cfgA hg).N) : Used hg t ↔ t.val < (T1 theWord).toNat := by
  have e : View.readAt (Elt Bits) (tbM0_1).view (Rect.unit (s := S1) ![0] S1.size inb_S1_S1_0).toLoadRect T1
    (Shape.Idx.first (numel1_S1.symm ▸ Nat.one_pos)) = T1 theWord := congrArg T1 (eq_theWord _)
  have h := coord_lt (crd hg t)
  unfold Used k0_cond1
  rw [e, ← crd_val hg t]
  exact Cert.Moe.used_iff _ _ (by omega) hg.lt_signed

/-- The points that are not in use leave the output's buffer alone, the others write it. -/
theorem idle_eq (t : Fin (cfgA hg).N) : (cfgA hg).idle (5 : Fin 6) ((cfgA hg).grid.coords t) = !decide (t.val < (T1 theWord).toNat) := by
  have e : (adm hg).1.atD 1 ![0] = T1 theWord := by
    unfold Pipeline.Prefetch.Contents.atD
    rw [dif_pos (by decide)]
    exact congrArg T1 (eq_theWord _)
  have h := coord_lt (crd hg t)
  show (!(k0_cond1 (crd hg t) ((adm hg).1.atD 1 ![0]) == 1#1)) = _
  rw [e]
  congr 1
  have := Cert.Moe.used_iff (crd hg t 0).val (T1 theWord) (by omega) hg.lt_signed
  rw [crd_val hg t] at this
  rw [Bool.eq_iff_iff, beq_iff_eq, decide_eq_true_iff, ← this]
  unfold k0_cond1
  rw [crd_val hg t]

/-- The output block of a point. -/
theorem index5 (t : Fin (cfgA hg).N) : ((cfgA hg).win (5 : Fin 6)).index t = ![min t.val ((T1 theWord).toNat - 1), 0] := by
  rw [← crd_val hg t]
  exact out_index hg (crd hg t)

/-- A point writes its block back exactly if it is the last point, or the next one is in use. -/
theorem flush_eq (t : Fin (cfgA hg).N) :
    ((cfgA hg).win (5 : Fin 6)).flush t = decide (t.val + 1 = 552 ∨ t.val + 1 < (T1 theWord).toNat) := by
  have h1 := hg.one_le
  have hN : (cfgA hg).N = 552 := N_0
  have ht : t.val < 552 := lt_of_lt_of_eq t.isLt hN
  rw [Pipeline.Window.flush_eq_flushF, Bool.eq_iff_iff, decide_eq_true_iff]
  unfold Pipeline.Window.flushF
  rw [Bool.and_eq_true, Bool.or_eq_true, decide_eq_true_iff, decide_eq_true_iff]
  constructor
  · rintro ⟨-, h | ⟨h, a, ha⟩⟩
    · exact .inl (h.trans hN)
    · rw [index5 hg, index5 hg] at ha
      refine .inr ?_
      by_contra hc
      apply ha
      simp only at hc ⊢
      rw [show min (t.val + 1) ((T1 theWord).toNat - 1) = min t.val ((T1 theWord).toNat - 1) from by omega]
  · rintro (h | h)
    · exact ⟨rfl, .inl (h.trans hN.symm)⟩
    · by_cases hl : t.val + 1 = 552
      · exact ⟨rfl, .inl (hl.trans hN.symm)⟩
      · refine ⟨rfl, .inr ⟨lt_of_lt_of_eq (by omega) hN.symm, 0, ?_⟩⟩
        rw [index5 hg, index5 hg]
        simp only [Matrix.cons_val_zero]
        omega

/-- Past the points in use the output's buffer holds what the last of them left. -/
theorem fresh_eq (n : ℕ) (hn : n < 552) (h : (T1 theWord).toNat ≤ n) : (cfgA hg).fresh (5 : Fin 6) n = false := by
  have h1 := hg.one_le
  have hN : (cfgA hg).N = 552 := N_0
  induction n with
  | zero => omega
  | succ n ih =>
    rw [Pipeline.Cfg.fresh_succ _ _ _ (lt_of_lt_of_eq (by omega) hN.symm), flush_eq hg, idle_eq hg]
    rw [decide_eq_false (by simp only; omega), Bool.false_or]
    by_cases hq : n < (T1 theWord).toNat
    · simp [hq]
    · rw [ih (by omega) (by omega), Bool.and_false]

end Cert.Kernel2.Moe

end
-- ==== Proof.MoeBitsRun.lean ====
/-
  The run of the experts' call, at any tables that the precondition admits: every point in use leaves its block in
  the output's buffer, the points after them leave the buffer alone, and the arrays end at what the points wrote back.
-/
module

public import proofs.«01_k».proof.Proof.MoeBits
public import proofs.«01_k».proof.Proof.Gen.Kernel2.Launch
public import Idealize.ShloMosaic.Lib.Pipeline.FrameBody
public import Idealize.ShloMosaic.Lib.Pipeline.TableIdle
public import Idealize.ShloMosaic.Lib.Pipeline.Quiescent
public import Idealize.ShloMosaic.Lib.Claim
public import Idealize.ShloMosaic.Lib.Pipeline.Kit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Kernel2.Moe

open Cert.Kernel2 Cert.Kernel2.Gen Cert.Moe
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resource algebra of the pipeline's staging cells, embedded whole. -/
abbrev EP : Emb (UR sig nD τ) 𝕄 := emb₁

variable {T0 : S552.Idx → BitVec 32} {T1 : S1.Idx → BitVec 32} (hg : Good T0 T1)
variable (m : (ℓ : Loc nD τ sig) → Buf (Elt Bits) ℓ) (ρ : Dev nD → PrngReg)

abbrev pcs : Fin 1 → Pipeline.Cfg sig Λ₀ := Pipeline.pin (pcfgs (F := Bits)) fun _ => adm hg

/-! ## The staging buffers of a point -/

abbrev ms0_0 (t : Fin (cfgA hg).N) : Memref sig .tc .vmem S512x1024 .bf16 := spec0_0.stage ((cfgA hg).slots t (0 : Fin 6))
abbrev hs0_0 (t : Fin (cfgA hg).N) : (ms0_0 hg t).IsWhole := hstage0_0 (((cfgA hg).slots t (0 : Fin 6)).cast nbuf0_0)
abbrev ms0_1 (t : Fin (cfgA hg).N) : Memref sig .tc .vmem S1x2048x1024 .bf16 := spec0_1.stage ((cfgA hg).slots t (1 : Fin 6))
abbrev hs0_1 (t : Fin (cfgA hg).N) : (ms0_1 hg t).IsWhole := hstage0_1 (((cfgA hg).slots t (1 : Fin 6)).cast nbuf0_1)
abbrev ms0_2 (t : Fin (cfgA hg).N) : Memref sig .tc .vmem S1x1x1024 .f32 := spec0_2.stage ((cfgA hg).slots t (2 : Fin 6))
abbrev hs0_2 (t : Fin (cfgA hg).N) : (ms0_2 hg t).IsWhole := hstage0_2 (((cfgA hg).slots t (2 : Fin 6)).cast nbuf0_2)
abbrev ms0_3 (t : Fin (cfgA hg).N) : Memref sig .tc .vmem S1x512x2048 .bf16 := spec0_3.stage ((cfgA hg).slots t (3 : Fin 6))
abbrev hs0_3 (t : Fin (cfgA hg).N) : (ms0_3 hg t).IsWhole := hstage0_3 (((cfgA hg).slots t (3 : Fin 6)).cast nbuf0_3)
abbrev ms0_4 (t : Fin (cfgA hg).N) : Memref sig .tc .vmem S1x1x2048 .f32 := spec0_4.stage ((cfgA hg).slots t (4 : Fin 6))
abbrev hs0_4 (t : Fin (cfgA hg).N) : (ms0_4 hg t).IsWhole := hstage0_4 (((cfgA hg).slots t (4 : Fin 6)).cast nbuf0_4)
abbrev ms0_5 (t : Fin (cfgA hg).N) : Memref sig .tc .vmem S256x2048 .f32 := spec0_5.stage ((cfgA hg).slots t (5 : Fin 6))
abbrev hs0_5 (t : Fin (cfgA hg).N) : (ms0_5 hg t).IsWhole := hstage0_5 (((cfgA hg).slots t (5 : Fin 6)).cast nbuf0_5)

/-- Window `w`'s block at point `t`, read off its array at launch. -/
def iblk (c : Dev nD) (w : Fin (cfgA hg).W) (t : Fin (cfgA hg).N) : (((cfgA hg).win w).xblock (crd hg t)).Idx → Elt Bits ((cfgA hg).win w).elt :=
  (((cfgA hg).win w).blk t).view.read (Elt Bits) (m (((cfgA hg).win w).arr.view.loc (c : Thread nD τ)))

/-! ## What the output's buffer holds -/

/-- What a point in use leaves in the output's buffer. -/
def outAt (c : Dev nD) (t : Fin (cfgA hg).N) (q : Used hg t) : S256x2048.Idx → Elt Bits .f32 :=
  out0_A_5 c (crd hg t) (ms0_0 hg t) (hs0_0 hg t) (ms0_1 hg t) (hs0_1 hg t) (ms0_2 hg t) (hs0_2 hg t) (ms0_3 hg t) (hs0_3 hg t) (ms0_4 hg t) (hs0_4 hg t) (ms0_5 hg t) (hs0_5 hg t) T0 T1 (iblk hg m c (0 : Fin 6) t) (iblk hg m c (1 : Fin 6) t) (iblk hg m c (2 : Fin 6) t) (iblk hg m c (3 : Fin 6) t) (iblk hg m c (4 : Fin 6) t) q

/-- Reading back the point's writes, whatever the buffer held before them. -/
theorem read_writes (c : Dev nD) (t : Fin (cfgA hg).N) (q : Used hg t) (d) :
    (ms0_5 hg t).view.read (Elt Bits) ((ms0_5 hg t).view.writes (Elt Bits) d
      (kernelRun0_A c (crd hg t) (ms0_0 hg t) (hs0_0 hg t) (ms0_1 hg t) (hs0_1 hg t) (ms0_2 hg t) (hs0_2 hg t) (ms0_3 hg t) (hs0_3 hg t) (ms0_4 hg t) (hs0_4 hg t) (ms0_5 hg t) (hs0_5 hg t) T0 T1 (iblk hg m c (0 : Fin 6) t) (iblk hg m c (1 : Fin 6) t) (iblk hg m c (2 : Fin 6) t) (iblk hg m c (3 : Fin 6) t) (iblk hg m c (4 : Fin 6) t) q).1) = outAt hg m c t q := by
  unfold outAt out0_A_5
  exact View.read_writes_of_cover _ _ _ _ _ (cover0_A_5 c _ _ _ _ _ _ _ _ _ _ _ _ _ _ _ _ _ _ _ _ _)

theorem outAt_congr (c : Dev nD) {t t' : Fin (cfgA hg).N} (h : t = t') (q : Used hg t) (q' : Used hg t') : outAt hg m c t q = outAt hg m c t' q' := by
  subst h; rfl

/-- The last point in use up to `t`. -/
def lastUsed (t : Fin (cfgA hg).N) : Fin (cfgA hg).N := ⟨min t.val ((T1 theWord).toNat - 1), lt_of_le_of_lt (Nat.min_le_left _ _) t.isLt⟩

theorem used_lastUsed (t : Fin (cfgA hg).N) : Used hg (lastUsed hg t) := by
  have := hg.one_le
  rw [used_iff]
  show min t.val ((T1 theWord).toNat - 1) < _
  omega

/-- What the output's buffer holds after point `t`: what the last point in use left. -/
def outAfter (c : Dev nD) (t : Fin (cfgA hg).N) : S256x2048.Idx → Elt Bits .f32 := outAt hg m c (lastUsed hg t) (used_lastUsed hg t)

theorem outAfter_used (c : Dev nD) (t : Fin (cfgA hg).N) (q : Used hg t) : outAfter hg m c t = outAt hg m c t q := by
  refine outAt_congr hg m c (Fin.ext ?_) _ _
  have := (used_iff hg t).1 q
  show min t.val ((T1 theWord).toNat - 1) = t.val
  omega

theorem outAfter_idle (c : Dev nD) (t : Fin (cfgA hg).N) (q : ¬Used hg t) :
    outAfter hg m c t = outAfter hg m c ⟨t.val - 1, lt_of_le_of_lt (Nat.sub_le _ _) t.isLt⟩ := by
  refine outAt_congr hg m c (Fin.ext ?_) _ _
  rw [used_iff] at q
  have := hg.one_le
  show min t.val ((T1 theWord).toNat - 1) = min (t.val - 1) ((T1 theWord).toNat - 1)
  omega

attribute [irreducible] outAt outAfter

/-! ## The pipeline's proof data -/

/-- Before every point the kernel holds its halves of the tables. -/
def Phi (c : Dev nD) : sProp 𝕄 :=
  iprop((tbM0_0.view.loc (c : Thread nD τ) ↦{fullShare.right} T0) ∗ (tbM0_1.view.loc (c : Thread nD τ) ↦{fullShare.right} T1))

/-- The proof data: the inputs' buffers hold their blocks, the output's what the last point in use left. -/
def dats (_ : Fin 1) (c : Dev nD) : Dat τ (Elt Bits) Unit ℕ (UR sig nD τ) ℕ (cfgA hg) c where
  A w := m (((cfgA hg).win w).arr.view.loc (c : Thread nD τ))
  after w t := match w with
    | ⟨0, _⟩ => iblk hg m c (0 : Fin 6) t
    | ⟨1, _⟩ => iblk hg m c (1 : Fin 6) t
    | ⟨2, _⟩ => iblk hg m c (2 : Fin 6) t
    | ⟨3, _⟩ => iblk hg m c (3 : Fin 6) t
    | ⟨4, _⟩ => iblk hg m c (4 : Fin 6) t
    | ⟨5, _⟩ => outAfter hg m c t
  Φ _ := Phi (T0 := T0) (T1 := T1) c
  q _ := fullShare
  owed _ := 0

theorem after0_0 (c : Dev nD) (t : Fin (cfgA hg).N) : (dats hg m 0 c).after (0 : Fin 6) t = iblk hg m c (0 : Fin 6) t := rfl
theorem after0_1 (c : Dev nD) (t : Fin (cfgA hg).N) : (dats hg m 0 c).after (1 : Fin 6) t = iblk hg m c (1 : Fin 6) t := rfl
theorem after0_2 (c : Dev nD) (t : Fin (cfgA hg).N) : (dats hg m 0 c).after (2 : Fin 6) t = iblk hg m c (2 : Fin 6) t := rfl
theorem after0_3 (c : Dev nD) (t : Fin (cfgA hg).N) : (dats hg m 0 c).after (3 : Fin 6) t = iblk hg m c (3 : Fin 6) t := rfl
theorem after0_4 (c : Dev nD) (t : Fin (cfgA hg).N) : (dats hg m 0 c).after (4 : Fin 6) t = iblk hg m c (4 : Fin 6) t := rfl
theorem after0_5 (c : Dev nD) (t : Fin (cfgA hg).N) : (dats hg m 0 c).after (5 : Fin 6) t = outAfter hg m c t := rfl

/-- An input's buffer holds its block when the body runs. -/
theorem before0_0 (c : Dev nD) (t : Fin (cfgA hg).N) (d) : (dats hg m 0 c).before (0 : Fin 6) t d = iblk hg m c (0 : Fin 6) t :=
  ((dats hg m 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA hg).N) (d) : (dats hg m 0 c).before (1 : Fin 6) t d = iblk hg m c (1 : Fin 6) t :=
  ((dats hg m 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA hg).N) (d) : (dats hg m 0 c).before (2 : Fin 6) t d = iblk hg m c (2 : Fin 6) t :=
  ((dats hg m 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA hg).N) (d) : (dats hg m 0 c).before (3 : Fin 6) t d = iblk hg m c (3 : Fin 6) t :=
  ((dats hg m 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA hg).N) (d) : (dats hg m 0 c).before (4 : Fin 6) t d = iblk hg m c (4 : Fin 6) t :=
  ((dats hg m 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- A point that is not in use leaves the output's buffer alone. -/
theorem idle_of_not_used (t : Fin (cfgA hg).N) (q : ¬Used hg t) : (cfgA hg).idle (5 : Fin 6) ((cfgA hg).grid.coords t) = true := by
  rw [idle_eq hg, decide_eq_false (by rwa [← used_iff hg])]; rfl

theorem idle_of_used (t : Fin (cfgA hg).N) (q : Used hg t) : (cfgA hg).idle (5 : Fin 6) ((cfgA hg).grid.coords t) = false := by
  rw [idle_eq hg, decide_eq_true ((used_iff hg t).1 q)]; rfl

/-- At a point that is not in use the output's buffer holds what the point before left. -/
theorem before0_5 (c : Dev nD) (t : Fin (cfgA hg).N) (q : ¬Used hg t) (d) :
    (dats hg m 0 c).before (5 : Fin 6) t d = outAfter hg m c t := by
  rw [(dats hg m 0 c).before_out_traj (5 : Fin 6) rfl (fun _ _ => rfl) (fun t ht hi _ => ?_) t.val t rfl d,
    fresh_eq hg t.val (lt_of_lt_of_eq t.isLt N_0) (by rw [used_iff] at q; omega)]
  · rw [if_neg Bool.false_ne_true, outAfter_idle hg m c t q]; rfl
  · refine outAfter_idle hg m c t fun q => ?_
    rw [idle_of_used hg t q] at hi
    exact Bool.false_ne_true hi

/-! ## The body at a point -/

/-- The body at point `t` on its staging buffers. -/
abbrev bodyAt0 (t : Fin (cfgA hg).N) : Prog (TpuEff nD τ sig (Elt Bits) Λ₀ .tc) PUnit :=
  cc0_moe_experts (crd hg t) (Memref.whole main_arg0) (Memref.isWhole_whole _) (Memref.whole main_arg1) (Memref.isWhole_whole _) (ms0_0 hg t) (hs0_0 hg t) (ms0_1 hg t) (hs0_1 hg t) (ms0_2 hg t) (hs0_2 hg t) (ms0_3 hg t) (hs0_3 hg t) (ms0_4 hg t) (hs0_4 hg t) (ms0_5 hg t) (hs0_5 hg t)

set_option maxHeartbeats 4000000 in
/-- The body's obligation at point `t`: it runs from what the buffers hold before the point to what they hold after it. -/
theorem sound_body (c : Dev nD) (t : Fin (cfgA hg).N) :
    iprop((dats hg m 0 c).Φ t.castSucc ∗ (dats hg m 0 c).owesAt () t.castSucc
        ∗ (∃ d, owns (c : Thread nD τ) (ms0_0 hg t) fullShare ((dats hg m 0 c).before (0 : Fin 6) t d))
        ∗ (∃ d, owns (c : Thread nD τ) (ms0_1 hg t) fullShare ((dats hg m 0 c).before (1 : Fin 6) t d))
        ∗ (∃ d, owns (c : Thread nD τ) (ms0_2 hg t) fullShare ((dats hg m 0 c).before (2 : Fin 6) t d))
        ∗ (∃ d, owns (c : Thread nD τ) (ms0_3 hg t) fullShare ((dats hg m 0 c).before (3 : Fin 6) t d))
        ∗ (∃ d, owns (c : Thread nD τ) (ms0_4 hg t) fullShare ((dats hg m 0 c).before (4 : Fin 6) t d))
        ∗ (∃ d, owns (c : Thread nD τ) (ms0_5 hg t) fullShare ((dats hg m 0 c).before (5 : Fin 6) t d)))
      ⊢ wp frame (wpE (defs₀ (F := Bits)) Variants.none c none) Set.univ (bodyAt0 hg t) fun _ =>
          iprop((dats hg m 0 c).Φ t.succ ∗ (dats hg m 0 c).owesAt () t.succ
            ∗ bigSep Finset.univ fun w : Fin (cfgA hg).W =>
                match (cfgA hg).idle w ((cfgA hg).grid.coords t) with
                | true =>
                  match ((cfgA hg).win w).flush t with
                  | false => iprop(∃ d, owns (c : Thread nD τ) (((cfgA hg).win w).stage ((cfgA hg).slots t w)) fullShare ((dats hg m 0 c).before w t d))
                  | true => owns (c : Thread nD τ) (((cfgA hg).win w).stage ((cfgA hg).slots t w)) fullShare ((dats hg m 0 c).after w t)
                | false => owns (c : Thread nD τ) (((cfgA hg).win w).stage ((cfgA hg).slots t w)) fullShare ((dats hg m 0 c).after w t)) := by
  rw [bigSep_W0]
  by_cases q0 : Used hg t
  · rewrite [idle_of_used hg t q0]
    simp only [before0_0, before0_1, before0_2, before0_3, before0_4, after0_0, after0_1, after0_2, after0_3, after0_4, after0_5]
    rewrite [show (dats hg m 0 c).Φ t.succ = Phi (T0 := T0) (T1 := T1) c from rfl, show (dats hg m 0 c).Φ t.castSucc = Phi (T0 := T0) (T1 := T1) c from rfl,
      show (dats hg m 0 c).owesAt () t.succ = (dats hg m 0 c).owesAt () t.castSucc from rfl, outAfter_used hg m c t q0]
    unfold Phi
    iintro ⟨⟨HT0, HT1⟩, Ho, ⟨%d0, H0⟩, ⟨%d1, H1⟩, ⟨%d2, H2⟩, ⟨%d3, H3⟩, ⟨%d4, H4⟩, ⟨%d5, H5⟩⟩
    iapply ((kernelRun0_A c (crd hg t) (ms0_0 hg t) (hs0_0 hg t) (ms0_1 hg t) (hs0_1 hg t) (ms0_2 hg t) (hs0_2 hg t) (ms0_3 hg t) (hs0_3 hg t) (ms0_4 hg t) (hs0_4 hg t) (ms0_5 hg t) (hs0_5 hg t) T0 T1 (iblk hg m c (0 : Fin 6) t) (iblk hg m c (1 : Fin 6) t) (iblk hg m c (2 : Fin 6) t) (iblk hg m c (3 : Fin 6) t) (iblk hg m c (4 : Fin 6) t) q0).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact read_writes hg m c t q0 e5
  · rewrite [idle_of_not_used hg t q0]
    simp only [before0_0, before0_1, before0_2, before0_3, before0_4, before0_5 hg m c t q0, after0_0, after0_1, after0_2, after0_3, after0_4, after0_5]
    rewrite [show (dats hg m 0 c).Φ t.succ = Phi (T0 := T0) (T1 := T1) c from rfl, show (dats hg m 0 c).Φ t.castSucc = Phi (T0 := T0) (T1 := T1) c from rfl,
      show (dats hg m 0 c).owesAt () t.succ = (dats hg m 0 c).owesAt () t.castSucc from rfl]
    unfold Phi
    iintro ⟨⟨HT0, HT1⟩, Ho, ⟨%d0, H0⟩, ⟨%d1, H1⟩, ⟨%d2, H2⟩, ⟨%d3, H3⟩, ⟨%d4, H4⟩, ⟨%d5, H5⟩⟩
    iapply ((kernelRun0_B c (crd hg t) (ms0_0 hg t) (hs0_0 hg t) (ms0_1 hg t) (hs0_1 hg t) (ms0_2 hg t) (hs0_2 hg t) (ms0_3 hg t) (hs0_3 hg t) (ms0_4 hg t) (hs0_4 hg t) (ms0_5 hg t) (hs0_5 hg t) T0 T1 (iblk hg m c (0 : Fin 6) t) (iblk hg m c (1 : Fin 6) t) (iblk hg m c (2 : Fin 6) t) (iblk hg m c (3 : Fin 6) t) (iblk hg m c (4 : Fin 6) t) q0).2 _ _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexact H5
    iintro ⟨H0, H1, H2, H3, H4, HT0, HT1, H5⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    cases ((cfgA hg).win (5 : Fin 6)).flush t
    · iexists d5; iexact H5
    · iexact H5

/-- The obligation at every point. -/
theorem body_obligation (c : Dev nD) : BodyObligation (dats hg m 0 c) (defs₀ (F := Bits)) Variants.none () Set.univ := fun t => by
  rw [bigSep_W0]
  exact sound_body hg m c t

/-! ## The launch -/

/-- The launch element of the staging cells. -/
def u₀ : UR sig nD τ :=
  initOf (Pipeline.cells (pcs hg) ((launch0 (F := Bits)).cellOf_inj fun _ => adm hg))
    (Pipeline.launchToks (pcs hg) ((launch0 (F := Bits)).cellOf_inj fun _ => adm hg))

theorem share_eq (c : Dev nD) (w : Fin (cfgA hg).W) : (dats hg m 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The tables give what is held before the first point, -/
theorem phi0_intro (c : Dev nD) :
    iprop(BI.emp ∗ Pipeline.prefHeld pre0 c (fun _ => fullShare.right) (adm hg).1 ∗ Pipeline.scopedRest spec0 c) ⊢ (dats hg m 0 c).Φ 0 := by
  rw [prefHeld_eq, scopedRest0_eq, show (dats hg m 0 c).Φ 0 = Phi (T0 := T0) (T1 := T1) c from rfl]
  unfold Phi
  iintro ⟨-, ⟨HT0, HT1⟩, -⟩
  isplitl [HT0]
  · iexact HT0
  iexact HT1

/-- and nothing is left to give back after the last. -/
theorem phiN_exit (c : Dev nD) : (dats hg m 0 c).Φ (Fin.last (cfgA hg).N) ⊢ iprop(BI.emp ∗ Pipeline.scopedRest spec0 c) := by
  rw [scopedRest0_eq]
  iintro -
  isplitr; · iempintro
  iempintro

/-- The memory at the end: every array at what the points wrote back, the tables as they were. -/
def QC : PUnit × MemSt nD τ sig (Elt Bits) → Prop := fun r =>
  ∀ c : Dev nD, (∀ w : Fin (cfgA hg).W, r.2.mem (((cfgA hg).win w).arr.view.loc (c : Thread nD τ)) = (dats hg m 0 c).arrAt w (cfgA hg).N)
    ∧ ∀ j, r.2.mem ((c : Thread nD τ).loc (pre0.ref j)) = (adm hg).1 j

/-- The launch memory's tables are the ones the schedule is read off. -/
def Tabled (T0 : S552.Idx → BitVec 32) (T1 : S1.Idx → BitVec 32) (m : (ℓ : Loc nD τ sig) → Buf (Elt Bits) ℓ) : Prop :=
  ∀ c : Dev nD, m ((c : Thread nD τ).loc main_arg0) = T0 ∧ m ((c : Thread nD τ).loc main_arg1) = T1

theorem V_pre (hp : Tabled T0 T1 m) (c : Dev nD) (j : Fin 2) : m ((c : Thread nD τ).loc (pre0.ref j)) = (adm hg).1 j := by
  fin_cases j
  · exact (hp c).1
  · exact (hp c).2

set_option backward.isDefEq.respectTransparency.types false in
set_option maxHeartbeats 4000000 in
/-- From a memory with these tables the program terminates, with the arrays as stated and every semaphore at zero. -/
theorem run_main (hp : Tabled T0 T1 m) :
    θ_run (defs (F := Bits)) (onTc (τ := τ) (main (F := Bits))) (s₀ m ρ) (fun r => QC hg m r ∧ r.2.sem = fun _ => 0) :=
  Pipeline.θ_run_region_noSem_pf_quiescent pcfgs (fun _ => adm hg) (dats hg m) () ((launch0 (F := Bits)).cellOf_inj fun _ => adm hg) (0 : Fin 1)
    (launch0 (F := Bits)).win.to₀ (launch0 (F := Bits)).pre EP defs₀ Variants.none m ρ main
    (hbody := fun c => (body_obligation hg m c).loose) (hne := (launch0 (F := Bits)).block_pos)
    (harr := (launch0 (F := Bits)).arr_whole) (hstage := (launch0 (F := Bits)).stage_whole) (howed := fun _ _ => rfl)
    (u₀ := u₀ hg) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hg) (dats hg m) 0 (launch0 (F := Bits)).win.arr_inj c (launch0 (F := Bits)).arr_whole
      (share_eq hg m c) _ _ fun _ => rfl)
    (hpf := V_pre hg m hp)
    (X := fun _ => iprop(emp)) (Y := fun _ => iprop(emp)) (Z := fun _ => iprop(emp))
    (hX := fun c => by rw [unscopedRestP0_eq]; iintro -; isplitr <;> iempintro)
    (hin := phi0_intro hg m)
    (hout := phiN_exit hg m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem args_unchanged (hp : Tabled T0 T1 m) (r : PUnit × MemSt nD τ sig (Elt Bits)) (h : QC hg m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 0).trans (hp c).1.symm, ((h c).2 1).trans (hp c).2.symm,
    ((h c).1 (0 : Fin 6)).trans ((dats hg m 0 c).arrAt_in (0 : Fin 6) rfl _), ((h c).1 (1 : Fin 6)).trans ((dats hg m 0 c).arrAt_in (1 : Fin 6) rfl _),
    ((h c).1 (2 : Fin 6)).trans ((dats hg m 0 c).arrAt_in (2 : Fin 6) rfl _), ((h c).1 (3 : Fin 6)).trans ((dats hg m 0 c).arrAt_in (3 : Fin 6) rfl _),
    ((h c).1 (4 : Fin 6)).trans ((dats hg m 0 c).arrAt_in (4 : Fin 6) rfl _)⟩

end Cert.Kernel2.Moe

end
-- ==== Proof.MoeMath.lean ====
/-
  The experts' feed-forward as mathematics: every row of a block goes through the block's expert, a product with its first
  matrix and bias, the gated unit, a product with its second matrix and bias.
-/
module

public import proofs.«01_k».proof.Proof.Tables
public import Idealize.ShloMosaic.PureOps.Ideal.Laws
public import Idealize.ShloMosaic.Lib.Pointwise.Index

@[expose] public section

noncomputable section

namespace Cert.Moe

open Idealize.ShloMosaic Finset

/-- The limit of the gated unit, 7, its negative, and the gate's slope, 1.702. -/
def lim : EReal := Ideal.ofBits .f32 0x40E00000#32
def negLim : EReal := Ideal.ofBits .f32 0xC0E00000#32
def slope : EReal := Ideal.ofBits .f32 0x3FD9DB23#32

/-- The word of the negated slope is the slope's negative. -/
theorem neg_slope : Ideal.ofBits .f32 0xBFD9DB23#32 = -slope := by
  unfold slope
  simp [Ideal.ofBits, Ideal.ieee]

/-- The gated unit of a gate and an up value: both limited, the gate times its sigmoid at the slope, times the up value plus one. -/
def swiglu (g u : EReal) : EReal :=
  min g lim * Ideal.div 1 (1 + Ideal.exp (-(slope * min g lim))) * (min lim (max negLim u) + 1)

/-- Column `k` of row `n`, of which the array holds the two halves one above the other. -/
def token (xs : (⟨2, ![282624, 1024]⟩ : Shape).Idx → EReal) (n : Fin 141312) (k : Fin 2048) : EReal :=
  xs (ix2 ⟨2 * n.val + k.val / 1024, by omega⟩ ⟨k.val % 1024, by omega⟩)

section
variable (xs : (⟨2, ![282624, 1024]⟩ : Shape).Idx → EReal) (wi : (⟨3, ![32, 2048, 1024]⟩ : Shape).Idx → EReal)
  (bi : (⟨3, ![32, 1, 1024]⟩ : Shape).Idx → EReal) (wo : (⟨3, ![32, 512, 2048]⟩ : Shape).Idx → EReal)
  (bo : (⟨3, ![32, 1, 2048]⟩ : Shape).Idx → EReal)

/-- The first product and bias of expert `e`. -/
def hidden (e : Fin 32) (n : Fin 141312) (f : Fin 1024) : EReal :=
  (∑ k : Fin 2048, token xs n k * wi (ix3 e k f)) + bi (ix3 e 0 f)

/-- What expert `e` makes of row `n`, at column `d`. -/
def ffn (e : Fin 32) (n : Fin 141312) (d : Fin 2048) : EReal :=
  (∑ f : Fin 512, swiglu (hidden xs wi bi e n ⟨f.val, by omega⟩) (hidden xs wi bi e n ⟨512 + f.val, by omega⟩) * wo (ix3 e f d)) + bo (ix3 e 0 d)

/-- The expert of a row: the one that its block of 256 rows names. -/
def expertOf (T0 : (⟨1, ![552]⟩ : Shape).Idx → BitVec 32) (hT : ∀ x, (T0 x).toNat < 32) (n : Fin 141312) : Fin 32 :=
  ⟨(T0 (blockIx ⟨n.val / 256, by omega⟩)).toNat, hT _⟩

/-- The experts' result. -/
def experts (T0 : (⟨1, ![552]⟩ : Shape).Idx → BitVec 32) (hT : ∀ x, (T0 x).toNat < 32) :
    (⟨2, ![141312, 2048]⟩ : Shape).Idx → EReal :=
  fun i => ffn xs wi bi wo bo (expertOf T0 hT ⟨(i 0).val, (i 0).isLt⟩) ⟨(i 0).val, (i 0).isLt⟩ ⟨(i 1).val, (i 1).isLt⟩

end

end Cert.Moe

end
-- ==== Proof.MoeBlock.lean ====
/-
  What the experts' kernel computes of a block of rows and an expert's matrices and biases.
-/
module

public import proofs.«01_k».proof.Proof.MoeMath
public import proofs.«01_k».proof.Proof.Gen.Kernel2Ideal.Flash.Runs
public import Idealize.ShloMosaic.Lib.VecWindow
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.Lib.Pointwise.Select

@[expose] public section

noncomputable section

namespace Cert.Kernel2Ideal.Moe

open Cert.Kernel2Ideal Cert.Kernel2Ideal.Gen Cert.Moe Idealize.ShloMosaic Idealize.ShloMosaic.TcCoe Finset

/-- Column `k` of row `r` of a block, of which the array holds the two halves one above the other. -/
def rowAt (x : FVec Ideal S512x1024 .bf16) (r : Fin 256) (k : Fin 2048) : EReal :=
  if h : k.val < 1024 then x (ix2 ⟨2 * r.val, by omega⟩ ⟨k.val, h⟩) else x (ix2 ⟨2 * r.val + 1, by omega⟩ ⟨k.val - 1024, by omega⟩)

/-- The first product and bias. -/
def hiddenAt (x : FVec Ideal S512x1024 .bf16) (w : FVec Ideal S1x2048x1024 .bf16) (b : FVec Ideal S1x1x1024 .f32) (r : Fin 256) (f : Fin 1024) :
    EReal := (∑ k : Fin 2048, rowAt x r k * w (ix3 0 k f)) + b (ix3 0 0 f)

/-- The gated unit of a block's rows. -/
theorem pay2_apply (x : FVec Ideal S512x1024 .bf16) (w : FVec Ideal S1x2048x1024 .bf16) (b : FVec Ideal S1x1x1024 .f32) (r : Fin 256) (f : Fin 512) :
    k0_pay2 (F := Ideal) x w b (ix2 r f) = swiglu (hiddenAt x w b r ⟨f.val, by omega⟩) (hiddenAt x w b r ⟨512 + f.val, by omega⟩) := by
  unfold k0_pay2
  pointwise
  rw [neg_slope, EReal.neg_mul]
  rfl

/-- The second product and bias. -/
theorem pay1_apply (a : FVec Ideal S256x512 .bf16) (w : FVec Ideal S512x2048 .bf16) (b : FVec Ideal S1x1x2048 .f32) (r : Fin 256) (d : Fin 2048) :
    k0_pay1 (F := Ideal) a w b (ix2 r d) = (∑ f : Fin 512, a (ix2 r f) * w (ix2 f d)) + b (ix3 0 0 d) := by
  unfold k0_pay1
  pointwise

/-- The second matrix, one expert's. -/
theorem pay3_apply (w : FVec Ideal S1x512x2048 .bf16) (f : Fin 512) (d : Fin 2048) :
    k0_pay3 (F := Ideal) w (ix2 f d) = w (ix3 0 f d) := by
  unfold k0_pay3
  pointwise

/-- What a point in use stores, at a row and a column of its block. -/
theorem out_apply (c : Dev nD) (i : grid0.Coords) (arg3 : Memref sig .tc .vmem S512x1024 .bf16) (harg3 : arg3.IsWhole) (arg4 : Memref sig .tc .vmem S1x2048x1024 .bf16) (harg4 : arg4.IsWhole) (arg5 : Memref sig .tc .vmem S1x1x1024 .f32) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S256x2048 .f32) (harg8 : arg8.IsWhole)
    (T0 : S552.Idx → BitVec 32) (T1 : S1.Idx → BitVec 32) (x0 : Vec Ideal S512x1024 .bf16) (x1 : Vec Ideal S1x2048x1024 .bf16) (x2 : Vec Ideal S1x1x1024 .f32) (x3 : Vec Ideal S1x512x2048 .bf16) (x4 : Vec Ideal S1x1x2048 .f32) (q) (r : Fin 256) (d : Fin 2048) :
    out0_A_5 c i arg3 harg3 arg4 harg4 arg5 harg5 arg6 harg6 arg7 harg7 arg8 harg8 T0 T1 x0 x1 x2 x3 x4 q (ix2 r d)
      = (∑ f : Fin 512, swiglu (hiddenAt x0 x1 x2 r ⟨f.val, by omega⟩) (hiddenAt x0 x1 x2 r ⟨512 + f.val, by omega⟩) * x3 (ix3 0 f d))
        + x4 (ix3 0 0 d) := by
  unfold out0_A_5 kernelRun0_A
  dsimp only
  refine (congrFun (View.read_writes_full VO0_5 _ _ _ _) _).trans ((pay1_apply _ _ _ r d).trans ?_)
  have e0 : View.readAt (Elt Ideal) arg3.view (Rect.unit (s := S512x1024) ![0, 0] S512x1024.size inb_S512x1024_S512x1024_0_0).toLoadRect
      (arg3.view.rep x0) = x0 := (View.readAt_full arg3.view _ _).trans (View.read_rep _ x0)
  have e1 : View.readAt (Elt Ideal) arg4.view (Rect.unit (s := S1x2048x1024) ![0, 0, 0] S1x2048x1024.size inb_S1x2048x1024_S1x2048x1024_0_0_0).toLoadRect
      (arg4.view.rep x1) = x1 := (View.readAt_full arg4.view _ _).trans (View.read_rep _ x1)
  have e2 : View.readAt (Elt Ideal) arg5.view (Rect.unit (s := S1x1x1024) ![0, 0, 0] S1x1x1024.size inb_S1x1x1024_S1x1x1024_0_0_0).toLoadRect
      (arg5.view.rep x2) = x2 := (View.readAt_full arg5.view _ _).trans (View.read_rep _ x2)
  have e3 : View.readAt (Elt Ideal) arg6.view (Rect.unit (s := S1x512x2048) ![0, 0, 0] S1x512x2048.size inb_S1x512x2048_S1x512x2048_0_0_0).toLoadRect
      (arg6.view.rep x3) = x3 := (View.readAt_full arg6.view _ _).trans (View.read_rep _ x3)
  have e4 : View.readAt (Elt Ideal) arg7.view (Rect.unit (s := S1x1x2048) ![0, 0, 0] S1x1x2048.size inb_S1x1x2048_S1x1x2048_0_0_0).toLoadRect
      (arg7.view.rep x4) = x4 := (View.readAt_full arg7.view _ _).trans (View.read_rep _ x4)
  unfold kernelRun0_A.sl.r_1 kernelRun0_A.sl.r_2
  simp only [e0, e1, e2, e3, e4, pay2_apply, pay3_apply]

end Cert.Kernel2Ideal.Moe

end
-- ==== Proof.MoeIdeal.lean ====
/-
  The schedule of the idealized experts' call, at any tables that the precondition admits.
-/
module

public import proofs.«01_k».proof.Proof.Tables
public import proofs.«01_k».proof.Proof.Gen.Kernel2Ideal.Flash.Runs
public import Idealize.ShloMosaic.Lib.Pipeline.TableIdle
public import Idealize.ShloMosaic.Lib.Pipeline.Covers

@[expose] public section

noncomputable section

namespace Cert.Kernel2Ideal.Moe

open Cert.Kernel2Ideal Cert.Kernel2Ideal.Gen Cert.Moe
open Idealize.ShloMosaic Idealize.ShloMosaic.TcCoe

/-- The contents of the two tables. -/
def pf (T0 : S552.Idx → BitVec 32) (T1 : S1.Idx → BitVec 32) : pre0.Contents (Elt Ideal) :=
  fun | ⟨0, _⟩ => T0 | ⟨1, _⟩ => T1 | ⟨_ + 2, h⟩ => absurd h (by simp)

variable {T0 : S552.Idx → BitVec 32} {T1 : S1.Idx → BitVec 32}

/-- The grid point's coordinate is a number below 552. -/
theorem coord_lt (i : grid0.Coords) : (i 0).val < 552 := (i 0).isLt

/-- The block that a grid point works on: its own, or the last one in use. -/
theorem rows_index (hg : Good T0 T1) (i : grid0.Coords) :
    cc0_transform_0 (F := Ideal) inb_S1_S1_0 numel1_S1 (pf T0 T1) i = ![min (i 0).val ((T1 theWord).toNat - 1), 0] := by
  have h := coord_lt i
  unfold cc0_transform_0
  simp only [show (pf T0 T1).at 1 (Rect.unit (s := S1) ![0] S1.size inb_S1_S1_0) numel1_S1 = T1 theWord from congrArg T1 (eq_theWord _)]
  rw [min_word _ _ (by omega) hg.one_le hg.lt_signed]
  rfl

/-- The output block is the rows' block. -/
theorem out_index (hg : Good T0 T1) (i : grid0.Coords) :
    cc0_transform_5 (F := Ideal) inb_S1_S1_0 numel1_S1 (pf T0 T1) i = ![min (i 0).val ((T1 theWord).toNat - 1), 0] := rows_index hg i

/-- The expert of a grid point. -/
def expertAt (T0 : S552.Idx → BitVec 32) (n : Fin 552) : BitVec 32 := T0 (blockIx n)

/-- The weights' block is that of the point's expert. -/
theorem expert_index (i : grid0.Coords) :
    cc0_transform_1 (F := Ideal) k0_off1_inb numel1_S1 (pf T0 T1) i = ![(expertAt T0 (i 0)).toNat, 0, 0] := by
  have h := coord_lt i
  unfold cc0_transform_1 expertAt
  have e : (pf T0 T1).at 0 (Rect.unit (s := S552) (k0_off1 i) S1.size (k0_off1_inb i)) numel1_S1 = T0 (blockIx (i 0)) := by
    refine congrArg T0 (funext fun a => ?_)
    fin_cases a
    refine Fin.ext ?_
    show (BitVec.ofNat 32 (i 0).val).toNat + 1 * 0 = (i 0).val
    rw [BitVec.toNat_ofNat]; omega
  exact congrArg (fun v : BitVec 32 => (![v.toNat, 0, 0] : Fin 3 → ℕ)) e

/-- Every block that the index maps name lies inside its array. -/
theorem ok (hg : Good T0 T1) : ok0 (F := Ideal) (pf T0 T1) := by
  have he : ∀ i : grid0.Coords, (expertAt T0 (i 0)).toNat < 32 := fun i => hg.expert _
  have hr : ∀ i : grid0.Coords, min (i 0).val ((T1 theWord).toNat - 1) < 552 := fun i => lt_of_le_of_lt (Nat.min_le_left _ _) (coord_lt i)
  have hx : ∀ i, cc0_transform_2 (F := Ideal) k0_off1_inb numel1_S1 (pf T0 T1) i = ![(expertAt T0 (i 0)).toNat, 0, 0] := fun i => expert_index i
  have hy : ∀ i, cc0_transform_3 (F := Ideal) k0_off1_inb numel1_S1 (pf T0 T1) i = ![(expertAt T0 (i 0)).toNat, 0, 0] := fun i => expert_index i
  have hz : ∀ i, cc0_transform_4 (F := Ideal) k0_off1_inb numel1_S1 (pf T0 T1) i = ![(expertAt T0 (i 0)).toNat, 0, 0] := fun i => expert_index i
  refine ⟨fun i => ⟨fun a => ?_, .inr (Affine.block_words_dvd (by decide) (by decide))⟩,
    fun i => ⟨fun a => ?_, .inr (Affine.block_words_dvd (by decide) (by decide))⟩,
    fun i => ⟨fun a => ?_, .inl rfl⟩, fun i => ⟨fun a => ?_, .inr (Affine.block_words_dvd (by decide) (by decide))⟩,
    fun i => ⟨fun a => ?_, .inl rfl⟩, fun i => ⟨fun a => ?_, .inl rfl⟩⟩ <;> have := he i <;> have := hr i
  · rw [rows_index hg]; fin_cases a <;> simp <;> omega
  · rw [expert_index]; fin_cases a <;> simp <;> omega
  · rw [hx]; fin_cases a <;> simp <;> omega
  · rw [hy]; fin_cases a <;> simp <;> omega
  · rw [hz]; fin_cases a <;> simp <;> omega
  · rw [out_index hg]; fin_cases a <;> simp <;> omega

/-- The tables as admissible contents, and the pipeline at them. -/
def adm (hg : Good T0 T1) : (pcfg0 (F := Ideal)).Adm := ⟨pf T0 T1, ok hg⟩
abbrev cfgA (hg : Good T0 T1) : Pipeline.Cfg sig Λ₀ := cfg0 (F := Ideal) (adm hg)

variable (hg : Good T0 T1)

/-- Point `t`'s coordinates. -/
abbrev crd (t : Fin (cfgA hg).N) : (cfgA hg).grid.Coords := (cfgA hg).grid.coords t

/-- The one coordinate of a point is its position. -/
theorem crd_val (t : Fin (cfgA hg).N) : (crd hg t 0).val = t.val :=
  (by decide +kernel : ∀ t : Fin grid0.N, (grid0.coords t 0).val = t.val) t

/-- The body's test at a point, on the words it reads. -/
abbrev Used (t : Fin (cfgA hg).N) : Prop :=
  k0_cond1 (crd hg t) (View.readAt (Elt Ideal) (tbM0_1).view (Rect.unit (s := S1) ![0] S1.size inb_S1_S1_0).toLoadRect T1
    (Shape.Idx.first (numel1_S1.symm ▸ Nat.one_pos))) = 1#1

/-- A point is one of those in use. -/
theorem used_iff (t : Fin (cfgA hg).N) : Used hg t ↔ t.val < (T1 theWord).toNat := by
  have e : View.readAt (Elt Ideal) (tbM0_1).view (Rect.unit (s := S1) ![0] S1.size inb_S1_S1_0).toLoadRect T1
    (Shape.Idx.first (numel1_S1.symm ▸ Nat.one_pos)) = T1 theWord := congrArg T1 (eq_theWord _)
  have h := coord_lt (crd hg t)
  unfold Used k0_cond1
  rw [e, ← crd_val hg t]
  exact Cert.Moe.used_iff _ _ (by omega) hg.lt_signed

/-- The points that are not in use leave the output's buffer alone, the others write it. -/
theorem idle_eq (t : Fin (cfgA hg).N) : (cfgA hg).idle (5 : Fin 6) ((cfgA hg).grid.coords t) = !decide (t.val < (T1 theWord).toNat) := by
  have e : (adm hg).1.atD 1 ![0] = T1 theWord := by
    unfold Pipeline.Prefetch.Contents.atD
    rw [dif_pos (by decide)]
    exact congrArg T1 (eq_theWord _)
  have h := coord_lt (crd hg t)
  show (!(k0_cond1 (crd hg t) ((adm hg).1.atD 1 ![0]) == 1#1)) = _
  rw [e]
  congr 1
  have := Cert.Moe.used_iff (crd hg t 0).val (T1 theWord) (by omega) hg.lt_signed
  rw [crd_val hg t] at this
  rw [Bool.eq_iff_iff, beq_iff_eq, decide_eq_true_iff, ← this]
  unfold k0_cond1
  rw [crd_val hg t]

/-- The output block of a point. -/
theorem index5 (t : Fin (cfgA hg).N) : ((cfgA hg).win (5 : Fin 6)).index t = ![min t.val ((T1 theWord).toNat - 1), 0] := by
  rw [← crd_val hg t]
  exact out_index hg (crd hg t)

/-- A point writes its block back exactly if it is the last point, or the next one is in use. -/
theorem flush_eq (t : Fin (cfgA hg).N) :
    ((cfgA hg).win (5 : Fin 6)).flush t = decide (t.val + 1 = 552 ∨ t.val + 1 < (T1 theWord).toNat) := by
  have h1 := hg.one_le
  have hN : (cfgA hg).N = 552 := N_0
  have ht : t.val < 552 := lt_of_lt_of_eq t.isLt hN
  rw [Pipeline.Window.flush_eq_flushF, Bool.eq_iff_iff, decide_eq_true_iff]
  unfold Pipeline.Window.flushF
  rw [Bool.and_eq_true, Bool.or_eq_true, decide_eq_true_iff, decide_eq_true_iff]
  constructor
  · rintro ⟨-, h | ⟨h, a, ha⟩⟩
    · exact .inl (h.trans hN)
    · rw [index5 hg, index5 hg] at ha
      refine .inr ?_
      by_contra hc
      apply ha
      simp only at hc ⊢
      rw [show min (t.val + 1) ((T1 theWord).toNat - 1) = min t.val ((T1 theWord).toNat - 1) from by omega]
  · rintro (h | h)
    · exact ⟨rfl, .inl (h.trans hN.symm)⟩
    · by_cases hl : t.val + 1 = 552
      · exact ⟨rfl, .inl (hl.trans hN.symm)⟩
      · refine ⟨rfl, .inr ⟨lt_of_lt_of_eq (by omega) hN.symm, 0, ?_⟩⟩
        rw [index5 hg, index5 hg]
        simp only [Matrix.cons_val_zero]
        omega

/-- Past the points in use the output's buffer holds what the last of them left. -/
theorem fresh_eq (n : ℕ) (hn : n < 552) (h : (T1 theWord).toNat ≤ n) : (cfgA hg).fresh (5 : Fin 6) n = false := by
  have h1 := hg.one_le
  have hN : (cfgA hg).N = 552 := N_0
  induction n with
  | zero => omega
  | succ n ih =>
    rw [Pipeline.Cfg.fresh_succ _ _ _ (lt_of_lt_of_eq (by omega) hN.symm), flush_eq hg, idle_eq hg]
    rw [decide_eq_false (by simp only; omega), Bool.false_or]
    by_cases hq : n < (T1 theWord).toNat
    · simp [hq]
    · rw [ih (by omega) (by omega), Bool.and_false]

end Cert.Kernel2Ideal.Moe

end
-- ==== Proof.MoeIdealRun.lean ====
/-
  The run of the idealized experts' call, at any tables that the precondition admits: every point in use leaves its block in
  the output's buffer, the points after them leave the buffer alone, and the arrays end at what the points wrote back.
-/
module

public import proofs.«01_k».proof.Proof.MoeIdeal
public import proofs.«01_k».proof.Proof.Gen.Kernel2Ideal.Launch
public import Idealize.ShloMosaic.Lib.Pipeline.FrameBody
public import Idealize.ShloMosaic.Lib.Pipeline.TableIdle
public import Idealize.ShloMosaic.Lib.Pipeline.Quiescent
public import Idealize.ShloMosaic.Lib.Claim
public import Idealize.ShloMosaic.Lib.Pipeline.Kit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Kernel2Ideal.Moe

open Cert.Kernel2Ideal Cert.Kernel2Ideal.Gen Cert.Moe
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra of the pipeline's staging cells, embedded whole. -/
abbrev EP : Emb (UR sig nD τ) 𝕄 := emb₁

variable {T0 : S552.Idx → BitVec 32} {T1 : S1.Idx → BitVec 32} (hg : Good T0 T1)
variable (m : (ℓ : Loc nD τ sig) → Buf (Elt Ideal) ℓ) (ρ : Dev nD → PrngReg)

abbrev pcs : Fin 1 → Pipeline.Cfg sig Λ₀ := Pipeline.pin (pcfgs (F := Ideal)) fun _ => adm hg

/-! ## The staging buffers of a point -/

abbrev ms0_0 (t : Fin (cfgA hg).N) : Memref sig .tc .vmem S512x1024 .bf16 := spec0_0.stage ((cfgA hg).slots t (0 : Fin 6))
abbrev hs0_0 (t : Fin (cfgA hg).N) : (ms0_0 hg t).IsWhole := hstage0_0 (((cfgA hg).slots t (0 : Fin 6)).cast nbuf0_0)
abbrev ms0_1 (t : Fin (cfgA hg).N) : Memref sig .tc .vmem S1x2048x1024 .bf16 := spec0_1.stage ((cfgA hg).slots t (1 : Fin 6))
abbrev hs0_1 (t : Fin (cfgA hg).N) : (ms0_1 hg t).IsWhole := hstage0_1 (((cfgA hg).slots t (1 : Fin 6)).cast nbuf0_1)
abbrev ms0_2 (t : Fin (cfgA hg).N) : Memref sig .tc .vmem S1x1x1024 .f32 := spec0_2.stage ((cfgA hg).slots t (2 : Fin 6))
abbrev hs0_2 (t : Fin (cfgA hg).N) : (ms0_2 hg t).IsWhole := hstage0_2 (((cfgA hg).slots t (2 : Fin 6)).cast nbuf0_2)
abbrev ms0_3 (t : Fin (cfgA hg).N) : Memref sig .tc .vmem S1x512x2048 .bf16 := spec0_3.stage ((cfgA hg).slots t (3 : Fin 6))
abbrev hs0_3 (t : Fin (cfgA hg).N) : (ms0_3 hg t).IsWhole := hstage0_3 (((cfgA hg).slots t (3 : Fin 6)).cast nbuf0_3)
abbrev ms0_4 (t : Fin (cfgA hg).N) : Memref sig .tc .vmem S1x1x2048 .f32 := spec0_4.stage ((cfgA hg).slots t (4 : Fin 6))
abbrev hs0_4 (t : Fin (cfgA hg).N) : (ms0_4 hg t).IsWhole := hstage0_4 (((cfgA hg).slots t (4 : Fin 6)).cast nbuf0_4)
abbrev ms0_5 (t : Fin (cfgA hg).N) : Memref sig .tc .vmem S256x2048 .f32 := spec0_5.stage ((cfgA hg).slots t (5 : Fin 6))
abbrev hs0_5 (t : Fin (cfgA hg).N) : (ms0_5 hg t).IsWhole := hstage0_5 (((cfgA hg).slots t (5 : Fin 6)).cast nbuf0_5)

/-- Window `w`'s block at point `t`, read off its array at launch. -/
def iblk (c : Dev nD) (w : Fin (cfgA hg).W) (t : Fin (cfgA hg).N) : (((cfgA hg).win w).xblock (crd hg t)).Idx → Elt Ideal ((cfgA hg).win w).elt :=
  (((cfgA hg).win w).blk t).view.read (Elt Ideal) (m (((cfgA hg).win w).arr.view.loc (c : Thread nD τ)))

/-! ## What the output's buffer holds -/

/-- What a point in use leaves in the output's buffer. -/
def outAt (c : Dev nD) (t : Fin (cfgA hg).N) (q : Used hg t) : S256x2048.Idx → Elt Ideal .f32 :=
  out0_A_5 c (crd hg t) (ms0_0 hg t) (hs0_0 hg t) (ms0_1 hg t) (hs0_1 hg t) (ms0_2 hg t) (hs0_2 hg t) (ms0_3 hg t) (hs0_3 hg t) (ms0_4 hg t) (hs0_4 hg t) (ms0_5 hg t) (hs0_5 hg t) T0 T1 (iblk hg m c (0 : Fin 6) t) (iblk hg m c (1 : Fin 6) t) (iblk hg m c (2 : Fin 6) t) (iblk hg m c (3 : Fin 6) t) (iblk hg m c (4 : Fin 6) t) q

/-- Reading back the point's writes, whatever the buffer held before them. -/
theorem read_writes (c : Dev nD) (t : Fin (cfgA hg).N) (q : Used hg t) (d) :
    (ms0_5 hg t).view.read (Elt Ideal) ((ms0_5 hg t).view.writes (Elt Ideal) d
      (kernelRun0_A c (crd hg t) (ms0_0 hg t) (hs0_0 hg t) (ms0_1 hg t) (hs0_1 hg t) (ms0_2 hg t) (hs0_2 hg t) (ms0_3 hg t) (hs0_3 hg t) (ms0_4 hg t) (hs0_4 hg t) (ms0_5 hg t) (hs0_5 hg t) T0 T1 (iblk hg m c (0 : Fin 6) t) (iblk hg m c (1 : Fin 6) t) (iblk hg m c (2 : Fin 6) t) (iblk hg m c (3 : Fin 6) t) (iblk hg m c (4 : Fin 6) t) q).1) = outAt hg m c t q := by
  unfold outAt out0_A_5
  exact View.read_writes_of_cover _ _ _ _ _ (cover0_A_5 c _ _ _ _ _ _ _ _ _ _ _ _ _ _ _ _ _ _ _ _ _)

theorem outAt_congr (c : Dev nD) {t t' : Fin (cfgA hg).N} (h : t = t') (q : Used hg t) (q' : Used hg t') : outAt hg m c t q = outAt hg m c t' q' := by
  subst h; rfl

/-- The last point in use up to `t`. -/
def lastUsed (t : Fin (cfgA hg).N) : Fin (cfgA hg).N := ⟨min t.val ((T1 theWord).toNat - 1), lt_of_le_of_lt (Nat.min_le_left _ _) t.isLt⟩

theorem used_lastUsed (t : Fin (cfgA hg).N) : Used hg (lastUsed hg t) := by
  have := hg.one_le
  rw [used_iff]
  show min t.val ((T1 theWord).toNat - 1) < _
  omega

/-- What the output's buffer holds after point `t`: what the last point in use left. -/
def outAfter (c : Dev nD) (t : Fin (cfgA hg).N) : S256x2048.Idx → Elt Ideal .f32 := outAt hg m c (lastUsed hg t) (used_lastUsed hg t)

theorem outAfter_used (c : Dev nD) (t : Fin (cfgA hg).N) (q : Used hg t) : outAfter hg m c t = outAt hg m c t q := by
  refine outAt_congr hg m c (Fin.ext ?_) _ _
  have := (used_iff hg t).1 q
  show min t.val ((T1 theWord).toNat - 1) = t.val
  omega

theorem outAfter_idle (c : Dev nD) (t : Fin (cfgA hg).N) (q : ¬Used hg t) :
    outAfter hg m c t = outAfter hg m c ⟨t.val - 1, lt_of_le_of_lt (Nat.sub_le _ _) t.isLt⟩ := by
  refine outAt_congr hg m c (Fin.ext ?_) _ _
  rw [used_iff] at q
  have := hg.one_le
  show min t.val ((T1 theWord).toNat - 1) = min (t.val - 1) ((T1 theWord).toNat - 1)
  omega

attribute [irreducible] outAt outAfter

/-! ## The pipeline's proof data -/

/-- Before every point the kernel holds its halves of the tables. -/
def Phi (c : Dev nD) : sProp 𝕄 :=
  iprop((tbM0_0.view.loc (c : Thread nD τ) ↦{fullShare.right} T0) ∗ (tbM0_1.view.loc (c : Thread nD τ) ↦{fullShare.right} T1))

/-- The proof data: the inputs' buffers hold their blocks, the output's what the last point in use left. -/
def dats (_ : Fin 1) (c : Dev nD) : Dat τ (Elt Ideal) Unit ℕ (UR sig nD τ) ℕ (cfgA hg) c where
  A w := m (((cfgA hg).win w).arr.view.loc (c : Thread nD τ))
  after w t := match w with
    | ⟨0, _⟩ => iblk hg m c (0 : Fin 6) t
    | ⟨1, _⟩ => iblk hg m c (1 : Fin 6) t
    | ⟨2, _⟩ => iblk hg m c (2 : Fin 6) t
    | ⟨3, _⟩ => iblk hg m c (3 : Fin 6) t
    | ⟨4, _⟩ => iblk hg m c (4 : Fin 6) t
    | ⟨5, _⟩ => outAfter hg m c t
  Φ _ := Phi (T0 := T0) (T1 := T1) c
  q _ := fullShare
  owed _ := 0

theorem after0_0 (c : Dev nD) (t : Fin (cfgA hg).N) : (dats hg m 0 c).after (0 : Fin 6) t = iblk hg m c (0 : Fin 6) t := rfl
theorem after0_1 (c : Dev nD) (t : Fin (cfgA hg).N) : (dats hg m 0 c).after (1 : Fin 6) t = iblk hg m c (1 : Fin 6) t := rfl
theorem after0_2 (c : Dev nD) (t : Fin (cfgA hg).N) : (dats hg m 0 c).after (2 : Fin 6) t = iblk hg m c (2 : Fin 6) t := rfl
theorem after0_3 (c : Dev nD) (t : Fin (cfgA hg).N) : (dats hg m 0 c).after (3 : Fin 6) t = iblk hg m c (3 : Fin 6) t := rfl
theorem after0_4 (c : Dev nD) (t : Fin (cfgA hg).N) : (dats hg m 0 c).after (4 : Fin 6) t = iblk hg m c (4 : Fin 6) t := rfl
theorem after0_5 (c : Dev nD) (t : Fin (cfgA hg).N) : (dats hg m 0 c).after (5 : Fin 6) t = outAfter hg m c t := rfl

/-- An input's buffer holds its block when the body runs. -/
theorem before0_0 (c : Dev nD) (t : Fin (cfgA hg).N) (d) : (dats hg m 0 c).before (0 : Fin 6) t d = iblk hg m c (0 : Fin 6) t :=
  ((dats hg m 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA hg).N) (d) : (dats hg m 0 c).before (1 : Fin 6) t d = iblk hg m c (1 : Fin 6) t :=
  ((dats hg m 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA hg).N) (d) : (dats hg m 0 c).before (2 : Fin 6) t d = iblk hg m c (2 : Fin 6) t :=
  ((dats hg m 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA hg).N) (d) : (dats hg m 0 c).before (3 : Fin 6) t d = iblk hg m c (3 : Fin 6) t :=
  ((dats hg m 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA hg).N) (d) : (dats hg m 0 c).before (4 : Fin 6) t d = iblk hg m c (4 : Fin 6) t :=
  ((dats hg m 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- A point that is not in use leaves the output's buffer alone. -/
theorem idle_of_not_used (t : Fin (cfgA hg).N) (q : ¬Used hg t) : (cfgA hg).idle (5 : Fin 6) ((cfgA hg).grid.coords t) = true := by
  rw [idle_eq hg, decide_eq_false (by rwa [← used_iff hg])]; rfl

theorem idle_of_used (t : Fin (cfgA hg).N) (q : Used hg t) : (cfgA hg).idle (5 : Fin 6) ((cfgA hg).grid.coords t) = false := by
  rw [idle_eq hg, decide_eq_true ((used_iff hg t).1 q)]; rfl

/-- At a point that is not in use the output's buffer holds what the point before left. -/
theorem before0_5 (c : Dev nD) (t : Fin (cfgA hg).N) (q : ¬Used hg t) (d) :
    (dats hg m 0 c).before (5 : Fin 6) t d = outAfter hg m c t := by
  rw [(dats hg m 0 c).before_out_traj (5 : Fin 6) rfl (fun _ _ => rfl) (fun t ht hi _ => ?_) t.val t rfl d,
    fresh_eq hg t.val (lt_of_lt_of_eq t.isLt N_0) (by rw [used_iff] at q; omega)]
  · rw [if_neg Bool.false_ne_true, outAfter_idle hg m c t q]; rfl
  · refine outAfter_idle hg m c t fun q => ?_
    rw [idle_of_used hg t q] at hi
    exact Bool.false_ne_true hi

/-! ## The body at a point -/

/-- The body at point `t` on its staging buffers. -/
abbrev bodyAt0 (t : Fin (cfgA hg).N) : Prog (TpuEff nD τ sig (Elt Ideal) Λ₀ .tc) PUnit :=
  cc0_moe_experts (crd hg t) (Memref.whole main_arg0) (Memref.isWhole_whole _) (Memref.whole main_arg1) (Memref.isWhole_whole _) (ms0_0 hg t) (hs0_0 hg t) (ms0_1 hg t) (hs0_1 hg t) (ms0_2 hg t) (hs0_2 hg t) (ms0_3 hg t) (hs0_3 hg t) (ms0_4 hg t) (hs0_4 hg t) (ms0_5 hg t) (hs0_5 hg t)

set_option maxHeartbeats 4000000 in
/-- The body's obligation at point `t`: it runs from what the buffers hold before the point to what they hold after it. -/
theorem sound_body (c : Dev nD) (t : Fin (cfgA hg).N) :
    iprop((dats hg m 0 c).Φ t.castSucc ∗ (dats hg m 0 c).owesAt () t.castSucc
        ∗ (∃ d, owns (c : Thread nD τ) (ms0_0 hg t) fullShare ((dats hg m 0 c).before (0 : Fin 6) t d))
        ∗ (∃ d, owns (c : Thread nD τ) (ms0_1 hg t) fullShare ((dats hg m 0 c).before (1 : Fin 6) t d))
        ∗ (∃ d, owns (c : Thread nD τ) (ms0_2 hg t) fullShare ((dats hg m 0 c).before (2 : Fin 6) t d))
        ∗ (∃ d, owns (c : Thread nD τ) (ms0_3 hg t) fullShare ((dats hg m 0 c).before (3 : Fin 6) t d))
        ∗ (∃ d, owns (c : Thread nD τ) (ms0_4 hg t) fullShare ((dats hg m 0 c).before (4 : Fin 6) t d))
        ∗ (∃ d, owns (c : Thread nD τ) (ms0_5 hg t) fullShare ((dats hg m 0 c).before (5 : Fin 6) t d)))
      ⊢ wp frame (wpE (defs₀ (F := Ideal)) Variants.none c none) Set.univ (bodyAt0 hg t) fun _ =>
          iprop((dats hg m 0 c).Φ t.succ ∗ (dats hg m 0 c).owesAt () t.succ
            ∗ bigSep Finset.univ fun w : Fin (cfgA hg).W =>
                match (cfgA hg).idle w ((cfgA hg).grid.coords t) with
                | true =>
                  match ((cfgA hg).win w).flush t with
                  | false => iprop(∃ d, owns (c : Thread nD τ) (((cfgA hg).win w).stage ((cfgA hg).slots t w)) fullShare ((dats hg m 0 c).before w t d))
                  | true => owns (c : Thread nD τ) (((cfgA hg).win w).stage ((cfgA hg).slots t w)) fullShare ((dats hg m 0 c).after w t)
                | false => owns (c : Thread nD τ) (((cfgA hg).win w).stage ((cfgA hg).slots t w)) fullShare ((dats hg m 0 c).after w t)) := by
  rw [bigSep_W0]
  by_cases q0 : Used hg t
  · rewrite [idle_of_used hg t q0]
    simp only [before0_0, before0_1, before0_2, before0_3, before0_4, after0_0, after0_1, after0_2, after0_3, after0_4, after0_5]
    rewrite [show (dats hg m 0 c).Φ t.succ = Phi (T0 := T0) (T1 := T1) c from rfl, show (dats hg m 0 c).Φ t.castSucc = Phi (T0 := T0) (T1 := T1) c from rfl,
      show (dats hg m 0 c).owesAt () t.succ = (dats hg m 0 c).owesAt () t.castSucc from rfl, outAfter_used hg m c t q0]
    unfold Phi
    iintro ⟨⟨HT0, HT1⟩, Ho, ⟨%d0, H0⟩, ⟨%d1, H1⟩, ⟨%d2, H2⟩, ⟨%d3, H3⟩, ⟨%d4, H4⟩, ⟨%d5, H5⟩⟩
    iapply ((kernelRun0_A c (crd hg t) (ms0_0 hg t) (hs0_0 hg t) (ms0_1 hg t) (hs0_1 hg t) (ms0_2 hg t) (hs0_2 hg t) (ms0_3 hg t) (hs0_3 hg t) (ms0_4 hg t) (hs0_4 hg t) (ms0_5 hg t) (hs0_5 hg t) T0 T1 (iblk hg m c (0 : Fin 6) t) (iblk hg m c (1 : Fin 6) t) (iblk hg m c (2 : Fin 6) t) (iblk hg m c (3 : Fin 6) t) (iblk hg m c (4 : Fin 6) t) q0).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact read_writes hg m c t q0 e5
  · rewrite [idle_of_not_used hg t q0]
    simp only [before0_0, before0_1, before0_2, before0_3, before0_4, before0_5 hg m c t q0, after0_0, after0_1, after0_2, after0_3, after0_4, after0_5]
    rewrite [show (dats hg m 0 c).Φ t.succ = Phi (T0 := T0) (T1 := T1) c from rfl, show (dats hg m 0 c).Φ t.castSucc = Phi (T0 := T0) (T1 := T1) c from rfl,
      show (dats hg m 0 c).owesAt () t.succ = (dats hg m 0 c).owesAt () t.castSucc from rfl]
    unfold Phi
    iintro ⟨⟨HT0, HT1⟩, Ho, ⟨%d0, H0⟩, ⟨%d1, H1⟩, ⟨%d2, H2⟩, ⟨%d3, H3⟩, ⟨%d4, H4⟩, ⟨%d5, H5⟩⟩
    iapply ((kernelRun0_B c (crd hg t) (ms0_0 hg t) (hs0_0 hg t) (ms0_1 hg t) (hs0_1 hg t) (ms0_2 hg t) (hs0_2 hg t) (ms0_3 hg t) (hs0_3 hg t) (ms0_4 hg t) (hs0_4 hg t) (ms0_5 hg t) (hs0_5 hg t) T0 T1 (iblk hg m c (0 : Fin 6) t) (iblk hg m c (1 : Fin 6) t) (iblk hg m c (2 : Fin 6) t) (iblk hg m c (3 : Fin 6) t) (iblk hg m c (4 : Fin 6) t) q0).2 _ _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexact H5
    iintro ⟨H0, H1, H2, H3, H4, HT0, HT1, H5⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    cases ((cfgA hg).win (5 : Fin 6)).flush t
    · iexists d5; iexact H5
    · iexact H5

/-- The obligation at every point. -/
theorem body_obligation (c : Dev nD) : BodyObligation (dats hg m 0 c) (defs₀ (F := Ideal)) Variants.none () Set.univ := fun t => by
  rw [bigSep_W0]
  exact sound_body hg m c t

/-! ## The launch -/

/-- The launch element of the staging cells. -/
def u₀ : UR sig nD τ :=
  initOf (Pipeline.cells (pcs hg) ((launch0 (F := Ideal)).cellOf_inj fun _ => adm hg))
    (Pipeline.launchToks (pcs hg) ((launch0 (F := Ideal)).cellOf_inj fun _ => adm hg))

theorem share_eq (c : Dev nD) (w : Fin (cfgA hg).W) : (dats hg m 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The tables give what is held before the first point, -/
theorem phi0_intro (c : Dev nD) :
    iprop(BI.emp ∗ Pipeline.prefHeld pre0 c (fun _ => fullShare.right) (adm hg).1 ∗ Pipeline.scopedRest spec0 c) ⊢ (dats hg m 0 c).Φ 0 := by
  rw [prefHeld_eq, scopedRest0_eq, show (dats hg m 0 c).Φ 0 = Phi (T0 := T0) (T1 := T1) c from rfl]
  unfold Phi
  iintro ⟨-, ⟨HT0, HT1⟩, -⟩
  isplitl [HT0]
  · iexact HT0
  iexact HT1

/-- and nothing is left to give back after the last. -/
theorem phiN_exit (c : Dev nD) : (dats hg m 0 c).Φ (Fin.last (cfgA hg).N) ⊢ iprop(BI.emp ∗ Pipeline.scopedRest spec0 c) := by
  rw [scopedRest0_eq]
  iintro -
  isplitr; · iempintro
  iempintro

/-- The memory at the end: every array at what the points wrote back, the tables as they were. -/
def QC : PUnit × MemSt nD τ sig (Elt Ideal) → Prop := fun r =>
  ∀ c : Dev nD, (∀ w : Fin (cfgA hg).W, r.2.mem (((cfgA hg).win w).arr.view.loc (c : Thread nD τ)) = (dats hg m 0 c).arrAt w (cfgA hg).N)
    ∧ ∀ j, r.2.mem ((c : Thread nD τ).loc (pre0.ref j)) = (adm hg).1 j

/-- The launch memory's tables are the ones the schedule is read off. -/
def Tabled (T0 : S552.Idx → BitVec 32) (T1 : S1.Idx → BitVec 32) (m : (ℓ : Loc nD τ sig) → Buf (Elt Ideal) ℓ) : Prop :=
  ∀ c : Dev nD, m ((c : Thread nD τ).loc main_arg0) = T0 ∧ m ((c : Thread nD τ).loc main_arg1) = T1

theorem V_pre (hp : Tabled T0 T1 m) (c : Dev nD) (j : Fin 2) : m ((c : Thread nD τ).loc (pre0.ref j)) = (adm hg).1 j := by
  fin_cases j
  · exact (hp c).1
  · exact (hp c).2

set_option backward.isDefEq.respectTransparency.types false in
set_option maxHeartbeats 4000000 in
/-- From a memory with these tables the program terminates, with the arrays as stated and every semaphore at zero. -/
theorem run_main (hp : Tabled T0 T1 m) :
    θ_run (defs (F := Ideal)) (onTc (τ := τ) (main (F := Ideal))) (s₀ m ρ) (fun r => QC hg m r ∧ r.2.sem = fun _ => 0) :=
  Pipeline.θ_run_region_noSem_pf_quiescent pcfgs (fun _ => adm hg) (dats hg m) () ((launch0 (F := Ideal)).cellOf_inj fun _ => adm hg) (0 : Fin 1)
    (launch0 (F := Ideal)).win.to₀ (launch0 (F := Ideal)).pre EP defs₀ Variants.none m ρ main
    (hbody := fun c => (body_obligation hg m c).loose) (hne := (launch0 (F := Ideal)).block_pos)
    (harr := (launch0 (F := Ideal)).arr_whole) (hstage := (launch0 (F := Ideal)).stage_whole) (howed := fun _ _ => rfl)
    (u₀ := u₀ hg) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hg) (dats hg m) 0 (launch0 (F := Ideal)).win.arr_inj c (launch0 (F := Ideal)).arr_whole
      (share_eq hg m c) _ _ fun _ => rfl)
    (hpf := V_pre hg m hp)
    (X := fun _ => iprop(emp)) (Y := fun _ => iprop(emp)) (Z := fun _ => iprop(emp))
    (hX := fun c => by rw [unscopedRestP0_eq]; iintro -; isplitr <;> iempintro)
    (hin := phi0_intro hg m)
    (hout := phiN_exit hg m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem args_unchanged (hp : Tabled T0 T1 m) (r : PUnit × MemSt nD τ sig (Elt Ideal)) (h : QC hg m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 0).trans (hp c).1.symm, ((h c).2 1).trans (hp c).2.symm,
    ((h c).1 (0 : Fin 6)).trans ((dats hg m 0 c).arrAt_in (0 : Fin 6) rfl _), ((h c).1 (1 : Fin 6)).trans ((dats hg m 0 c).arrAt_in (1 : Fin 6) rfl _),
    ((h c).1 (2 : Fin 6)).trans ((dats hg m 0 c).arrAt_in (2 : Fin 6) rfl _), ((h c).1 (3 : Fin 6)).trans ((dats hg m 0 c).arrAt_in (3 : Fin 6) rfl _),
    ((h c).1 (4 : Fin 6)).trans ((dats hg m 0 c).arrAt_in (4 : Fin 6) rfl _)⟩

end Cert.Kernel2Ideal.Moe

end
-- ==== Proof.MoeArray.lean ====
/-
  The experts' output array: in the blocks in use, the experts' result of the arguments.
-/
module

public import proofs.«01_k».proof.Proof.MoeBlock
public import proofs.«01_k».proof.Proof.MoeIdealRun
public import Idealize.ShloMosaic.Lib.Pipeline.ValueKit

@[expose] public section

noncomputable section

namespace Cert.Kernel2Ideal.Moe

open Cert.Kernel2Ideal Cert.Kernel2Ideal.Gen Cert.Moe Idealize.ShloMosaic Idealize.ShloMosaic.TcCoe Idealize.SL.Sem Finset

variable {T0 : S552.Idx → BitVec 32} {T1 : S1.Idx → BitVec 32} (hg : Good T0 T1)

/-- The blocks that a point reads: its rows, and its expert's matrices and biases. -/
theorem index0 (t : Fin (cfgA hg).N) : ((pcfg0 (F := Ideal)).win (adm hg) (0 : Fin 6)).index t = ![min t.val ((T1 theWord).toNat - 1), 0] := by
  rw [← crd_val hg t]
  exact rows_index hg (crd hg t)

/-- The block that a point writes. -/
theorem index5' (t : Fin (cfgA hg).N) : ((pcfg0 (F := Ideal)).win (adm hg) (5 : Fin 6)).index t = ![min t.val ((T1 theWord).toNat - 1), 0] := index5 hg t

/-- The expert's number at a point. -/
def numAt (T0 : S552.Idx → BitVec 32) (t : Fin (cfgA hg).N) : ℕ := (expertAt T0 (crd hg t 0)).toNat

theorem index1 (t : Fin (cfgA hg).N) : ((pcfg0 (F := Ideal)).win (adm hg) (1 : Fin 6)).index t = ![numAt hg T0 t, 0, 0] := expert_index (crd hg t)
theorem index2 (t : Fin (cfgA hg).N) : ((pcfg0 (F := Ideal)).win (adm hg) (2 : Fin 6)).index t = ![numAt hg T0 t, 0, 0] := expert_index (crd hg t)
theorem index3 (t : Fin (cfgA hg).N) : ((pcfg0 (F := Ideal)).win (adm hg) (3 : Fin 6)).index t = ![numAt hg T0 t, 0, 0] := expert_index (crd hg t)
theorem index4 (t : Fin (cfgA hg).N) : ((pcfg0 (F := Ideal)).win (adm hg) (4 : Fin 6)).index t = ![numAt hg T0 t, 0, 0] := expert_index (crd hg t)

variable (m : (ℓ : Loc nD τ sig) → Buf (Elt Ideal) ℓ) (c : Dev nD)

/-- A block's start, put in place of its index. -/
theorem mul_start {x n s a b : ℕ} (h : x = n) (e : n * s + a = b) : x * s + a = b := by rw [h]; exact e
theorem start {x n a b : ℕ} (h : x = n) (e : n + a = b) : x + a = b := by rw [h]; exact e

/-- A row of a point's block is a row of the array. -/
theorem rowAt_eq (t : Fin (cfgA hg).N) (n : Fin 552) (hn : min t.val ((T1 theWord).toNat - 1) = n.val) (r : Fin 256) (k : Fin 2048) :
    rowAt (iblk hg m c (0 : Fin 6) t) r k = token (m ((c : Thread nD τ).loc main_arg2)) ⟨256 * n.val + r.val, by omega⟩ k := by
  unfold rowAt token
  split
  · blk_simp [iblk]
    refine congrArg (m ((c : Thread nD τ).loc main_arg2)) ?_
    blk_ext
    · exact mul_start ((congrFun (index0 hg t) (0 : Fin 2)).trans hn) (by omega)
    · exact mul_start (congrFun (index0 hg t) (1 : Fin 2)) (by simp only [Matrix.cons_val_one, Matrix.cons_val_fin_one]; omega)
  · blk_simp [iblk]
    refine congrArg (m ((c : Thread nD τ).loc main_arg2)) ?_
    blk_ext
    · exact mul_start ((congrFun (index0 hg t) (0 : Fin 2)).trans hn) (by omega)
    · exact mul_start (congrFun (index0 hg t) (1 : Fin 2)) (by simp only [Matrix.cons_val_one, Matrix.cons_val_fin_one]; omega)

/-- An expert's matrices and biases are those of the arrays. -/
theorem in_matrix (t : Fin (cfgA hg).N) (e : Fin 32) (he : numAt hg T0 t = e.val) (k : Fin 2048) (f : Fin 1024) :
    (iblk hg m c (1 : Fin 6) t : S1x2048x1024.Idx → EReal) (ix3 0 k f) = (m ((c : Thread nD τ).loc main_arg3) : S32x2048x1024.Idx → EReal) (ix3 e k f) := by
  blk_simp [iblk]
  refine congrArg (m ((c : Thread nD τ).loc main_arg3)) ?_
  blk_ext
  · exact start ((congrFun (index1 hg t) (0 : Fin 3)).trans he) rfl
  · exact mul_start (n := 0) (congrFun (index1 hg t) (1 : Fin 3)) (by omega)
  · exact mul_start (n := 0) (congrFun (index1 hg t) (2 : Fin 3)) (by omega)

theorem in_bias (t : Fin (cfgA hg).N) (e : Fin 32) (he : numAt hg T0 t = e.val) (f : Fin 1024) :
    (iblk hg m c (2 : Fin 6) t : S1x1x1024.Idx → EReal) (ix3 0 0 f) = (m ((c : Thread nD τ).loc main_arg4) : S32x1x1024.Idx → EReal) (ix3 e 0 f) := by
  blk_simp [iblk]
  refine congrArg (m ((c : Thread nD τ).loc main_arg4)) ?_
  blk_ext
  · exact start ((congrFun (index2 hg t) (0 : Fin 3)).trans he) rfl
  · exact start (congrFun (index2 hg t) (1 : Fin 3)) rfl
  · exact mul_start (n := 0) (congrFun (index2 hg t) (2 : Fin 3)) (by omega)

theorem out_matrix (t : Fin (cfgA hg).N) (e : Fin 32) (he : numAt hg T0 t = e.val) (f : Fin 512) (d : Fin 2048) :
    (iblk hg m c (3 : Fin 6) t : S1x512x2048.Idx → EReal) (ix3 0 f d) = (m ((c : Thread nD τ).loc main_arg5) : S32x512x2048.Idx → EReal) (ix3 e f d) := by
  blk_simp [iblk]
  refine congrArg (m ((c : Thread nD τ).loc main_arg5)) ?_
  blk_ext
  · exact start ((congrFun (index3 hg t) (0 : Fin 3)).trans he) rfl
  · exact mul_start (n := 0) (congrFun (index3 hg t) (1 : Fin 3)) (by omega)
  · exact mul_start (n := 0) (congrFun (index3 hg t) (2 : Fin 3)) (by omega)

theorem out_bias (t : Fin (cfgA hg).N) (e : Fin 32) (he : numAt hg T0 t = e.val) (d : Fin 2048) :
    (iblk hg m c (4 : Fin 6) t : S1x1x2048.Idx → EReal) (ix3 0 0 d) = (m ((c : Thread nD τ).loc main_arg6) : S32x1x2048.Idx → EReal) (ix3 e 0 d) := by
  blk_simp [iblk]
  refine congrArg (m ((c : Thread nD τ).loc main_arg6)) ?_
  blk_ext
  · exact start ((congrFun (index4 hg t) (0 : Fin 3)).trans he) rfl
  · exact start (congrFun (index4 hg t) (1 : Fin 3)) rfl
  · exact mul_start (n := 0) (congrFun (index4 hg t) (2 : Fin 3)) (by omega)

/-- What a point in use leaves in its block: its expert's feed-forward of its rows. -/
theorem outAt_apply (t : Fin (cfgA hg).N) (q : Used hg t) (n : Fin 552) (hn : t.val = n.val) (r : Fin 256) (d : Fin 2048) :
    outAt hg m c t q (ix2 r d)
      = ffn (m ((c : Thread nD τ).loc main_arg2)) (m ((c : Thread nD τ).loc main_arg3)) (m ((c : Thread nD τ).loc main_arg4))
          (m ((c : Thread nD τ).loc main_arg5)) (m ((c : Thread nD τ).loc main_arg6)) ⟨(T0 (blockIx n)).toNat, hg.expert _⟩
          ⟨256 * n.val + r.val, by omega⟩ d := by
  have hu := (used_iff hg t).1 q
  have he : numAt hg T0 t = (⟨(T0 (blockIx n)).toNat, hg.expert _⟩ : Fin 32).val := by
    have : (crd hg t 0 : Fin 552) = n := Fin.ext ((crd_val hg t).trans hn)
    unfold numAt expertAt
    exact congrArg (fun n => (T0 (blockIx n)).toNat) this
  unfold outAt
  rw [out_apply]
  unfold hiddenAt
  simp only [rowAt_eq hg m c t n (by omega), in_matrix hg m c t _ he, in_bias hg m c t _ he, out_matrix hg m c t _ he, out_bias hg m c t _ he]
  rfl

theorem nblk_0 : ((cfgA hg).win (5 : Fin 6)).nblk (0 : Fin 2) = 552 := by
  show (S141312x2048.size (0 : Fin 2) + (S256x2048.size (0 : Fin 2) - 1)) / S256x2048.size (0 : Fin 2) = 552
  decide

theorem nblk_1 : ((cfgA hg).win (5 : Fin 6)).nblk (1 : Fin 2) = 1 := by
  show (S141312x2048.size (1 : Fin 2) + (S256x2048.size (1 : Fin 2) - 1)) / S256x2048.size (1 : Fin 2) = 1
  decide

/-- The blocks in use are written, and no others. -/
theorem covers : ((cfgA hg).win (5 : Fin 6)).CoversWhere fun β => β (0 : Fin 2) < (T1 theWord).toNat := by
  have h1 := hg.one_le
  have hN : (cfgA hg).N = 552 := N_0
  refine ⟨(by decide : ∀ a : Fin 2, 0 < S256x2048.size a), fun t _ => ⟨?_, fun a => .inl rfl⟩, fun β hβ => ?_⟩
  · show ((pcfg0 (F := Ideal)).win (adm hg) (5 : Fin 6)).index t (0 : Fin 2) < _
    rw [index5']
    simp only [Matrix.cons_val_zero]
    omega
  · have hb : (β (0 : Fin 2)).val < 552 := lt_of_lt_of_eq (β (0 : Fin 2)).isLt (nblk_0 hg)
    have hb1 : (β (1 : Fin 2)).val < 1 := lt_of_lt_of_eq (β (1 : Fin 2)).isLt (nblk_1 hg)
    replace hβ : (β (0 : Fin 2)).val < (T1 theWord).toNat := hβ
    obtain ⟨t, ht, hf⟩ : ∃ t : Fin (cfgA hg).N, min t.val ((T1 theWord).toNat - 1) = (β (0 : Fin 2)).val
        ∧ (t.val + 1 = 552 ∨ t.val + 1 < (T1 theWord).toNat) := by
      by_cases h : (β (0 : Fin 2)).val + 1 < (T1 theWord).toNat
      · exact ⟨⟨(β (0 : Fin 2)).val, by omega⟩, by simp only; omega, .inr h⟩
      · exact ⟨⟨551, by omega⟩, by simp only; omega, .inl rfl⟩
    refine ⟨t, fun a => ?_, by rw [flush_eq hg, decide_eq_true hf]⟩
    show ((pcfg0 (F := Ideal)).win (adm hg) (5 : Fin 6)).index t a = _
    rw [index5' hg]
    match a with
    | ⟨0, _⟩ => exact ht
    | ⟨1, _⟩ => show 0 = (β (1 : Fin 2)).val; omega

/-- After the run the output array holds, in the blocks in use, the experts' result of the arguments. -/
theorem array : (dats hg m 0 c).arrAt (5 : Fin 6) (cfgA hg).N
    = fun i : S141312x2048.Idx => if (i 0).val / 256 < (T1 theWord).toNat
        then experts (m ((c : Thread nD τ).loc main_arg2)) (m ((c : Thread nD τ).loc main_arg3)) (m ((c : Thread nD τ).loc main_arg4))
          (m ((c : Thread nD τ).loc main_arg5)) (m ((c : Thread nD τ).loc main_arg6)) T0 hg.expert i
        else m ((c : Thread nD τ).loc main_v0) i := by
  refine (dats hg m 0 c).arrAt_eq_of_coversWhere (5 : Fin 6) _ (fun β => β (0 : Fin 2) < (T1 theWord).toNat) (covers hg)
    (fun t hf y => ?_) (fun j => Iff.rfl)
  have h1 := hg.one_le
  have hN : (cfgA hg).N = 552 := N_0
  have ht : t.val < 552 := lt_of_lt_of_eq t.isLt hN
  blk_simp
  rw [after0_5]
  let n : Fin 552 := ⟨min t.val ((T1 theWord).toNat - 1), by omega⟩
  have hm : ∃ (r : Fin 256) (d : Fin 2048), (y : S256x2048.Idx) = ix2 r d := ⟨y 0, y 1, by funext a; match a with | ⟨0, _⟩ => rfl | ⟨1, _⟩ => rfl⟩
  obtain ⟨r, d, rfl⟩ := hm
  have e : (((cfgA hg).win (5 : Fin 6)).blk t).view.emb (ix2 r d) = (ix2 ⟨256 * n.val + r.val, by omega⟩ d : S141312x2048.Idx) := by
    blk_ext
    · exact mul_start (congrFun (index5' hg t) (0 : Fin 2)) (by show n.val * 256 + r.val = 256 * n.val + r.val; omega)
    · exact mul_start (n := 0) (congrFun (index5' hg t) (1 : Fin 2)) (by omega)
  rw [e]
  unfold outAfter
  refine (outAt_apply hg m c (lastUsed hg t) _ n rfl r d).trans ?_
  unfold experts
  refine congrArg (fun e => ffn _ _ _ _ _ e _ _) (Fin.ext ?_)
  have hd : (256 * n.val + r.val) / 256 = n.val := by omega
  exact congrArg (fun n => (T0 (blockIx n)).toNat) (Fin.ext hd.symm)

end Cert.Kernel2Ideal.Moe

end
-- ==== Proof.MoeRef.lean ====
/-
  What the experts' reference computes: every row of every block through the block's expert.
-/
module

public import proofs.«01_k».proof.Proof.MoeMath
public import proofs.«01_k».proof.Proof.Gen.Reference2Ideal.Read
public import Idealize.ShloMosaic.Lib.IdealHost
public import Idealize.ShloMosaic.Lib.Pointwise.Index

@[expose] public section

noncomputable section

namespace Cert.Reference2Ideal.Moe

open Cert.Reference2Ideal Cert.Reference2Ideal.Read Cert.Reference2Ideal.Gen Cert.Moe Idealize.ShloMosaic Idealize.ShloMosaic.TcCoe Idealize.SL.Sem Finset

section Gather
variable {α : Type} {A B : ℕ}

/-- The dimension numbers of a table's entries taken by number, one entry per row of the numbers. -/
abbrev entryDims (A B : ℕ)
    (wf : GatherDims.WF ⟨3, ![32, A, B]⟩ ⟨2, ![552, 1]⟩ ⟨3, ![552, A, B]⟩ [1, 2] [0] [] [0] [] 1 ![1, A, B]) :
    GatherDims ⟨3, ![32, A, B]⟩ ⟨2, ![552, 1]⟩ ⟨3, ![552, A, B]⟩ where
  offsetDims := [1, 2]
  collapsedSliceDims := [0]
  operandBatchingDims := []
  startIndicesBatchingDims := []
  startIndexMap := [0]
  indexVectorDim := 1
  sliceSizes := ![1, A, B]
  wf := wf

/-- The entry of a table that a number names. -/
theorem entry_apply
    (wf : GatherDims.WF ⟨3, ![32, A, B]⟩ ⟨2, ![552, 1]⟩ ⟨3, ![552, A, B]⟩ [1, 2] [0] [] [0] [] 1 ![1, A, B])
    (x : (⟨3, ![32, A, B]⟩ : Shape).Idx → α) (idx : IVec ⟨2, ![552, 1]⟩ 32) (n : Fin 552) (a : Fin A) (b : Fin B) (e : Fin 32)
    (he : (idx (ix2 n 0)).toInt.toNat = e.val) :
    Host.gather (entryDims A B wf) x idx (ix3 n a b) = x (ix3 e a b) := by
  unfold Host.gather
  congr 1
  funext k
  refine Fin.ext ?_
  show (entryDims A B wf).start (ix3 n a b) idx k + (entryDims A B wf).batchCoord (ix3 n a b) k + (entryDims A B wf).offCoord (ix3 n a b) k = _
  rw [GatherDims.batchCoord_eq_zero _ _ _ List.not_mem_nil]
  have hk : k = 0 ∨ k = 1 ∨ k = 2 := by
    match k with
    | ⟨0, _⟩ => exact .inl rfl
    | ⟨1, _⟩ => exact .inr (.inl rfl)
    | ⟨2, _⟩ => exact .inr (.inr rfl)
  have one_ne : (1 : Fin 3) ≠ 0 := by decide
  have two_ne : (2 : Fin 3) ≠ 0 := by decide
  have keeps : ∀ k : Fin 3, k ≠ 0 → k ∈ (entryDims A B wf).sKept := fun k h =>
    (GatherDims.mem_sKept _ _).mpr ⟨fun hm => h (List.mem_singleton.1 hm), List.not_mem_nil⟩
  rcases hk with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (entryDims A B wf).startIndexMap from List.mem_singleton.mpr rfl)]
    have hsi : (entryDims A B wf).siIdx (ix3 n a b) ⟨List.idxOf (0 : Fin 3) (entryDims A B wf).startIndexMap,
        List.idxOf_lt_length_iff.2 (List.mem_singleton.mpr rfl)⟩ = ix2 n 0 := by
      funext b; refine Fin.ext ?_
      match b with
      | ⟨0, _⟩ => rfl
      | ⟨1, _⟩ => rfl
    refine (congrArg (fun i => min (idx i).toInt.toNat 31) hsi).trans ?_
    show min (idx (ix2 n 0)).toInt.toNat 31 = e.val
    rw [he]; omega
  · unfold GatherDims.start GatherDims.offCoord
    rw [dif_neg (show (1 : Fin 3) ∉ (entryDims A B wf).startIndexMap from fun h => absurd (List.mem_singleton.1 h) one_ne),
      dif_pos (keeps 1 (by decide))]
    simp only [Nat.zero_add, Nat.add_zero]
    rfl
  · unfold GatherDims.start GatherDims.offCoord
    rw [dif_neg (show (2 : Fin 3) ∉ (entryDims A B wf).startIndexMap from fun h => absurd (List.mem_singleton.1 h) two_ne),
      dif_pos (keeps 2 (by decide))]
    simp only [Nat.zero_add, Nat.add_zero]
    rfl

end Gather

variable (T0 : (⟨S552, .i32⟩ : BufTy).Contents (Elt Ideal)) (hT : ∀ x, (T0 x).toNat < 32)

/-- A number below 32 isn't negative, so it stays as it is. -/
theorem wrapped {w : BitVec 32} (h : w.toNat < 32) :
    Scalar.select (IntOp.cmpi .slt w 0#32) (IntOp.addi w 32#32) w = w := by
  have : BitVec.slt w 0#32 = false := by
    rw [BitVec.slt, BitVec.toInt_eq_toNat_of_lt (by omega)]
    exact decide_eq_false (by simp)
  show (if BitVec.ofBool (BitVec.slt w 0#32) = 1#1 then _ else w) = w
  rw [this]; rfl

theorem toInt_toNat {w : BitVec 32} (h : w.toNat < 32) : w.toInt.toNat = w.toNat := by
  rw [BitVec.toInt_eq_toNat_of_lt (by omega)]; rfl

/-- The expert of a block. -/
abbrev expertAt (n : Fin 552) : Fin 32 := ⟨(T0 (blockIx n)).toNat, hT _⟩

/-- The numbers that the four gathers read are all the block's expert. -/
theorem number_of (n : Fin 552) (w : BitVec 32) (h : w = Scalar.select (IntOp.cmpi .slt (T0 (blockIx n)) 0#32) (IntOp.addi (T0 (blockIx n)) 32#32) (T0 (blockIx n))) :
    w.toInt.toNat = (expertAt T0 hT n).val := by
  rw [h, wrapped (hT _), toInt_toNat (hT _)]

theorem number_w_in (n : Fin 552) : (val_main_v8 (F := Ideal) T0 (ix2 n 0)).toInt.toNat = (expertAt T0 hT n).val := by
  refine number_of T0 hT n _ ?_
  have e : idx_main_v8 (ix2 n 0) = blockIx n := funext fun a => by match a with | ⟨0, _⟩ => rfl
  rw [val_main_v8_apply, val_main_v7_apply, val_main_v6_apply, val_main_v5_apply, val_main_v4_apply, val_main_v3_apply, e]
  rfl

theorem number_b_in (n : Fin 552) : (val_main_v16 (F := Ideal) T0 (ix2 n 0)).toInt.toNat = (expertAt T0 hT n).val := by
  refine number_of T0 hT n _ ?_
  have e : idx_main_v16 (ix2 n 0) = blockIx n := funext fun a => by match a with | ⟨0, _⟩ => rfl
  rw [val_main_v16_apply, val_main_v15_apply, val_main_v14_apply, val_main_v13_apply, val_main_v12_apply, val_main_v11_apply, e]
  rfl

theorem number_w_out (n : Fin 552) : (val_main_v43 (F := Ideal) T0 (ix2 n 0)).toInt.toNat = (expertAt T0 hT n).val := by
  refine number_of T0 hT n _ ?_
  have e : idx_main_v43 (ix2 n 0) = blockIx n := funext fun a => by match a with | ⟨0, _⟩ => rfl
  rw [val_main_v43_apply, val_main_v42_apply, val_main_v41_apply, val_main_v40_apply, val_main_v39_apply, val_main_v38_apply, e]
  rfl

theorem number_b_out (n : Fin 552) : (val_main_v51 (F := Ideal) T0 (ix2 n 0)).toInt.toNat = (expertAt T0 hT n).val := by
  refine number_of T0 hT n _ ?_
  have e : idx_main_v51 (ix2 n 0) = blockIx n := funext fun a => by match a with | ⟨0, _⟩ => rfl
  rw [val_main_v51_apply, val_main_v50_apply, val_main_v49_apply, val_main_v48_apply, val_main_v47_apply, val_main_v46_apply, e]
  rfl

variable (xs : (⟨S282624x1024, .bf16⟩ : BufTy).Contents (Elt Ideal)) (wi : (⟨S32x2048x1024, .bf16⟩ : BufTy).Contents (Elt Ideal))
  (bi : (⟨S32x1x1024, .f32⟩ : BufTy).Contents (Elt Ideal)) (wo : (⟨S32x512x2048, .bf16⟩ : BufTy).Contents (Elt Ideal))
  (bo : (⟨S32x1x2048, .f32⟩ : BufTy).Contents (Elt Ideal))

/-- The experts' matrices and biases, block by block. -/
theorem w_in_apply (n : Fin 552) (k : Fin 2048) (f : Fin 1024) : val_main_v9 (F := Ideal) T0 wi (ix3 n k f) = wi (ix3 (expertAt T0 hT n) k f) :=
  entry_apply _ (val_main_v2 (F := Ideal) wi) _ n k f _ (number_w_in T0 hT n)

theorem b_in_apply (n : Fin 552) (f : Fin 1024) : val_main_v17 (F := Ideal) T0 bi (ix3 n 0 f) = bi (ix3 (expertAt T0 hT n) 0 f) :=
  entry_apply _ bi _ n 0 f _ (number_b_in T0 hT n)

theorem w_out_apply (n : Fin 552) (f : Fin 512) (d : Fin 2048) : val_main_v44 (F := Ideal) T0 wo (ix3 n f d) = wo (ix3 (expertAt T0 hT n) f d) :=
  entry_apply _ (val_main_v37 (F := Ideal) wo) _ n f d _ (number_w_out T0 hT n)

theorem b_out_apply (n : Fin 552) (d : Fin 2048) : val_main_v52 (F := Ideal) T0 bo (ix3 n 0 d) = bo (ix3 (expertAt T0 hT n) 0 d) :=
  entry_apply _ bo _ n 0 d _ (number_b_out T0 hT n)

/-- A row of a block. -/
abbrev rowOf (n : Fin 552) (r : Fin 256) : Fin 141312 := ⟨n.val * 256 + r.val, by omega⟩

/-- A row's vector. -/
theorem token_apply (n : Fin 552) (r : Fin 256) (k : Fin 2048) : val_main_v1 (F := Ideal) xs (ix3 n r k) = token xs (rowOf n r) k := by
  rw [val_main_v1_apply, val_main_v0_apply]
  refine congrArg xs (funext fun a => Fin.ext ?_)
  match a with
  | ⟨0, _⟩ => show ((n.val * 256 + r.val) * 2048 + k.val) / 1024 = 2 * (n.val * 256 + r.val) + k.val / 1024; omega
  | ⟨1, _⟩ => show ((n.val * 256 + r.val) * 2048 + k.val) % 1024 = k.val % 1024; omega

/-- The product with the first matrix, and its bias. -/
theorem hidden_apply (n : Fin 552) (r : Fin 256) (f : Fin 1024) :
    val_main_v19 (F := Ideal) T0 xs wi bi (ix3 n r f) = hidden xs wi bi (expertAt T0 hT n) (rowOf n r) f := by
  have e : idx_main_v18 (ix3 n r f) = ix3 n 0 f := funext fun a => by match a with | ⟨0, _⟩ => rfl | ⟨1, _⟩ => rfl | ⟨2, _⟩ => rfl
  have el : ∀ k, lidx_main_v10 (ix3 n r f) k = ix3 n r k := fun k => funext fun a => by match a with | ⟨0, _⟩ => rfl | ⟨1, _⟩ => rfl | ⟨2, _⟩ => rfl
  have er : ∀ k, ridx_main_v10 (ix3 n r f) k = ix3 n k f := fun k => funext fun a => by match a with | ⟨0, _⟩ => rfl | ⟨1, _⟩ => rfl | ⟨2, _⟩ => rfl
  rw [val_main_v19_apply, val_main_v18_apply, val_main_v10_apply, e, b_in_apply T0 hT]
  simp only [el, er, token_apply, w_in_apply T0 hT]
  rfl

/-- The gated unit. -/
theorem unit_apply (n : Fin 552) (r : Fin 256) (f : Fin 512) :
    val_main_v36 (F := Ideal) T0 xs wi bi (ix3 n r f)
      = swiglu (hidden xs wi bi (expertAt T0 hT n) (rowOf n r) ⟨f.val, by omega⟩) (hidden xs wi bi (expertAt T0 hT n) (rowOf n r) ⟨512 + f.val, by omega⟩) := by
  have e0 : idx_main_v20 (ix3 n r f) = ix3 n r ⟨f.val, by omega⟩ := funext fun a => by match a with | ⟨0, _⟩ => rfl | ⟨1, _⟩ => rfl | ⟨2, _⟩ => rfl
  have e1 : idx_main_v21 (ix3 n r f) = ix3 n r ⟨512 + f.val, by omega⟩ := funext fun a => by match a with | ⟨0, _⟩ => rfl | ⟨1, _⟩ => rfl | ⟨2, _⟩ => rfl
  rw [val_main_v36_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply, val_main_call0_v4_apply,
    val_main_call0_v3_apply, val_main_call0_v2_apply, val_main_call0_v1_apply, val_main_call0_v0_apply, val_main_v23_apply, val_main_v22_apply,
    val_main_v21_apply, val_main_v20_apply, e0, e1, hidden_apply T0 hT, hidden_apply T0 hT, val_main_cst_6_apply, val_main_cst_7_apply, val_main_cst_8_apply]
  have one : (FloatOps.ofBits .f32 0x3F800000#32 : Ideal .f32) = 1 := Ideal.ofBits_one_f32
  rw [one]
  rfl

/-- The reference's result is the experts'. -/
theorem result_eq : val_main_v55 (F := Ideal) T0 xs wi bi wo bo = experts xs wi bi wo bo T0 hT := by
  funext i
  let n : Fin 552 := ⟨(i 0).val / 256, by have : (i 0).val < 141312 := (i 0).isLt; omega⟩
  let r : Fin 256 := ⟨(i 0).val % 256, by omega⟩
  let d : Fin 2048 := ⟨(i 1).val, (i 1).isLt⟩
  have hi : idx_main_v55 i = ix3 n r d := funext fun a => Fin.ext (by
    have h1 : (i 1).val < 2048 := (i 1).isLt
    match a with
    | ⟨0, _⟩ => show ((i 0).val * 2048 + (i 1).val) / 524288 = (i 0).val / 256; omega
    | ⟨1, _⟩ => show ((i 0).val * 2048 + (i 1).val) / 2048 % 256 = (i 0).val % 256; omega
    | ⟨2, _⟩ => show ((i 0).val * 2048 + (i 1).val) % 2048 = (i 1).val; omega)
  have e : idx_main_v53 (ix3 n r d) = ix3 n 0 d := funext fun a => by match a with | ⟨0, _⟩ => rfl | ⟨1, _⟩ => rfl | ⟨2, _⟩ => rfl
  have el : ∀ k, lidx_main_v45 (ix3 n r d) k = ix3 n r k := fun k => funext fun a => by match a with | ⟨0, _⟩ => rfl | ⟨1, _⟩ => rfl | ⟨2, _⟩ => rfl
  have er : ∀ k, ridx_main_v45 (ix3 n r d) k = ix3 n k d := fun k => funext fun a => by match a with | ⟨0, _⟩ => rfl | ⟨1, _⟩ => rfl | ⟨2, _⟩ => rfl
  rw [val_main_v55_apply, hi, val_main_v54_apply, val_main_v53_apply, val_main_v45_apply, e, b_out_apply T0 hT]
  simp only [el, er, unit_apply T0 hT, w_out_apply T0 hT]
  have hr : rowOf n r = ⟨(i 0).val, (i 0).isLt⟩ := Fin.ext (by show (i 0).val / 256 * 256 + (i 0).val % 256 = (i 0).val; omega)
  rw [hr]
  rfl

end Cert.Reference2Ideal.Moe

end
-- ==== Proof.MoePre.lean ====
/-
  What the precondition and the mask of the experts' call say: the tables are good, and the rows compared are those of the
  blocks in use.
-/
module

public import proofs.«01_k».proof.Pre_tables
public import proofs.«01_k».proof.On_rows_used
public import proofs.«01_k».proof.Proof.Tables
public import Idealize.ShloMosaic.Lib.Pipeline.Value
public import Idealize.ShloMosaic.Lib.ValueIdx
public import Idealize.ShloMosaic.Lib.ReduceAll

@[expose] public section

noncomputable section

namespace Cert.Pre_tables

open Idealize.ShloMosaic Cert.Moe

/-- The side conditions that the printed precondition states. -/
instance facts : Facts := ⟨by decide, by decide, by decide, by decide, by decide⟩

theorem of_sge {a b : BitVec 32} (h : BitVec.ofBool (b.sle a) = 1#1) : b.toInt ≤ a.toInt := by
  by_contra hc
  rw [BitVec.sle, decide_eq_false hc] at h
  exact absurd h (by decide)

theorem of_slt {a b : BitVec 32} (h : BitVec.ofBool (a.slt b) = 1#1) : a.toInt < b.toInt := by
  by_contra hc
  rw [BitVec.slt, decide_eq_false hc] at h
  exact absurd h (by decide)

/-- Where the precondition holds, every block names one of the 32 experts, and at least one block is in use. -/
theorem good_of_fn {F : FTy → Type} [FloatOps F] (T0 : IVec S552 32) (T1 : IVec S1 32) (x2 : FVec F S282624x1024 .bf16)
    (x3 : FVec F S32x2048x1024 .bf16) (x4 : FVec F S32x1x1024 .f32) (x5 : FVec F S32x512x2048 .bf16) (x6 : FVec F S32x1x2048 .f32)
    (h : fn T0 T1 x2 x3 x4 x5 x6 = fun _ => 1#1) : Good T0 T1 := by
  have h0 := congrFun h (Shape.Idx.first Facts.h_S_)
  dsimp only [fn] at h0
  obtain ⟨h12, h3⟩ := IntOp.andi_eq_one.1 h0
  obtain ⟨h1, h2⟩ := IntOp.andi_eq_one.1 h12
  have ge (x) : (0#32 : BitVec 32).toInt ≤ (T0 x).toInt := of_sge (Host.reduce_andi_all _ _ _ _ _ h1 x)
  have lt (x) : (T0 x).toInt < (32#32 : BitVec 32).toInt := of_slt (Host.reduce_andi_all _ _ _ _ _ h2 x)
  have one : (1#32 : BitVec 32).toInt ≤ (T1 theWord).toInt := of_sge (Host.reduce_andi_all _ _ _ _ _ h3 theWord)
  have e0 : (0#32 : BitVec 32).toInt = 0 := by decide
  have e1 : (1#32 : BitVec 32).toInt = 1 := by decide
  have e32 : (32#32 : BitVec 32).toInt = 32 := by decide
  refine ⟨fun x => ?_, ?_, ?_⟩
  · have hg := ge x
    have hl := lt x
    rw [e0] at hg
    rw [e32] at hl
    rw [BitVec.toInt_eq_toNat_cond] at hg hl
    split at hl <;> split at hg <;> omega
  · rw [e1, BitVec.toInt_eq_toNat_cond] at one
    split at one <;> omega
  · have := (T1 theWord).isLt
    rw [e1, BitVec.toInt_eq_toNat_cond] at one
    split at one <;> omega

end Cert.Pre_tables

namespace Cert.On_rows_used

open Idealize.ShloMosaic Cert.Moe

/-- The side conditions that the printed mask states. -/
instance facts : Facts := ⟨by decide, by decide, by decide, by decide, by decide⟩

/-- Where the mask is set, the row's block is in use. -/
theorem used_of_fn {F : FTy → Type} [FloatOps F] (T0 : IVec S552 32) (T1 : IVec S1 32) (x2 : FVec F S282624x1024 .bf16)
    (x3 : FVec F S32x2048x1024 .bf16) (x4 : FVec F S32x1x1024 .f32) (x5 : FVec F S32x512x2048 .bf16) (x6 : FVec F S32x1x2048 .f32)
    (hv : (T1 theWord).toNat < 2147483648) (i : S141312x2048.Idx) (h : fn T0 T1 x2 x3 x4 x5 x6 i = 1#1) :
    (i 0).val / 256 < (T1 theWord).toNat := by
  have h0 : (i 0).val < 141312 := (i 0).isLt
  have h1 : (i 1).val < 2048 := (i 1).isLt
  let n : Fin 552 := ⟨(i 0).val / 256, by omega⟩
  let j : S552x256x2048.Idx := fun a => match a with
    | ⟨0, _⟩ => n | ⟨1, _⟩ => (⟨(i 0).val % 256, by omega⟩ : Fin 256) | ⟨2, _⟩ => (⟨(i 1).val, h1⟩ : Fin 2048)
  let k : S552x1x1.Idx := fun a => match a with | ⟨0, _⟩ => n | ⟨1, _⟩ => (0 : Fin 1) | ⟨2, _⟩ => (0 : Fin 1)
  dsimp only [fn] at h
  rw [shapeCast_apply _ _ i j (by
      rw [Shape.rowMajor_val_three, Shape.rowMajor_val_two]
      show ((i 0).val / 256 * 256 + (i 0).val % 256) * 2048 + (i 1).val = (i 0).val * 2048 + (i 1).val
      omega),
    broadcastInDim_apply _ _ _ j k (fun a => match a with
      | ⟨0, _⟩ => by show n.val = if (552 : Nat) = 1 then 0 else n.val; rw [if_neg (by decide)]
      | ⟨1, _⟩ => by show 0 = if (1 : Nat) = 1 then 0 else _; rw [if_pos rfl]
      | ⟨2, _⟩ => by show 0 = if (1 : Nat) = 1 then 0 else _; rw [if_pos rfl]),
    broadcastInDim_apply _ _ _ k (blockIx n) (fun a => match a with
      | ⟨0, _⟩ => by show n.val = if (552 : Nat) = 1 then 0 else n.val; rw [if_neg (by decide)])] at h
  have hw : broadcastInDim S552 ![] Facts.bcast_S_S552 (shapeCast S_ T1 Facts.shapeCasts_S1_S_) (blockIx n) = T1 theWord :=
    congrArg T1 (eq_theWord _)
  have h' : BitVec.ofBool ((BitVec.ofNat 32 n.val).slt
      (broadcastInDim S552 ![] Facts.bcast_S_S552 (shapeCast S_ T1 Facts.shapeCasts_S1_S_) (blockIx n))) = 1#1 := h
  rw [hw] at h'
  rw [slt_eq n.val _ (by omega) hv] at h'
  by_contra hc
  rw [decide_eq_false hc] at h'
  exact absurd h' (by decide)

end Cert.On_rows_used

end
-- ==== Proof.OddMath.lean ====
/-
  The projection of an odd layer as mathematics: rows times one matrix, whose columns are the queries and the keys of the
  attention, its values, the queries, the keys and the weights of the index.
-/
module

public import Idealize.ShloMosaic.PureOps.Ideal.Laws
public import Idealize.ShloMosaic.Lib.Pointwise.Index

@[expose] public section

noncomputable section

namespace Cert.Odd

open Idealize.ShloMosaic Finset

/-- The scales of the attention's queries, of the index's queries and of the index's weights. -/
def qScale : EReal := Ideal.ofBits .f32 0x3DB504F3#32
def iScale : EReal := Ideal.ofBits .f32 0x3E000000#32
def wScale : EReal := Ideal.ofBits .f32 0x3EB504F3#32

/-- The rows, and the matrix. -/
abbrev Rows : Type := (⟨2, ![33280, 2048]⟩ : Shape).Idx → EReal
abbrev Mat : Type := (⟨2, ![2048, 1864]⟩ : Shape).Idx → EReal

/-- Row `r` times column `j`. -/
def proj (h : Rows) (w : Mat) (r : Fin 33280) (j : Fin 1864) : EReal := ∑ k : Fin 2048, h (ix2 r k) * w (ix2 k j)

/-- The attention's queries, scaled, eight heads of 128. -/
def cq (h : Rows) (w : Mat) : (⟨2, ![33280, 1024]⟩ : Shape).Idx → EReal := fun i =>
  proj h w ⟨(i 0).val, (i 0).isLt⟩ ⟨(i 1).val, by have : (i 1).val < 1024 := (i 1).isLt; omega⟩ * qScale

/-- The attention's keys. -/
def ck (h : Rows) (w : Mat) : (⟨2, ![33280, 128]⟩ : Shape).Idx → EReal := fun i =>
  proj h w ⟨(i 0).val, (i 0).isLt⟩ ⟨1024 + (i 1).val, by have : (i 1).val < 128 := (i 1).isLt; omega⟩

/-- The index's queries, scaled: eight heads of 64 columns, each followed by 64 zero columns. -/
def iq (h : Rows) (w : Mat) : (⟨2, ![33280, 1024]⟩ : Shape).Idx → EReal := fun i =>
  if hi : (i 1).val % 128 < 64 then
    proj h w ⟨(i 0).val, (i 0).isLt⟩ ⟨1280 + ((i 1).val / 128 * 64 + (i 1).val % 128), by
      have : (i 1).val < 1024 := (i 1).isLt; omega⟩ * iScale
  else 0

/-- The index's keys: 64 columns, followed by 64 zero columns. -/
def ik (h : Rows) (w : Mat) : (⟨2, ![33280, 128]⟩ : Shape).Idx → EReal := fun i =>
  if hi : (i 1).val < 64 then proj h w ⟨(i 0).val, (i 0).isLt⟩ ⟨1792 + (i 1).val, by omega⟩ else 0

/-- The attention's values, each chunk of 128 rows transposed. -/
def vt (h : Rows) (w : Mat) : (⟨3, ![260, 128, 128]⟩ : Shape).Idx → EReal := fun i =>
  proj h w
    ⟨128 * (i 0).val + (i 2).val, by
      have : (i 0).val < 260 := (i 0).isLt
      have : (i 2).val < 128 := (i 2).isLt
      omega⟩
    ⟨1152 + (i 1).val, by have : (i 1).val < 128 := (i 1).isLt; omega⟩

/-- The index's weights, scaled and transposed. -/
def wt (h : Rows) (w : Mat) : (⟨2, ![8, 33280]⟩ : Shape).Idx → EReal := fun i =>
  proj h w ⟨(i 1).val, (i 1).isLt⟩ ⟨1856 + (i 0).val, by have : (i 0).val < 8 := (i 0).isLt; omega⟩ * wScale

end Cert.Odd

end
-- ==== Proof.OddHost.lean ====
/-
  The matrices the projection's kernel reads, at an index.
-/
module

public import proofs.«01_k».proof.Proof.OddMath
public import proofs.«01_k».proof.Proof.Gen.Kernel3Ideal.Frame
public import Idealize.ShloMosaic.Lib.StableHlo.ReadAt
public import Idealize.ShloMosaic.Lib.Pointwise.Tactic
public import Idealize.ShloMosaic.Lib.Claim

@[expose] public section

noncomputable section

namespace Cert.Kernel3Ideal.Odd

open Cert.Kernel3Ideal Cert.Kernel3Ideal.Gen Cert.Odd Idealize.ShloMosaic Idealize.ShloMosaic.TcCoe Finset

variable (m : (ℓ : Loc nD τ sig) → Buf (Elt Ideal) ℓ) (c : Dev nD)

/-- The number zero, as the added columns hold it. -/
theorem filler : FloatOps.sitofp (F := Ideal) .f32 (0#32) = (0 : EReal) := by
  show (((0#32 : BitVec 32).toInt : ℝ) : EReal) = 0
  simp

/-- The columns of the attention's values, transposed. -/
theorem v13_apply (d : Fin 128) (k : Fin 2048) :
    V m c main_v13 (ix2 d k) = m ((c : Thread nD τ).loc main_arg1) (ix2 k ⟨1152 + d.val, by omega⟩) := by
  unfold V
  after_reads_at

/-- The columns of the index's weights, transposed; eight more rows are not read. -/
theorem v16_apply (i : Fin 8) (k : Fin 2048) :
    V m c main_v16 (ix2 ⟨i.val, by omega⟩ k) = m ((c : Thread nD τ).loc main_arg1) (ix2 k ⟨1856 + i.val, by omega⟩) := by
  unfold V
  after_reads_at

/-- The wide matrix: its first columns are the matrix's own. -/
theorem v11_first (k : Fin 2048) (j : Fin 2304) (hj : j.val < 1152) :
    V m c main_v11 (ix2 k j) = m ((c : Thread nD τ).loc main_arg1) (ix2 k ⟨j.val, by omega⟩) := by
  unfold V
  after_reads_at
  by_cases h : j.val < 1024
  · rw [dif_pos h]
    after_reads_at
  · rw [dif_neg h, dif_pos (by omega)]
    after_reads_at
    have e : 1024 + (j.val - 1024) = j.val := by omega
    simp only [e]

/-- Then the index's queries: each head's 64 columns, and 64 columns of zeros. -/
theorem v11_index (k : Fin 2048) (j : Fin 2304) (q : ℕ) (hq : q < 1024) (hj : j.val = 1152 + q) :
    V m c main_v11 (ix2 k j)
      = if h : q % 128 < 64 then m ((c : Thread nD τ).loc main_arg1) (ix2 k ⟨1280 + (q / 128 * 64 + q % 128), by omega⟩) else (0 : EReal) := by
  unfold V
  after_reads_at
  rw [dif_neg (by omega), dif_neg (by omega), dif_pos (by omega)]
  after_reads_at
  have e : j.val - 1024 - 128 = q := by omega
  by_cases h : q % 128 < 64
  · refine (dif_pos (by omega)).trans (Eq.trans ?_ (dif_pos h).symm)
    simp only [e]
  · refine (dif_neg (by omega)).trans (Eq.trans ?_ (dif_neg h).symm)
    exact filler

/-- Then the index's keys: 64 columns, and 64 columns of zeros. -/
theorem v11_last (k : Fin 2048) (j : Fin 2304) (q : ℕ) (hq : q < 128) (hj : j.val = 2176 + q) :
    V m c main_v11 (ix2 k j)
      = if h : q < 64 then m ((c : Thread nD τ).loc main_arg1) (ix2 k ⟨1792 + q, by omega⟩) else (0 : EReal) := by
  unfold V
  after_reads_at
  rw [dif_neg (by omega), dif_neg (by omega), dif_neg (by omega)]
  after_reads_at
  have e : j.val - 1024 - 128 - 1024 = q := by omega
  by_cases h : q < 64
  · refine (dif_pos (by omega)).trans (Eq.trans ?_ (dif_pos h).symm)
    simp only [e]
  · refine (dif_neg (by omega)).trans (Eq.trans ?_ (dif_neg h).symm)
    exact filler

end Cert.Kernel3Ideal.Odd

end
-- ==== Proof.OddBlock.lean ====
/-
  What the projection's kernel computes of a block of rows: the products, at an index.
-/
module

public import proofs.«01_k».proof.Proof.OddMath
public import proofs.«01_k».proof.Proof.Gen.Kernel3Ideal.Frame
public import Idealize.ShloMosaic.Lib.VecWindow
public import Idealize.ShloMosaic.Lib.Pointwise.Tactic
public import Idealize.ShloMosaic.Lib.Pointwise.Contract
public import Idealize.ShloMosaic.Lib.Pointwise.Reshape

@[expose] public section

noncomputable section

namespace Cert.Kernel3Ideal.Odd

open Cert.Kernel3Ideal Cert.Kernel3Ideal.Gen Cert.Odd Idealize.ShloMosaic Idealize.ShloMosaic.TcCoe Finset

/-- The product with the wide matrix. -/
theorem wide_apply (x : FVec Ideal S640x2048 .bf16) (w : FVec Ideal S2048x2304 .bf16) (r : Fin 640) (j : Fin 2304) :
    k0_pay6 (F := Ideal) x w (ix2 r j) = ∑ k : Fin 2048, x (ix2 r k) * w (ix2 k j) := by
  unfold k0_pay6
  pointwise

/-- The transposed product with the values' columns. -/
theorem values_apply (x : FVec Ideal S640x2048 .bf16) (w : FVec Ideal S128x2048 .bf16) (d : Fin 128) (r : Fin 640) :
    k0_pay11 (F := Ideal) x w (ix2 d r) = ∑ k : Fin 2048, w (ix2 d k) * x (ix2 r k) := by
  unfold k0_pay11
  pointwise

/-- The transposed and scaled product with the weights' columns. -/
theorem weights_apply (x : FVec Ideal S640x2048 .bf16) (w : FVec Ideal S16x2048 .bf16) (i : Fin 8) (r : Fin 640) :
    k0_pay5 (F := Ideal) x w (ix2 i r) = (∑ k : Fin 2048, w (ix2 ⟨i.val, by omega⟩ k) * x (ix2 r k)) * wScale := by
  unfold k0_pay5
  pointwise
  rfl

end Cert.Kernel3Ideal.Odd

end
-- ==== Proof.OddArray.lean ====
/-
  The projection kernel's six output arrays.
-/
module

public import proofs.«01_k».proof.Proof.OddHost
public import proofs.«01_k».proof.Proof.OddBlock
public import proofs.«01_k».proof.Proof.Gen.Kernel3Ideal.Value
public import Idealize.ShloMosaic.Lib.Pipeline.ValueKit

@[expose] public section

noncomputable section

namespace Cert.Kernel3Ideal.Odd

open Cert.Kernel3Ideal Cert.Kernel3Ideal.Gen Cert.Odd Idealize.ShloMosaic Idealize.ShloMosaic.TcCoe Idealize.SL.Sem Finset

/-- The blocks of a grid point. -/
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0, 0] := (by decide +kernel : ∀ t : Fin grid0.N, _)
theorem index9 : ∀ t : Fin cfg0.N, win0_9.index t = ![0, t.val] := (by decide +kernel : ∀ t : Fin grid0.N, _)

variable (m : (ℓ : Loc nD τ sig) → Buf (Elt Ideal) ℓ) (c : Dev nD)

/-- The rows of a grid point's block. -/
def row (t : Fin cfg0.N) (r : Fin 640) : Fin 33280 := ⟨640 * t.val + r.val, by
  have : t.val < 52 := t.isLt
  omega⟩

theorem rows_apply (t : Fin cfg0.N) (r : Fin 640) (k : Fin 2048) :
    (iblk m c 0 t : S640x2048.Idx → EReal) (ix2 r k) = m ((c : Thread nD τ).loc main_arg0) (ix2 (row t r) k) := by
  blk_simp [iblk]
  rw [V_main_arg0]
  have e : (win0_0.blk t).view.emb (ix2 r k) = (ix2 (row t r) k : S33280x2048.Idx) := by
    unfold row
    blk_ext [index0]
  rw [e]

/-- The other blocks are whole matrices. -/
theorem wide_block (t : Fin cfg0.N) (k : Fin 2048) (j : Fin 2304) :
    (iblk m c 1 t : S2048x2304.Idx → EReal) (ix2 k j) = V m c main_v11 (ix2 k j) := by
  blk_simp [iblk]
  have e : (win0_1.blk t).view.emb (ix2 k j) = (ix2 k j : S2048x2304.Idx) := by
    blk_ext [index1]
  rw [e]

theorem values_block (t : Fin cfg0.N) (d : Fin 128) (k : Fin 2048) :
    (iblk m c 2 t : S128x2048.Idx → EReal) (ix2 d k) = V m c main_v13 (ix2 d k) := by
  blk_simp [iblk]
  have e : (win0_2.blk t).view.emb (ix2 d k) = (ix2 d k : S128x2048.Idx) := by
    blk_ext [index2]
  rw [e]

theorem weights_block (t : Fin cfg0.N) (i : Fin 16) (k : Fin 2048) :
    (iblk m c 3 t : S16x2048.Idx → EReal) (ix2 i k) = V m c main_v16 (ix2 i k) := by
  blk_simp [iblk]
  have e : (win0_3.blk t).view.emb (ix2 i k) = (ix2 i k : S16x2048.Idx) := by
    blk_ext [index3]
  rw [e]

/-- The rows and the wide matrix. -/
def rows : Rows := m ((c : Thread nD τ).loc main_arg0)
def wide : S2048x2304.Idx → EReal := V m c main_v11

/-- The product of a point's rows with the wide matrix. -/
theorem wide_product (t : Fin cfg0.N) (r : Fin 640) (j : Fin 2304) :
    k0_pay6 (F := Ideal) (iblk m c 0 t) (iblk m c 1 t) (ix2 r j)
      = ∑ k : Fin 2048, rows m c (ix2 (row t r) k) * wide m c (ix2 k j) := by
  rw [wide_apply]
  refine Finset.sum_congr rfl fun k _ => ?_
  rw [rows_apply, wide_block]
  rfl

/-- A load of a whole block is the block. -/
theorem load_rows (x : Vec Ideal S640x2048 .bf16) : View.ld x r0_0 = x :=
  View.ld_unit_zero (funext fun a => by fin_cases a <;> rfl) _ x
theorem load_wide (x : Vec Ideal S2048x2304 .bf16) : View.ld x r0_1 = x :=
  View.ld_unit_zero (funext fun a => by fin_cases a <;> rfl) _ x
theorem load_values (x : Vec Ideal S128x2048 .bf16) : View.ld x r0_4 = x :=
  View.ld_unit_zero (funext fun a => by fin_cases a <;> rfl) _ x
theorem load_weights (x : Vec Ideal S16x2048 .bf16) : View.ld x r0_10 = x :=
  View.ld_unit_zero (funext fun a => by fin_cases a <;> rfl) _ x

section Block
variable (x0 : Vec Ideal S640x2048 .bf16) (x1 : Vec Ideal S2048x2304 .bf16) (x2 : Vec Ideal S128x2048 .bf16) (x3 : Vec Ideal S16x2048 .bf16)

/-- What a point stores in each of the six blocks, at an index. -/
theorem out4_apply (r : Fin 640) (j : Fin 1024) :
    out0_4 (F := Ideal) x0 x1 x2 x3 (ix2 r j) = (k0_pay6 (F := Ideal) x0 x1 (ix2 r ⟨j.val, by omega⟩) * qScale : EReal) := by
  unfold out0_4
  rw [load_rows, load_wide, Value.canon4_eq]
  refine congrArg (fun a : EReal => a * qScale) (congrArg (k0_pay6 (F := Ideal) x0 x1) ?_)
  exact funext fun a => Fin.ext (by match a with | ⟨0, _⟩ => rfl | ⟨1, _⟩ => rfl)

theorem out5_apply (r : Fin 640) (j : Fin 128) :
    out0_5 (F := Ideal) x0 x1 x2 x3 (ix2 r j) = (k0_pay6 (F := Ideal) x0 x1 (ix2 r ⟨j.val + 1024, by omega⟩) : EReal) := by
  unfold out0_5
  rw [load_rows, load_wide, Value.canon5_eq]
  refine congrArg (k0_pay6 (F := Ideal) x0 x1) ?_
  exact funext fun a => Fin.ext (by match a with | ⟨0, _⟩ => rfl | ⟨1, _⟩ => rfl)

theorem out6_apply (r : Fin 640) (j : Fin 1024) :
    out0_6 (F := Ideal) x0 x1 x2 x3 (ix2 r j) = (k0_pay6 (F := Ideal) x0 x1 (ix2 r ⟨j.val + 1152, by omega⟩) * iScale : EReal) := by
  unfold out0_6
  rw [load_rows, load_wide, Value.canon6_eq]
  refine congrArg (fun a : EReal => a * iScale) (congrArg (k0_pay6 (F := Ideal) x0 x1) ?_)
  exact funext fun a => Fin.ext (by match a with | ⟨0, _⟩ => rfl | ⟨1, _⟩ => rfl)

theorem out7_apply (r : Fin 640) (j : Fin 128) :
    out0_7 (F := Ideal) x0 x1 x2 x3 (ix2 r j) = (k0_pay6 (F := Ideal) x0 x1 (ix2 r ⟨j.val + 2176, by omega⟩) : EReal) := by
  unfold out0_7
  rw [load_rows, load_wide, Value.canon7_eq]
  refine congrArg (k0_pay6 (F := Ideal) x0 x1) ?_
  exact funext fun a => Fin.ext (by match a with | ⟨0, _⟩ => rfl | ⟨1, _⟩ => rfl)

theorem out8_apply (b : Fin 5) (d l : Fin 128) :
    out0_8 (F := Ideal) x0 x1 x2 x3 (ix3 b d l) = k0_pay11 (F := Ideal) x0 x2 (ix2 d ⟨b.val * 128 + l.val, by omega⟩) := by
  have e : out0_8 (F := Ideal) x0 x1 x2 x3 = View.canon [⟨r0_9, k0_pay4 (F := Ideal) (k0_pay11 (F := Ideal) x0 x2)⟩, ⟨r0_8, k0_pay3 (F := Ideal) (k0_pay11 (F := Ideal) x0 x2)⟩,
      ⟨r0_7, k0_pay2 (F := Ideal) (k0_pay11 (F := Ideal) x0 x2)⟩, ⟨r0_6, k0_pay1 (F := Ideal) (k0_pay13 (F := Ideal) x0 x2)⟩, ⟨r0_5, k0_pay12 (F := Ideal) x0 x2⟩] := by
    unfold out0_8 k0_pay14
    rw [load_rows, load_values]
  rw [e, Value.canon8_eq]
  refine congrArg (k0_pay11 (F := Ideal) x0 x2) ?_
  exact funext fun a => Fin.ext (by match a with | ⟨0, _⟩ => rfl | ⟨1, _⟩ => rfl)

theorem out9_apply (i : Fin 8) (r : Fin 640) : out0_9 (F := Ideal) x0 x1 x2 x3 (ix2 i r) = k0_pay5 (F := Ideal) x0 x3 (ix2 i r) := by
  unfold out0_9
  rw [load_rows, load_weights]
  exact congrFun (View.canon_unit_zero (funext fun a => by fin_cases a <;> rfl) _ _) _

end Block

/-- A sum of products of which the second factors are all zero. -/
theorem sum_mul_zero (f g : Fin 2048 → EReal) (hg : ∀ k, g k = 0) : ∑ k : Fin 2048, f k * g k = 0 :=
  Finset.sum_eq_zero fun k _ => by rw [hg k, mul_zero]

/-- The attention's queries. -/
theorem array4 : (dats m 0 c).arrAt 4 cfg0.N = cq (m ((c : Thread nD τ).loc main_arg0)) (m ((c : Thread nD τ).loc main_arg1)) := by
  refine (dats m 0 c).arrAt_eq_of_covers 4 _ (by decide +kernel) fun t hf y => ?_
  blk_simp
  rw [after0_4]
  obtain ⟨r, j, rfl⟩ : ∃ (r : Fin 640) (j : Fin 1024), y = (ix2 r j : S640x1024.Idx) :=
    ⟨⟨(y 0).val, (y 0).isLt⟩, ⟨(y 1).val, (y 1).isLt⟩, funext fun a => Fin.ext (by match a with | ⟨0, _⟩ => rfl | ⟨1, _⟩ => rfl)⟩
  have e4 : (win0_4.blk t).view.emb (ix2 r j) = (ix2 (row t r) j : S33280x1024.Idx) := by
    unfold row
    blk_ext [index4]
  rw [e4]
  refine (out4_apply _ _ _ _ r j).trans (congrArg (fun a : EReal => a * qScale) ((wide_product m c t r _).trans ?_))
  unfold proj
  refine Finset.sum_congr rfl fun k _ => ?_
  exact congrArg (fun a : EReal => _ * a) (v11_first m c k _ (by show j.val < 1152; omega))

/-- The attention's keys. -/
theorem array5 : (dats m 0 c).arrAt 5 cfg0.N = ck (m ((c : Thread nD τ).loc main_arg0)) (m ((c : Thread nD τ).loc main_arg1)) := by
  refine (dats m 0 c).arrAt_eq_of_covers 5 _ (by decide +kernel) fun t hf y => ?_
  blk_simp
  rw [after0_5]
  obtain ⟨r, j, rfl⟩ : ∃ (r : Fin 640) (j : Fin 128), y = (ix2 r j : S640x128.Idx) :=
    ⟨⟨(y 0).val, (y 0).isLt⟩, ⟨(y 1).val, (y 1).isLt⟩, funext fun a => Fin.ext (by match a with | ⟨0, _⟩ => rfl | ⟨1, _⟩ => rfl)⟩
  have e5 : (win0_5.blk t).view.emb (ix2 r j) = (ix2 (row t r) j : S33280x128.Idx) := by
    unfold row
    blk_ext [index5]
  rw [e5]
  refine (out5_apply _ _ _ _ r j).trans ((wide_product m c t r _).trans ?_)
  unfold ck proj
  refine Finset.sum_congr rfl fun k _ => congrArg (fun a : EReal => _ * a) ((v11_first m c k ⟨j.val + 1024, by omega⟩ (by show j.val + 1024 < 1152; omega)).trans ?_)
  exact congrArg (fun a => m ((c : Thread nD τ).loc main_arg1) (ix2 k a)) (Fin.ext (Nat.add_comm _ _))

/-- The index's queries. -/
theorem array6 : (dats m 0 c).arrAt 6 cfg0.N = iq (m ((c : Thread nD τ).loc main_arg0)) (m ((c : Thread nD τ).loc main_arg1)) := by
  refine (dats m 0 c).arrAt_eq_of_covers 6 _ (by decide +kernel) fun t hf y => ?_
  blk_simp
  rw [after0_6]
  obtain ⟨r, j, rfl⟩ : ∃ (r : Fin 640) (j : Fin 1024), y = (ix2 r j : S640x1024.Idx) :=
    ⟨⟨(y 0).val, (y 0).isLt⟩, ⟨(y 1).val, (y 1).isLt⟩, funext fun a => Fin.ext (by match a with | ⟨0, _⟩ => rfl | ⟨1, _⟩ => rfl)⟩
  have e6 : (win0_6.blk t).view.emb (ix2 r j) = (ix2 (row t r) j : S33280x1024.Idx) := by
    unfold row
    blk_ext [index6]
  rw [e6]
  have hw := fun k : Fin 2048 => v11_index m c k ⟨j.val + 1152, by omega⟩ j.val j.isLt (Nat.add_comm _ _)
  refine (out6_apply _ _ _ _ r j).trans (Eq.trans (congrArg (fun a : EReal => a * iScale) (wide_product m c t r _)) ?_)
  unfold iq
  by_cases h : j.val % 128 < 64
  · refine Eq.trans ?_ (dif_pos h).symm
    exact congrArg (fun a : EReal => a * iScale) (Finset.sum_congr rfl fun k _ => congrArg (fun a : EReal => _ * a) ((hw k).trans (dif_pos h)))
  · refine Eq.trans ?_ (dif_neg h).symm
    exact (congrArg (fun a : EReal => a * iScale) (sum_mul_zero _ _ fun k => (hw k).trans (dif_neg h))).trans (zero_mul _)

/-- The index's keys. -/
theorem array7 : (dats m 0 c).arrAt 7 cfg0.N = ik (m ((c : Thread nD τ).loc main_arg0)) (m ((c : Thread nD τ).loc main_arg1)) := by
  refine (dats m 0 c).arrAt_eq_of_covers 7 _ (by decide +kernel) fun t hf y => ?_
  blk_simp
  rw [after0_7]
  obtain ⟨r, j, rfl⟩ : ∃ (r : Fin 640) (j : Fin 128), y = (ix2 r j : S640x128.Idx) :=
    ⟨⟨(y 0).val, (y 0).isLt⟩, ⟨(y 1).val, (y 1).isLt⟩, funext fun a => Fin.ext (by match a with | ⟨0, _⟩ => rfl | ⟨1, _⟩ => rfl)⟩
  have e7 : (win0_7.blk t).view.emb (ix2 r j) = (ix2 (row t r) j : S33280x128.Idx) := by
    unfold row
    blk_ext [index7]
  rw [e7]
  have hw := fun k : Fin 2048 => v11_last m c k ⟨j.val + 2176, by omega⟩ j.val j.isLt (Nat.add_comm _ _)
  refine (out7_apply _ _ _ _ r j).trans ((wide_product m c t r _).trans ?_)
  unfold ik
  by_cases h : j.val < 64
  · refine Eq.trans ?_ (dif_pos h).symm
    exact Finset.sum_congr rfl fun k _ => congrArg (fun a : EReal => _ * a) ((hw k).trans (dif_pos h))
  · refine Eq.trans ?_ (dif_neg h).symm
    exact sum_mul_zero _ _ fun k => (hw k).trans (dif_neg h)

/-- The attention's values. -/
theorem array8 : (dats m 0 c).arrAt 8 cfg0.N = vt (m ((c : Thread nD τ).loc main_arg0)) (m ((c : Thread nD τ).loc main_arg1)) := by
  refine (dats m 0 c).arrAt_eq_of_covers 8 _ (by decide +kernel) fun t hf y => ?_
  blk_simp
  rw [after0_8]
  have ht : t.val < 52 := t.isLt
  obtain ⟨b, d, l, rfl⟩ : ∃ (b : Fin 5) (d l : Fin 128), y = (ix3 b d l : S5x128x128.Idx) :=
    ⟨⟨(y 0).val, (y 0).isLt⟩, ⟨(y 1).val, (y 1).isLt⟩, ⟨(y 2).val, (y 2).isLt⟩,
      funext fun a => Fin.ext (by match a with | ⟨0, _⟩ => rfl | ⟨1, _⟩ => rfl | ⟨2, _⟩ => rfl)⟩
  have e8 : (win0_8.blk t).view.emb (ix3 b d l) = (ix3 ⟨5 * t.val + b.val, by omega⟩ d l : S260x128x128.Idx) := by
    blk_ext [index8]
  rw [e8]
  refine (out8_apply _ _ _ _ b d l).trans ((values_apply _ _ _ _).trans ?_)
  unfold vt proj
  refine Finset.sum_congr rfl fun k _ => (mul_comm _ _).trans (congrArg₂ (fun a b : EReal => a * b) ?_ ?_)
  · refine (rows_apply m c t _ k).trans (congrArg (fun a => m ((c : Thread nD τ).loc main_arg0) (ix2 a k)) (Fin.ext ?_))
    show 640 * t.val + (b.val * 128 + l.val) = 128 * (5 * t.val + b.val) + l.val
    omega
  · exact (values_block m c t d k).trans (v13_apply m c d k)

/-- The index's weights. -/
theorem array9 : (dats m 0 c).arrAt 9 cfg0.N = wt (m ((c : Thread nD τ).loc main_arg0)) (m ((c : Thread nD τ).loc main_arg1)) := by
  refine (dats m 0 c).arrAt_eq_of_covers 9 _ (by decide +kernel) fun t hf y => ?_
  blk_simp
  rw [after0_9]
  obtain ⟨i, r, rfl⟩ : ∃ (i : Fin 8) (r : Fin 640), y = (ix2 i r : S8x640.Idx) :=
    ⟨⟨(y 0).val, (y 0).isLt⟩, ⟨(y 1).val, (y 1).isLt⟩, funext fun a => Fin.ext (by match a with | ⟨0, _⟩ => rfl | ⟨1, _⟩ => rfl)⟩
  have e9 : (win0_9.blk t).view.emb (ix2 i r) = (ix2 i (row t r) : S8x33280.Idx) := by
    unfold row
    blk_ext [index9]
  rw [e9]
  refine (out9_apply _ _ _ _ i r).trans ((weights_apply _ _ _ _).trans (congrArg (fun a : EReal => a * wScale) ?_))
  refine Finset.sum_congr rfl fun k _ => (mul_comm _ _).trans (congrArg₂ (fun a b : EReal => a * b) (rows_apply m c t r k) ?_)
  exact (weights_block m c t _ k).trans (v16_apply m c i k)

end Cert.Kernel3Ideal.Odd

end
-- ==== Proof.OddRef.lean ====
/-
  The projection's reference at an index: its six results are the mathematics.
-/
module

public import proofs.«01_k».proof.Proof.OddMath
public import proofs.«01_k».proof.Proof.Gen.Reference3Ideal.Read
public import Idealize.ShloMosaic.Lib.Pointwise.Tactic

@[expose] public section

noncomputable section

namespace Cert.Reference3Ideal.Odd

open Cert.Reference3Ideal Cert.Reference3Ideal.Read Cert.Odd Idealize.ShloMosaic Finset

variable (h : (⟨S33280x2048, .bf16⟩ : BufTy).Contents (Elt Ideal)) (w : (⟨S2048x1864, .f32⟩ : BufTy).Contents (Elt Ideal))

/-- The product. -/
theorem product_apply (i : S33280x1864.Idx) : val_main_v1 (F := Ideal) h w i = proj h w ⟨(i 0).val, (i 0).isLt⟩ ⟨(i 1).val, (i 1).isLt⟩ := by
  rw [val_main_v1_apply]
  unfold proj
  refine Finset.sum_congr rfl fun k _ => ?_
  rw [val_main_v0_apply]
  refine congrArg₂ (fun a b : EReal => a * b) (congrArg h ?_) (congrArg w ?_) <;>
    exact funext fun a => Fin.ext (by match a with | ⟨0, _⟩ => rfl | ⟨1, _⟩ => rfl)

/-- The number zero, as the added columns hold it. -/
theorem filler : FloatOps.sitofp (F := Ideal) .f32 (0#32) = (0 : EReal) := by
  show (((0#32 : BitVec 32).toInt : ℝ) : EReal) = 0
  simp

theorem cq_eq : val_main_v10 (F := Ideal) h w = cq h w := by
  funext i
  rw [val_main_v10_apply, val_main_v9_apply, val_main_v2_apply, product_apply, val_main_v8_apply, val_main_cst_apply]
  rfl

theorem ck_eq : val_main_v18 (F := Ideal) h w = ck h w := by
  funext i
  rw [val_main_v18_apply, val_main_v3_apply, product_apply]
  rfl

theorem iq_eq : val_main_v20 (F := Ideal) h w = iq h w := by
  funext i
  rw [val_main_v20_apply, val_main_v19_apply]
  unfold val_main_v14
  pointwise
  have h0 : (i 0).val < 33280 := (i 0).isLt
  have h1 : (i 1).val < 1024 := (i 1).isLt
  unfold iq
  by_cases hi : (i 1).val % 128 < 64
  · refine (dif_pos (by omega)).trans (Eq.trans ?_ (dif_pos hi).symm)
    rw [val_main_v13_apply, val_main_v12_apply, val_main_v5_apply, product_apply, val_main_v11_apply, val_main_cst_0_apply]
    refine congrArg₂ (fun a b : EReal => a * b) (congrArg₂ (proj h w) (Fin.ext ?_) (Fin.ext ?_)) rfl
    · show (((((i 0).val * 1024 + (i 1).val) / 1024) * 8 + ((i 0).val * 1024 + (i 1).val) / 128 % 8) * 64
        + ((i 0).val * 1024 + (i 1).val) % 128) / 512 = (i 0).val
      omega
    · show 1280 + (((((i 0).val * 1024 + (i 1).val) / 1024) * 8 + ((i 0).val * 1024 + (i 1).val) / 128 % 8) * 64
        + ((i 0).val * 1024 + (i 1).val) % 128) % 512 = 1280 + ((i 1).val / 128 * 64 + (i 1).val % 128)
      omega
  · refine (dif_neg (by omega)).trans (Eq.trans ?_ (dif_neg hi).symm)
    rw [val_main_call0_v0_apply]
    exact filler

theorem ik_eq : val_main_v21 (F := Ideal) h w = ik h w := by
  funext i
  rw [val_main_v21_apply]
  unfold val_main_v15
  pointwise
  unfold ik
  by_cases hi : (i 1).val < 64
  · refine (dif_pos hi).trans (Eq.trans ?_ (dif_pos hi).symm)
    rw [val_main_v6_apply, product_apply]
    rfl
  · refine (dif_neg hi).trans (Eq.trans ?_ (dif_neg hi).symm)
    rw [val_main_call1_v0_apply]
    exact filler

theorem vt_eq : val_main_v22 (F := Ideal) h w = vt h w := by
  funext i
  rw [val_main_v22_apply, val_main_v17_apply, val_main_v16_apply, val_main_v4_apply, product_apply]
  unfold vt
  have h0 : (i 0).val < 260 := (i 0).isLt
  have h1 : (i 1).val < 128 := (i 1).isLt
  have h2 : (i 2).val < 128 := (i 2).isLt
  refine congrArg₂ (proj h w) (Fin.ext ?_) (Fin.ext ?_)
  · show (((i 0).val * 128 + (i 2).val) * 128 + (i 1).val) / 128 = _
    dsimp only
    omega
  · show 1152 + (((i 0).val * 128 + (i 2).val) * 128 + (i 1).val) % 128 = _
    dsimp only
    omega

theorem wt_eq : val_main_v25 (F := Ideal) h w = wt h w := by
  funext i
  rw [val_main_v25_apply, val_main_v23_apply, val_main_v7_apply, product_apply, val_main_v24_apply, val_main_cst_2_apply]
  rfl

end Cert.Reference3Ideal.Odd

end
-- ==== Proof.EvenMath.lean ====
/-
  The projection of an even layer as mathematics: rows times one matrix; the latents of the queries and of the keys and
  values, each normed and multiplied by its own matrix; rotary positions on 64 columns of each query head and on one
  shared block of 64 key columns.
-/
module

public import Idealize.ShloMosaic.PureOps.Ideal.Laws
public import Idealize.ShloMosaic.Lib.Pointwise.Index

@[expose] public section

noncomputable section

namespace Cert.Even

open Idealize.ShloMosaic Finset

/-- The scales of the two attentions' queries, the norm's small number, and the lengths of the two latents. -/
def aScale : EReal := Ideal.ofBits .f32 0x3D93CD3A#32
def bScale : EReal := Ideal.ofBits .f32 0x3DB504F3#32
def small : EReal := Ideal.ofBits .f32 0x358637BD#32
def qLen : EReal := Ideal.ofBits .f32 0x44000000#32
def kvLen : EReal := Ideal.ofBits .f32 0x43800000#32

/-- The rows, the input matrix, the two norms' weights and the two matrices that follow them. -/
abbrev Rows : Type := (⟨2, ![33280, 2048]⟩ : Shape).Idx → EReal
abbrev In : Type := (⟨2, ![2048, 2368]⟩ : Shape).Idx → EReal
abbrev QNorm : Type := (⟨1, ![512]⟩ : Shape).Idx → EReal
abbrev KvNorm : Type := (⟨1, ![256]⟩ : Shape).Idx → EReal
abbrev QUp : Type := (⟨2, ![512, 768]⟩ : Shape).Idx → EReal
abbrev KvUp : Type := (⟨2, ![256, 1024]⟩ : Shape).Idx → EReal

/-- Row `r` times column `j`. -/
def proj (h : Rows) (w : In) (r : Fin 33280) (j : Fin 2368) : EReal := ∑ k : Fin 2048, h (ix2 r k) * w (ix2 k j)

/-- One over the root of the mean square of `f`, of the length that the word `len` says. -/
def invRms {n : ℕ} (len : EReal) (f : Fin n → EReal) : EReal := Ideal.rsqrt (Ideal.div (∑ k : Fin n, f k * f k) len + small)

/-- The queries' latent, normed. -/
def qLat (h : Rows) (w : In) (g : QNorm) (r : Fin 33280) (k : Fin 512) : EReal :=
  proj h w r ⟨k.val, by omega⟩ * invRms qLen (fun e : Fin 512 => proj h w r ⟨e.val, by omega⟩) * g (ix1 k)

/-- The latent of keys and values, normed. -/
def kvLat (h : Rows) (w : In) (g : KvNorm) (r : Fin 33280) (k : Fin 256) : EReal :=
  proj h w r ⟨512 + k.val, by omega⟩ * invRms kvLen (fun e : Fin 256 => proj h w r ⟨512 + e.val, by omega⟩) * g (ix1 k)

/-- The queries: four heads of 128 columns and 64 rotary columns. -/
def qUp (h : Rows) (w : In) (g : QNorm) (u : QUp) (r : Fin 33280) (j : Fin 768) : EReal :=
  ∑ k : Fin 512, qLat h w g r k * u (ix2 k j)

/-- The keys and values: four heads of 128 key columns and 128 value columns. -/
def kvUp (h : Rows) (w : In) (g : KvNorm) (u : KvUp) (r : Fin 33280) (j : Fin 1024) : EReal :=
  ∑ k : Fin 256, kvLat h w g r k * u (ix2 k j)

/-- The angle of position `s` and frequency `l`. -/
def angle (s l : ℕ) : EReal :=
  FloatOps.sitofp (F := Ideal) .f32 (BitVec.ofNat 32 s)
    * Ideal.pow (Ideal.ofBits .f32 0x461C4000#32)
        (Ideal.div (-FloatOps.sitofp (F := Ideal) .f32 (BitVec.ofNat 32 l)) (Ideal.ofBits .f32 0x42000000#32))

/-- The 64 columns `x` at position `s`, rotated: the first 32 are turned against the last 32. -/
def rot (x : Fin 64 → EReal) (s : ℕ) (l : Fin 64) : EReal :=
  if hl : l.val < 32 then x l * Ideal.cos (angle s l.val) - x ⟨l.val + 32, by omega⟩ * Ideal.sin (angle s l.val)
  else x ⟨l.val - 32, by omega⟩ * Ideal.sin (angle s (l.val - 32)) + x l * Ideal.cos (angle s (l.val - 32))

/-- The rotary columns of the keys. -/
def kRot (h : Rows) (w : In) (r : Fin 33280) (l : Fin 64) : EReal :=
  rot (fun e => proj h w r ⟨768 + e.val, by omega⟩) (r.val % 8320) l

/-- The rotary columns of a head's queries. -/
def qRot (h : Rows) (w : In) (g : QNorm) (u : QUp) (r : Fin 33280) (b : Fin 4) (l : Fin 64) : EReal :=
  rot (fun e => qUp h w g u r ⟨192 * b.val + 128 + e.val, by omega⟩) (r.val % 8320) l

/-- A head's 256 columns of queries: 128, then 64 rotary columns, all scaled, then 64 zeros. -/
def qHead (h : Rows) (w : In) (g : QNorm) (u : QUp) (r : Fin 33280) (b : Fin 4) (l : Fin 256) : EReal :=
  if h1 : l.val < 128 then qUp h w g u r ⟨192 * b.val + l.val, by omega⟩ * aScale
  else if h2 : l.val < 192 then qRot h w g u r b ⟨l.val - 128, by omega⟩ * aScale
  else 0

/-- A head's 256 columns of keys: 128, then the 64 rotary columns twice. -/
def kHead (h : Rows) (w : In) (g : KvNorm) (u : KvUp) (r : Fin 33280) (b : Fin 4) (l : Fin 256) : EReal :=
  if h1 : l.val < 128 then kvUp h w g u r ⟨256 * b.val + l.val, by omega⟩
  else kRot h w r ⟨(l.val - 128) % 64, by omega⟩

section Heads
variable (h : Rows) (w : In) (r : Fin 33280) (b : Fin 4) (l : Fin 256)

theorem qHead_plain (g : QNorm) (u : QUp) (h1 : l.val < 128) : qHead h w g u r b l = qUp h w g u r ⟨192 * b.val + l.val, by omega⟩ * aScale :=
  dif_pos h1

theorem qHead_rotated (g : QNorm) (u : QUp) (e : Fin 64) (he : l.val = 128 + e.val) : qHead h w g u r b l = qRot h w g u r b e * aScale := by
  refine (dif_neg (by omega)).trans ((dif_pos (by omega)).trans ?_)
  exact congrArg (fun a => qRot h w g u r b a * aScale) (Fin.ext (by show l.val - 128 = e.val; omega))

theorem qHead_zero (g : QNorm) (u : QUp) (h1 : 192 ≤ l.val) : qHead h w g u r b l = 0 := (dif_neg (by omega)).trans (dif_neg (by omega))

theorem kHead_plain (g : KvNorm) (u : KvUp) (h1 : l.val < 128) : kHead h w g u r b l = kvUp h w g u r ⟨256 * b.val + l.val, by omega⟩ :=
  dif_pos h1

theorem kHead_shared (g : KvNorm) (u : KvUp) (h1 : 128 ≤ l.val) : kHead h w g u r b l = kRot h w r ⟨(l.val - 128) % 64, by omega⟩ :=
  dif_neg (by omega)

end Heads

/-- The six results. -/
def qa (h : Rows) (w : In) (g : QNorm) (u : QUp) : (⟨2, ![33280, 1024]⟩ : Shape).Idx → EReal := fun i =>
  qHead h w g u ⟨(i 0).val, (i 0).isLt⟩ ⟨(i 1).val / 256, by have : (i 1).val < 1024 := (i 1).isLt; omega⟩ ⟨(i 1).val % 256, by omega⟩

def ka (h : Rows) (w : In) (g : KvNorm) (u : KvUp) : (⟨2, ![33280, 1024]⟩ : Shape).Idx → EReal := fun i =>
  kHead h w g u ⟨(i 0).val, (i 0).isLt⟩ ⟨(i 1).val / 256, by have : (i 1).val < 1024 := (i 1).isLt; omega⟩ ⟨(i 1).val % 256, by omega⟩

def va (h : Rows) (w : In) (g : KvNorm) (u : KvUp) : (⟨2, ![33280, 512]⟩ : Shape).Idx → EReal := fun i =>
  kvUp h w g u ⟨(i 0).val, (i 0).isLt⟩ ⟨256 * ((i 1).val / 128) + 128 + (i 1).val % 128, by
    have : (i 1).val < 512 := (i 1).isLt; omega⟩

def sq (h : Rows) (w : In) : (⟨2, ![33280, 512]⟩ : Shape).Idx → EReal := fun i =>
  proj h w ⟨(i 0).val, (i 0).isLt⟩ ⟨832 + (i 1).val, by have : (i 1).val < 512 := (i 1).isLt; omega⟩ * bScale

def sk (h : Rows) (w : In) : (⟨2, ![33280, 512]⟩ : Shape).Idx → EReal := fun i =>
  proj h w ⟨(i 0).val, (i 0).isLt⟩ ⟨1344 + (i 1).val, by have : (i 1).val < 512 := (i 1).isLt; omega⟩

def sv (h : Rows) (w : In) : (⟨2, ![33280, 512]⟩ : Shape).Idx → EReal := fun i =>
  proj h w ⟨(i 0).val, (i 0).isLt⟩ ⟨1856 + (i 1).val, by have : (i 1).val < 512 := (i 1).isLt; omega⟩

/-! ## Finite numbers -/

/-- Neither of the two infinities. -/
def IsReal (x : EReal) : Prop := x ≠ ⊤ ∧ x ≠ ⊥

theorem real_iff (x : EReal) : IsReal x ↔ ∃ r : ℝ, x = r := by
  constructor
  · rintro ⟨h1, h2⟩
    exact ⟨x.toReal, (EReal.coe_toReal h1 h2).symm⟩
  · rintro ⟨r, rfl⟩
    exact ⟨EReal.coe_ne_top r, EReal.coe_ne_bot r⟩

theorem real_mul {x y : EReal} (hx : IsReal x) (hy : IsReal y) : IsReal (x * y) := by
  obtain ⟨a, rfl⟩ := (real_iff x).1 hx
  obtain ⟨b, rfl⟩ := (real_iff y).1 hy
  exact (real_iff _).2 ⟨a * b, (EReal.coe_mul a b).symm⟩

theorem real_sum {n : ℕ} (f : Fin n → EReal) (hf : ∀ k, IsReal (f k)) : IsReal (∑ k : Fin n, f k) := by
  refine Finset.sum_induction f IsReal (fun x y hx hy => ?_) ((real_iff 0).2 ⟨0, rfl⟩) fun k _ => hf k
  obtain ⟨a, rfl⟩ := (real_iff x).1 hx
  obtain ⟨b, rfl⟩ := (real_iff y).1 hy
  exact (real_iff _).2 ⟨a + b, (EReal.coe_add a b).symm⟩

/-- The sum of finite numbers' negatives. -/
theorem neg_sum {n : ℕ} (f : Fin n → EReal) (hf : ∀ k, IsReal (f k)) : ∑ k : Fin n, -f k = -∑ k : Fin n, f k := by
  choose g hg using fun k => (real_iff (f k)).1 (hf k)
  have e : f = fun k => (g k : EReal) := funext hg
  subst e
  have cast : ∀ a : Fin n → ℝ, ∑ k : Fin n, (a k : EReal) = ((∑ k : Fin n, a k : ℝ) : EReal) := fun a =>
    (map_sum (⟨⟨Real.toEReal, rfl⟩, EReal.coe_add⟩ : ℝ →+ EReal) a univ).symm
  rw [cast g, ← EReal.coe_neg, ← Finset.sum_neg_distrib, ← cast]
  exact Finset.sum_congr rfl fun k _ => (EReal.coe_neg _).symm

/-- Products with negated finite numbers add up to the negated sum. -/
theorem sum_mul_neg {n : ℕ} (f g : Fin n → EReal) (hf : ∀ k, IsReal (f k)) (hg : ∀ k, IsReal (g k)) :
    ∑ k : Fin n, f k * -g k = -∑ k : Fin n, f k * g k := by
  rw [← neg_sum _ fun k => real_mul (hf k) (hg k)]
  exact Finset.sum_congr rfl fun k _ => mul_neg _ _

/-- The norm of finite numbers is finite, for the number under the root is positive. -/
theorem real_invRms (f : Fin 512 → EReal) (hf : ∀ k, IsReal (f k)) : IsReal (invRms qLen f) := by
  have hs : ∃ r : ℝ, 0 ≤ r ∧ ∑ k : Fin 512, f k * f k = r := by
    refine Finset.sum_induction (fun k => f k * f k) (fun x => ∃ r : ℝ, 0 ≤ r ∧ x = r) (fun x y hx hy => ?_) ⟨0, le_refl _, rfl⟩ fun k _ => ?_
    · obtain ⟨a, ha, rfl⟩ := hx
      obtain ⟨b, hb, rfl⟩ := hy
      exact ⟨a + b, add_nonneg ha hb, (EReal.coe_add a b).symm⟩
    · obtain ⟨a, ha⟩ := (real_iff (f k)).1 (hf k)
      exact ⟨a * a, mul_self_nonneg a, by rw [ha]; exact (EReal.coe_mul a a).symm⟩
  obtain ⟨s, hs, e⟩ := hs
  have hl : ∃ r : ℝ, 0 < r ∧ qLen = r := by
    refine ⟨512, by norm_num, ?_⟩
    simp [qLen, Ideal.ofBits, Ideal.ieee]
    rw [← EReal.coe_mul]
    norm_num
  have hm : ∃ r : ℝ, 0 < r ∧ small = r := by
    refine ⟨8796093 / 2 ^ 43, by norm_num, ?_⟩
    simp [small, Ideal.ofBits, Ideal.ieee]
    rw [← EReal.coe_mul]
    norm_num
  obtain ⟨l, hl, el⟩ := hl
  obtain ⟨p, hp, ep⟩ := hm
  unfold invRms
  have ed : Ideal.div (s : EReal) (l : EReal) = ((s / l : ℝ) : EReal) := by
    have h0 : (l : EReal) ≠ 0 := by exact_mod_cast hl.ne'
    simp only [Ideal.div, h0, if_false]
    rw [← EReal.coe_inv, ← EReal.coe_mul, div_eq_mul_inv]
  have hpos : 0 < s / l + p := add_pos_of_nonneg_of_pos (div_nonneg hs hl.le) hp
  rw [e, el, ep, ed, ← EReal.coe_add, Ideal.rsqrt_coe, if_neg (not_lt.2 hpos.le), if_neg hpos.ne']
  exact (real_iff _).2 ⟨_, rfl⟩

/-- Products of finite rows and columns are finite, and so is the normed latent of the queries. -/
theorem real_proj (h : Rows) (w : In) (hh : ∀ i, IsReal (h i)) (hw : ∀ i, IsReal (w i)) (r : Fin 33280) (j : Fin 2368) : IsReal (proj h w r j) :=
  real_sum _ fun _ => real_mul (hh _) (hw _)

theorem real_qLat (h : Rows) (w : In) (g : QNorm) (hh : ∀ i, IsReal (h i)) (hw : ∀ i, IsReal (w i)) (hg : ∀ i, IsReal (g i))
    (r : Fin 33280) (k : Fin 512) : IsReal (qLat h w g r k) :=
  real_mul (real_mul (real_proj h w hh hw _ _) (real_invRms _ fun _ => real_proj h w hh hw _ _)) (hg _)

/-- The rotation as a sum of products of four blocks of 32 columns with cosines and sines: the columns themselves, and the
    columns exchanged with the first half negated. -/
theorem rot_eq (x y : Fin 64 → EReal) (s : ℕ) (hy : ∀ e : Fin 64, y e = if he : e.val < 32 then -x ⟨e.val + 32, by omega⟩ else x ⟨e.val - 32, by omega⟩)
    (l : Fin 64) : x l * Ideal.cos (angle s (l.val % 32)) + y l * Ideal.sin (angle s (l.val % 32)) = rot x s l := by
  unfold rot
  rw [hy l]
  by_cases hl : l.val < 32
  · rw [dif_pos hl, dif_pos hl, Nat.mod_eq_of_lt hl, EReal.neg_mul, sub_eq_add_neg]
  · have e : l.val % 32 = l.val - 32 := by omega
    rw [dif_neg hl, dif_neg hl, e, add_comm]

end Cert.Even

end
-- ==== Proof.EvenHost.lean ====
/-
  The matrices and the table the even projection's kernel reads, at an index.
-/
module

public import proofs.«01_k».proof.Proof.EvenMath
public import proofs.«01_k».proof.Proof.Gen.Kernel4Ideal.Frame
public import Idealize.ShloMosaic.Lib.StableHlo.ReadAt
public import Idealize.ShloMosaic.Lib.Pointwise.Tactic
public import Idealize.ShloMosaic.Lib.Claim

@[expose] public section

noncomputable section

namespace Cert.Kernel4Ideal.Even

open Cert.Kernel4Ideal Cert.Kernel4Ideal.Gen Cert.Even Idealize.ShloMosaic Idealize.ShloMosaic.TcCoe Finset

variable (m : (ℓ : Loc nD τ sig) → Buf (Elt Ideal) ℓ) (c : Dev nD)

/-- The six arguments. -/
def rows : Rows := m ((c : Thread nD τ).loc main_arg0)
def wIn : In := m ((c : Thread nD τ).loc main_arg1)
def gQ : QNorm := m ((c : Thread nD τ).loc main_arg2)
def gKv : KvNorm := m ((c : Thread nD τ).loc main_arg3)
def uQ : QUp := m ((c : Thread nD τ).loc main_arg4)
def uKv : KvUp := m ((c : Thread nD τ).loc main_arg5)

/-- The five arrays that the kernel reads besides the rows. -/
def wide : S2048x2432.Idx → EReal := V m c main_v8
def normQ : S1x512.Idx → EReal := V m c main_v26
def normKv : S1x256.Idx → EReal := V m c main_v27
def upQ : S512x1024.Idx → EReal := V m c main_v24
def upKv : S256x1024.Idx → EReal := V m c main_v25
def table : S8320x128.Idx → EReal := V m c main_v43

theorem normQ_apply (k : Fin 512) : normQ m c (ix2 0 k) = gQ m c (ix1 k) := by
  unfold normQ gQ V
  after_reads_at

theorem normKv_apply (k : Fin 256) : normKv m c (ix2 0 k) = gKv m c (ix1 k) := by
  unfold normKv gKv V
  after_reads_at

/-- The table: two blocks of cosines, then two of sines. -/
theorem table_cos (s : Fin 8320) (j : Fin 128) (hj : j.val < 64) : table m c (ix2 s j) = Ideal.cos (angle s.val (j.val % 32)) := by
  unfold table V
  after_reads_at
  by_cases h : j.val < 32
  · rw [dif_pos h]
    after_reads_at
    rw [Nat.mod_eq_of_lt h]
    rfl
  · rw [dif_neg h, dif_pos (by omega)]
    after_reads_at
    have e : j.val % 32 = j.val - 32 := by omega
    rw [e]
    rfl

theorem table_sin (s : Fin 8320) (j : Fin 128) (hj : 64 ≤ j.val) : table m c (ix2 s j) = Ideal.sin (angle s.val (j.val % 32)) := by
  unfold table V
  after_reads_at
  rw [dif_neg (by omega), dif_neg (by omega)]
  by_cases h : j.val < 96
  · rw [dif_pos (by omega)]
    after_reads_at
    have e : j.val % 32 = j.val - 32 - 32 := by omega
    rw [e]
    rfl
  · rw [dif_neg (by omega)]
    after_reads_at
    have e : j.val % 32 = j.val - 32 - 32 - 32 := by omega
    rw [e]
    rfl

/-- The wide matrix: its first 768 columns are the matrix's own. -/
theorem wide_first (k : Fin 2048) (j : Fin 2432) (hj : j.val < 768) : wide m c (ix2 k j) = wIn m c (ix2 k ⟨j.val, by omega⟩) := by
  unfold wide wIn V
  after_reads_at
  rw [dif_pos hj]
  after_reads_at

/-- Then the columns of the other attention. -/
theorem wide_middle (k : Fin 2048) (j : Fin 2432) (h0 : 768 ≤ j.val) (h1 : j.val < 2304) :
    wide m c (ix2 k j) = wIn m c (ix2 k ⟨j.val + 64, by omega⟩) := by
  unfold wide wIn V
  after_reads_at
  rw [dif_neg (by omega), dif_pos (by omega)]
  after_reads_at
  refine congrArg (fun a => m ((c : Thread nD τ).loc main_arg1) (ix2 k a)) (Fin.ext ?_)
  show 832 + (j.val - 768) = j.val + 64
  omega

/-- Then the rotary columns. -/
theorem wide_rotary (k : Fin 2048) (l : Fin 64) :
    wide m c (ix2 k ⟨2304 + l.val, by omega⟩) = wIn m c (ix2 k ⟨768 + l.val, by omega⟩) := by
  unfold wide wIn V
  after_reads_at
  rw [dif_neg (by omega), dif_neg (by omega), dif_pos (by omega)]
  after_reads_at
  refine congrArg (fun a => m ((c : Thread nD τ).loc main_arg1) (ix2 k a)) (Fin.ext ?_)
  show 768 + (2304 + l.val - 768 - 1536) = 768 + l.val
  omega

/-- Then the rotary columns with their halves exchanged, the last half negated. -/
theorem wide_turned (k : Fin 2048) (l : Fin 64) :
    wide m c (ix2 k ⟨2368 + l.val, by omega⟩)
      = if hl : l.val < 32 then -wIn m c (ix2 k ⟨768 + (l.val + 32), by omega⟩) else wIn m c (ix2 k ⟨768 + (l.val - 32), by omega⟩) := by
  unfold wide wIn V
  after_reads_at
  rw [dif_neg (by omega), dif_neg (by omega), dif_neg (by omega)]
  after_reads_at
  by_cases hl : l.val < 32
  · refine (dif_pos (by omega)).trans (Eq.trans ?_ (dif_pos hl).symm)
    refine congrArg (fun a => Neg.neg (α := EReal) (m ((c : Thread nD τ).loc main_arg1) (ix2 k a))) (Fin.ext ?_)
    dsimp only
    omega
  · refine (dif_neg (by omega)).trans (Eq.trans ?_ (dif_neg hl).symm)
    refine congrArg (fun a => m ((c : Thread nD τ).loc main_arg1) (ix2 k a)) (Fin.ext ?_)
    dsimp only
    omega

/-- The queries' matrix, in each head: 128 columns and 64 rotary columns, which are the matrix's own. -/
theorem upQ_plain (k : Fin 512) (b : Fin 4) (l : Fin 256) (hl : l.val < 192) :
    upQ m c (ix2 k ⟨256 * b.val + l.val, by omega⟩) = uQ m c (ix2 k ⟨192 * b.val + l.val, by omega⟩) := by
  unfold upQ uQ V
  after_reads_at
  by_cases h : l.val < 128
  · rw [dif_pos (by omega)]
    after_reads_at
    refine congrArg (fun a => m ((c : Thread nD τ).loc main_arg4) (ix2 k a)) (Fin.ext ?_)
    dsimp only
    omega
  · rw [dif_neg (by omega), dif_pos (by omega)]
    after_reads_at
    refine congrArg (fun a => m ((c : Thread nD τ).loc main_arg4) (ix2 k a)) (Fin.ext ?_)
    dsimp only
    omega

/-- Then the rotary columns with their halves exchanged, the last half negated. -/
theorem upQ_turned (k : Fin 512) (b : Fin 4) (l : Fin 64) :
    upQ m c (ix2 k ⟨256 * b.val + 192 + l.val, by omega⟩)
      = if hl : l.val < 32 then -uQ m c (ix2 k ⟨192 * b.val + 128 + (l.val + 32), by omega⟩)
        else uQ m c (ix2 k ⟨192 * b.val + 128 + (l.val - 32), by omega⟩) := by
  unfold upQ uQ V
  after_reads_at
  rw [dif_neg (by omega), dif_neg (by omega)]
  after_reads_at
  by_cases hl : l.val < 32
  · refine (dif_pos (by omega)).trans (Eq.trans ?_ (dif_pos hl).symm)
    refine congrArg (fun a => Neg.neg (α := EReal) (m ((c : Thread nD τ).loc main_arg4) (ix2 k a))) (Fin.ext ?_)
    dsimp only
    omega
  · refine (dif_neg (by omega)).trans (Eq.trans ?_ (dif_neg hl).symm)
    refine congrArg (fun a => m ((c : Thread nD τ).loc main_arg4) (ix2 k a)) (Fin.ext ?_)
    dsimp only
    omega

/-- The keys' and values' matrix: the keys of all heads, then the values of all heads. -/
theorem upKv_keys (k : Fin 256) (b : Fin 4) (l : Fin 128) :
    upKv m c (ix2 k ⟨128 * b.val + l.val, by omega⟩) = uKv m c (ix2 k ⟨256 * b.val + l.val, by omega⟩) := by
  unfold upKv uKv V
  after_reads_at
  rw [dif_pos (by omega)]
  after_reads_at
  refine congrArg (fun a => m ((c : Thread nD τ).loc main_arg5) (ix2 k a)) (Fin.ext ?_)
  dsimp only
  omega

theorem upKv_values (k : Fin 256) (j : Fin 512) :
    upKv m c (ix2 k ⟨512 + j.val, by omega⟩) = uKv m c (ix2 k ⟨256 * (j.val / 128) + 128 + j.val % 128, by omega⟩) := by
  unfold upKv uKv V
  after_reads_at
  after_reads_at
  refine congrArg (fun a => m ((c : Thread nD τ).loc main_arg5) (ix2 k a)) (Fin.ext ?_)
  dsimp only
  omega

end Cert.Kernel4Ideal.Even

end
-- ==== Proof.EvenBlock.lean ====
/-
  What the even projection's kernel computes of a block of rows: the products, the normed latents, the rotation, at an index.
-/
module

public import proofs.«01_k».proof.Proof.EvenMath
public import proofs.«01_k».proof.Proof.Gen.Kernel4Ideal.Frame
public import Idealize.ShloMosaic.Lib.Pipeline.ValueKit
public import Idealize.ShloMosaic.Lib.VecWindow
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.Select

@[expose] public section

noncomputable section

namespace Cert.Kernel4Ideal.Even

open Cert.Kernel4Ideal Cert.Kernel4Ideal.Gen Cert.Even Idealize.ShloMosaic Idealize.ShloMosaic.TcCoe Finset

/-- The product with the wide matrix. -/
theorem product_apply (x : FVec Ideal S640x2048 .bf16) (w : FVec Ideal S2048x2432 .bf16) (r : Fin 640) (j : Fin 2432) :
    k0_pay3 (F := Ideal) x w (ix2 r j) = ∑ k : Fin 2048, x (ix2 r k) * w (ix2 k j) := by
  unfold k0_pay3
  pointwise

/-- The queries' latent over its root mean square. -/
theorem latent_apply (x : FVec Ideal S640x2048 .bf16) (w : FVec Ideal S2048x2432 .bf16) (r : Fin 640) (k : Fin 512) :
    k0_pay9 (F := Ideal) x w (ix2 r k)
      = (k0_pay3 (F := Ideal) x w (ix2 r ⟨k.val, by omega⟩) * invRms qLen (fun e : Fin 512 => k0_pay3 (F := Ideal) x w (ix2 r ⟨e.val, by omega⟩)) : EReal) := by
  unfold k0_pay9
  generalize k0_pay3 (F := Ideal) x w = a
  pointwise
  rfl

/-- The queries. -/
theorem queries_apply (a : FVec Ideal S640x512 .f32) (g : FVec Ideal S1x512 .f32) (u : FVec Ideal S512x1024 .bf16) (r : Fin 640) (j : Fin 1024) :
    k0_pay11 (F := Ideal) a (k0_pay10 (F := Ideal) g) u (ix2 r j) = ∑ k : Fin 512, a (ix2 r k) * g (ix2 0 k) * u (ix2 k j) := by
  unfold k0_pay11 k0_pay10
  pointwise

/-- The keys and values. -/
theorem keys_apply (a : FVec Ideal S640x2432 .f32) (g : FVec Ideal S1x256 .f32) (u : FVec Ideal S256x1024 .bf16) (r : Fin 640) (j : Fin 1024) :
    k0_pay12 (F := Ideal) a g u (ix2 r j)
      = ∑ k : Fin 256, a (ix2 r ⟨512 + k.val, by omega⟩) * invRms kvLen (fun e : Fin 256 => a (ix2 r ⟨512 + e.val, by omega⟩)) * g (ix2 0 k) * u (ix2 k j) := by
  unfold k0_pay12
  pointwise
  rfl

/-- The rotated keys: the two halves of the 128 columns, times the table, exchanged and added. -/
theorem rotary_apply (x : FVec Ideal S640x2048 .bf16) (w : FVec Ideal S2048x2432 .bf16) (t : FVec Ideal S640x128 .f32) (r : Fin 640) (l : Fin 128) :
    k0_pay8 (F := Ideal) x w t (ix2 r l)
      = (k0_pay3 (F := Ideal) x w (ix2 r ⟨2304 + l.val, by omega⟩) * t (ix2 r l)
        + k0_pay3 (F := Ideal) x w (ix2 r ⟨2304 + (l.val + 64) % 128, by omega⟩) * t (ix2 r ⟨(l.val + 64) % 128, by omega⟩) : EReal) := by
  unfold k0_pay8 k0_pay7
  generalize k0_pay3 (F := Ideal) x w = a
  pointwise
  rfl

/-- The comparison that keeps the first 64 columns. -/
theorem keeps : ∀ l : Fin 128, IntOp.cmpi .slt (BitVec.ofNat 32 l.val) 64#32 = if l.val < 64 then 1#1 else 0#1 := by decide

/-- The queries' 1024 columns as they are stored: in each head 128 scaled columns, then 64 rotated and scaled ones, then zeros. -/
def qCols (q : S640x1024.Idx → EReal) (t : S640x128.Idx → EReal) (r : Fin 640) (j : Fin 1024) : EReal :=
  if h1 : j.val % 256 < 128 then q (ix2 r j) * aScale
  else if h2 : j.val % 256 < 192 then
    (q (ix2 r j) * t (ix2 r ⟨j.val % 256 - 128, by omega⟩)
      + q (ix2 r ⟨j.val + 64, by omega⟩) * t (ix2 r ⟨j.val % 256 - 128 + 64, by omega⟩)) * aScale
  else 0

/-- The keys' 1024 columns as they are stored: in each head 128 columns, then the rotated ones. -/
def kCols (k : S640x1024.Idx → EReal) (z : S640x128.Idx → EReal) (r : Fin 640) (j : Fin 1024) : EReal :=
  if h1 : j.val % 256 < 128 then k (ix2 r ⟨128 * (j.val / 256) + j.val % 256, by omega⟩)
  else z (ix2 r ⟨j.val % 256 - 128, by omega⟩)

theorem qCols_plain (q : S640x1024.Idx → EReal) (t : S640x128.Idx → EReal) (r : Fin 640) (j : Fin 1024) (h : j.val % 256 < 128) :
    qCols q t r j = q (ix2 r j) * aScale := dif_pos h

theorem qCols_rotated (q : S640x1024.Idx → EReal) (t : S640x128.Idx → EReal) (r : Fin 640) (j : Fin 1024) (l : Fin 64) (h : j.val % 256 = 128 + l.val) :
    qCols q t r j = (q (ix2 r j) * t (ix2 r ⟨l.val, by omega⟩) + q (ix2 r ⟨j.val + 64, by omega⟩) * t (ix2 r ⟨l.val + 64, by omega⟩)) * aScale := by
  refine (dif_neg (by omega)).trans ((dif_pos (by omega)).trans ?_)
  have e : j.val % 256 - 128 = l.val := by omega
  simp only [e]

theorem qCols_zero (q : S640x1024.Idx → EReal) (t : S640x128.Idx → EReal) (r : Fin 640) (j : Fin 1024) (h : 192 ≤ j.val % 256) :
    qCols q t r j = 0 := (dif_neg (by omega)).trans (dif_neg (by omega))

theorem kCols_plain (k : S640x1024.Idx → EReal) (z : S640x128.Idx → EReal) (r : Fin 640) (j : Fin 1024) (i : Fin 1024)
    (h : j.val % 256 < 128) (hi : i.val = 128 * (j.val / 256) + j.val % 256) : kCols k z r j = k (ix2 r i) :=
  (dif_pos h).trans (congrArg (fun a => k (ix2 r a)) (Fin.ext hi.symm))

theorem kCols_shared (k : S640x1024.Idx → EReal) (z : S640x128.Idx → EReal) (r : Fin 640) (j : Fin 1024) (l : Fin 128)
    (h : j.val % 256 = 128 + l.val) : kCols k z r j = z (ix2 r l) :=
  (dif_neg (by omega)).trans (congrArg (fun a => z (ix2 r a)) (Fin.ext (by show j.val % 256 - 128 = l.val; omega)))

/-- An index of a block of 128 columns by its coordinates. -/
theorem index_eq (x : S640x128.Idx) : ∃ (r : Fin 640) (l : Fin 128), x = (ix2 r l : S640x128.Idx) :=
  ⟨⟨(x 0).val, (x 0).isLt⟩, ⟨(x 1).val, (x 1).isLt⟩, funext fun a => Fin.ext (by match a with | ⟨0, _⟩ => rfl | ⟨1, _⟩ => rfl)⟩

section Pieces
variable (q k : FVec Ideal S640x1024 .f32) (t : FVec Ideal S640x128 .f32) (r : Fin 640) (l : Fin 128)

/-- A head's rotated queries, from the columns that start at `n`. -/
theorem rotated_cols (n : ℕ) (hn : n % 256 = 128) (hb : n + 128 ≤ 1024) :
    Scalar.select (IntOp.cmpi .slt (BitVec.ofNat 32 l.val) 64#32)
      (((q (ix2 r ⟨n + l.val, by omega⟩) * t (ix2 r l)
        + q (ix2 r ⟨n + (l.val + 64) % 128, by omega⟩) * t (ix2 r ⟨(l.val + 64) % 128, by omega⟩)) * aScale : EReal)) (0 : EReal)
      = qCols q t r ⟨n + l.val, by omega⟩ := by
  have e1 : (n + l.val) % 256 = 128 + l.val := by omega
  rw [keeps]
  by_cases hl : l.val < 64
  · rw [if_pos hl]
    refine Eq.trans ?_ (qCols_rotated q t r _ ⟨l.val, hl⟩ e1).symm
    have e2 : (l.val + 64) % 128 = l.val + 64 := by omega
    have e3 : n + (l.val + 64) = n + l.val + 64 := by omega
    simp only [e2, e3]
    rfl
  · rw [if_neg hl]
    exact (qCols_zero q t r _ (by show 192 ≤ (n + l.val) % 256; omega)).symm

theorem plain0 (a b : FVec Ideal S640x512 .f32) (u : FVec Ideal S512x1024 .bf16) :
    k0_pay13 (F := Ideal) a b u (ix2 r l) = qCols (k0_pay11 (F := Ideal) a b u) t r ⟨l.val, by omega⟩ := by
  unfold k0_pay13
  generalize k0_pay11 (F := Ideal) a b u = q
  pointwise
  exact (qCols_plain q t r ⟨l.val, by omega⟩ (by show l.val % 256 < 128; omega)).symm

theorem rotated0 (a b : FVec Ideal S640x512 .f32) (u : FVec Ideal S512x1024 .bf16) :
    k0_pay14 (F := Ideal) t a b u (ix2 r l) = qCols (k0_pay11 (F := Ideal) a b u) t r ⟨128 + l.val, by omega⟩ := by
  unfold k0_pay14
  generalize k0_pay11 (F := Ideal) a b u = q
  pointwise
  exact rotated_cols q t r l 128 (by norm_num) (by norm_num)

theorem plain1 : k0_pay16 (F := Ideal) q (ix2 r l) = qCols q t r ⟨256 + l.val, by omega⟩ := by
  unfold k0_pay16
  pointwise
  exact (qCols_plain q t r ⟨256 + l.val, by omega⟩ (by show (256 + l.val) % 256 < 128; omega)).symm

theorem rotated1 : k0_pay17 (F := Ideal) t q (ix2 r l) = qCols q t r ⟨384 + l.val, by omega⟩ := by
  unfold k0_pay17
  pointwise
  exact rotated_cols q t r l 384 (by norm_num) (by norm_num)

theorem plain2 : k0_pay19 (F := Ideal) q (ix2 r l) = qCols q t r ⟨512 + l.val, by omega⟩ := by
  unfold k0_pay19
  pointwise
  exact (qCols_plain q t r ⟨512 + l.val, by omega⟩ (by show (512 + l.val) % 256 < 128; omega)).symm

theorem rotated2 : k0_pay20 (F := Ideal) t q (ix2 r l) = qCols q t r ⟨640 + l.val, by omega⟩ := by
  unfold k0_pay20
  pointwise
  exact rotated_cols q t r l 640 (by norm_num) (by norm_num)

theorem plain3 : k0_pay22 (F := Ideal) q (ix2 r l) = qCols q t r ⟨768 + l.val, by omega⟩ := by
  unfold k0_pay22
  pointwise
  exact (qCols_plain q t r ⟨768 + l.val, by omega⟩ (by show (768 + l.val) % 256 < 128; omega)).symm

theorem rotated3 : k0_pay23 (F := Ideal) t q (ix2 r l) = qCols q t r ⟨896 + l.val, by omega⟩ := by
  unfold k0_pay23
  pointwise
  exact rotated_cols q t r l 896 (by norm_num) (by norm_num)

theorem key0 (z : FVec Ideal S640x128 .bf16) : k0_pay15 (F := Ideal) k (ix2 r l) = kCols k z r ⟨l.val, by omega⟩ := by
  unfold k0_pay15
  pointwise
  exact (kCols_plain k z r ⟨l.val, by omega⟩ ⟨l.val, by omega⟩ (by show l.val % 256 < 128; omega)
    (by show l.val = 128 * (l.val / 256) + l.val % 256; omega)).symm

theorem key1 (z : FVec Ideal S640x128 .bf16) : k0_pay18 (F := Ideal) k (ix2 r l) = kCols k z r ⟨256 + l.val, by omega⟩ := by
  unfold k0_pay18
  pointwise
  exact (kCols_plain k z r ⟨256 + l.val, by omega⟩ _ (by show (256 + l.val) % 256 < 128; omega)
    (by show 128 + l.val = 128 * ((256 + l.val) / 256) + (256 + l.val) % 256; omega)).symm

theorem key2 (z : FVec Ideal S640x128 .bf16) : k0_pay21 (F := Ideal) k (ix2 r l) = kCols k z r ⟨512 + l.val, by omega⟩ := by
  unfold k0_pay21
  pointwise
  exact (kCols_plain k z r ⟨512 + l.val, by omega⟩ _ (by show (512 + l.val) % 256 < 128; omega)
    (by show 256 + l.val = 128 * ((512 + l.val) / 256) + (512 + l.val) % 256; omega)).symm

theorem key3 (z : FVec Ideal S640x128 .bf16) : k0_pay1 (F := Ideal) k (ix2 r l) = kCols k z r ⟨768 + l.val, by omega⟩ := by
  unfold k0_pay1
  pointwise
  exact (kCols_plain k z r ⟨768 + l.val, by omega⟩ _ (by show (768 + l.val) % 256 < 128; omega)
    (by show 384 + l.val = 128 * ((768 + l.val) / 256) + (768 + l.val) % 256; omega)).symm

/-- The rotated keys, where they are stored. -/
theorem shared (z : FVec Ideal S640x128 .bf16) (n : ℕ) (hn : n % 256 = 128) (hb : n + 128 ≤ 1024) :
    z (ix2 r l) = kCols k z r ⟨n + l.val, by omega⟩ :=
   (kCols_shared k z r _ l (by show (n + l.val) % 256 = 128 + l.val; omega)).symm

end Pieces

end Cert.Kernel4Ideal.Even

end
-- ==== Proof.EvenStore.lean ====
/-
  What a grid point of the even projection's kernel stores in each of its six blocks, at an index.
-/
module

public import proofs.«01_k».proof.Proof.EvenBlock
public import proofs.«01_k».proof.Proof.Gen.Kernel4Ideal.Value

@[expose] public section

noncomputable section

namespace Cert.Kernel4Ideal.Even

open Cert.Kernel4Ideal Cert.Kernel4Ideal.Gen Cert.Even Idealize.ShloMosaic Idealize.ShloMosaic.TcCoe Idealize.SL.Sem Finset

/-- A load of a whole block is the block. -/
theorem load0 (x : Vec Ideal S640x2048 .bf16) : View.ld x r0_0 = x := View.ld_unit_zero (funext fun a => by fin_cases a <;> rfl) _ x
theorem load1 (x : Vec Ideal S2048x2432 .bf16) : View.ld x r0_1 = x := View.ld_unit_zero (funext fun a => by fin_cases a <;> rfl) _ x
theorem load2 (x : Vec Ideal S1x512 .f32) : View.ld x r0_4 = x := View.ld_unit_zero (funext fun a => by fin_cases a <;> rfl) _ x
theorem load3 (x : Vec Ideal S1x256 .f32) : View.ld x r0_5 = x := View.ld_unit_zero (funext fun a => by fin_cases a <;> rfl) _ x
theorem load4 (x : Vec Ideal S512x1024 .bf16) : View.ld x r0_6 = x := View.ld_unit_zero (funext fun a => by fin_cases a <;> rfl) _ x
theorem load5 (x : Vec Ideal S256x1024 .bf16) : View.ld x r0_7 = x := View.ld_unit_zero (funext fun a => by fin_cases a <;> rfl) _ x
theorem load6 (x : Vec Ideal S640x128 .f32) : View.ld x r0_3 = x := View.ld_unit_zero (funext fun a => by fin_cases a <;> rfl) _ x

/-- A cast to the same shape changes nothing. -/
theorem same_table (t : FVec Ideal S640x128 .f32) : k0_pay7 (F := Ideal) t = t := by
  funext i
  obtain ⟨r, l, rfl⟩ := index_eq i
  unfold k0_pay7
  pointwise

variable (x0 : Vec Ideal S640x2048 .bf16) (x1 : Vec Ideal S2048x2432 .bf16) (x2 : Vec Ideal S1x512 .f32) (x3 : Vec Ideal S1x256 .f32)
  (x4 : Vec Ideal S512x1024 .bf16) (x5 : Vec Ideal S256x1024 .bf16) (x6 : Vec Ideal S640x128 .f32)

/-- The block's queries, and its keys and values. -/
def blockQ : S640x1024.Idx → EReal := k0_pay11 (F := Ideal) (k0_pay9 (F := Ideal) x0 x1) (k0_pay10 (F := Ideal) x2) x4
def blockKv : S640x1024.Idx → EReal := k0_pay12 (F := Ideal) (k0_pay3 (F := Ideal) x0 x1) x3 x5

/-- Where a piece of 128 columns that starts at `n` puts its index. -/
theorem place (n : ℕ) (hn : n + 128 ≤ 1024) (inb : ∀ a, (![0, n] : Fin 2 → ℕ) a + S640x128.size a ≤ S640x1024.size a) (r : Fin 640) (l : Fin 128) :
    (Rect.unit (s := S640x1024) ![0, n] S640x128.size inb).idx (ix2 r l) = (ix2 r ⟨n + l.val, by omega⟩ : S640x1024.Idx) :=
  funext fun a => Fin.ext (by
    match a with
    | ⟨0, _⟩ => show 0 + 1 * r.val = r.val; omega
    | ⟨1, _⟩ => show n + 1 * l.val = n + l.val; omega)

/-- A function of the two coordinates as a function of the index. -/
def byCoords (f : Fin 640 → Fin 1024 → EReal) : S640x1024.Idx → EReal := fun y => f ⟨(y 0).val, (y 0).isLt⟩ ⟨(y 1).val, (y 1).isLt⟩

theorem out7_apply (r : Fin 640) (j : Fin 1024) :
    out0_7 (F := Ideal) x0 x1 x2 x3 x4 x5 x6 (ix2 r j) = qCols (blockQ x0 x1 x2 x4) x6 r j := by
  unfold out0_7 k0_pay24 k0_pay28 k0_pay26 k0_pay27
  rw [load0, load1, load2, load4, load6, same_table]
  refine View.canon_apply_of_pieces (show Vec Ideal S640x1024 .bf16 from byCoords (qCols (blockQ x0 x1 x2 x4) x6)) _ ?_ (ix2 r j) (cover0_7 _ _ _ _ _ _ _ _ _)
  intro pc hpc
  rcases List.mem_cons.mp hpc with rfl | hpc
  · intro x
    obtain ⟨r, l, rfl⟩ := index_eq x
    exact (rotated3 _ _ r l).trans (congrArg (byCoords (qCols (blockQ x0 x1 x2 x4) x6)) (place 896 (by norm_num) inb_S640x1024_S640x128_0_896 r l)).symm
  rcases List.mem_cons.mp hpc with rfl | hpc
  · intro x
    obtain ⟨r, l, rfl⟩ := index_eq x
    exact (plain3 _ x6 r l).trans (congrArg (byCoords (qCols (blockQ x0 x1 x2 x4) x6)) (place 768 (by norm_num) inb_S640x1024_S640x128_0_768 r l)).symm
  rcases List.mem_cons.mp hpc with rfl | hpc
  · intro x
    obtain ⟨r, l, rfl⟩ := index_eq x
    exact (rotated2 _ _ r l).trans (congrArg (byCoords (qCols (blockQ x0 x1 x2 x4) x6)) (place 640 (by norm_num) inb_S640x1024_S640x128_0_640 r l)).symm
  rcases List.mem_cons.mp hpc with rfl | hpc
  · intro x
    obtain ⟨r, l, rfl⟩ := index_eq x
    exact (plain2 _ x6 r l).trans (congrArg (byCoords (qCols (blockQ x0 x1 x2 x4) x6)) (place 512 (by norm_num) inb_S640x1024_S640x128_0_512 r l)).symm
  rcases List.mem_cons.mp hpc with rfl | hpc
  · intro x
    obtain ⟨r, l, rfl⟩ := index_eq x
    exact (rotated1 _ _ r l).trans (congrArg (byCoords (qCols (blockQ x0 x1 x2 x4) x6)) (place 384 (by norm_num) inb_S640x1024_S640x128_0_384 r l)).symm
  rcases List.mem_cons.mp hpc with rfl | hpc
  · intro x
    obtain ⟨r, l, rfl⟩ := index_eq x
    exact (plain1 _ x6 r l).trans (congrArg (byCoords (qCols (blockQ x0 x1 x2 x4) x6)) (place 256 (by norm_num) inb_S640x1024_S640x128_0_256 r l)).symm
  rcases List.mem_cons.mp hpc with rfl | hpc
  · intro x
    obtain ⟨r, l, rfl⟩ := index_eq x
    exact (rotated0 _ r l _ _ _).trans (congrArg (byCoords (qCols (blockQ x0 x1 x2 x4) x6)) (place 128 (by norm_num) inb_S640x1024_S640x128_0_128 r l)).symm
  rcases List.mem_cons.mp hpc with rfl | hpc
  · intro x
    obtain ⟨r, l, rfl⟩ := index_eq x
    exact (plain0 x6 r l _ _ _).trans ((congrArg (qCols (blockQ x0 x1 x2 x4) x6 r) (Fin.ext (Nat.zero_add l.val).symm)).trans (congrArg (byCoords (qCols (blockQ x0 x1 x2 x4) x6)) (place 0 (by norm_num) inb_S640x1024_S640x128_0_0 r l)).symm)
  nomatch hpc

theorem out8_apply (r : Fin 640) (j : Fin 1024) :
    out0_8 (F := Ideal) x0 x1 x2 x3 x4 x5 x6 (ix2 r j) = kCols (blockKv x0 x1 x3 x5) (k0_pay8 (F := Ideal) x0 x1 x6) r j := by
  unfold out0_8 k0_pay25 k0_pay29
  rw [load0, load1, load3, load5, load6]
  refine View.canon_apply_of_pieces (show Vec Ideal S640x1024 .bf16 from byCoords (kCols (blockKv x0 x1 x3 x5) (k0_pay8 (F := Ideal) x0 x1 x6))) _ ?_ (ix2 r j) (cover0_8 _ _ _ _ _ _ _ _ _)
  intro pc hpc
  rcases List.mem_cons.mp hpc with rfl | hpc
  · intro x
    obtain ⟨r, l, rfl⟩ := index_eq x
    exact (shared _ r l _ 896 (by norm_num) (by norm_num)).trans (congrArg (byCoords (kCols (blockKv x0 x1 x3 x5) (k0_pay8 (F := Ideal) x0 x1 x6))) (place 896 (by norm_num) inb_S640x1024_S640x128_0_896 r l)).symm
  rcases List.mem_cons.mp hpc with rfl | hpc
  · intro x
    obtain ⟨r, l, rfl⟩ := index_eq x
    exact (key3 _ r l _).trans (congrArg (byCoords (kCols (blockKv x0 x1 x3 x5) (k0_pay8 (F := Ideal) x0 x1 x6))) (place 768 (by norm_num) inb_S640x1024_S640x128_0_768 r l)).symm
  rcases List.mem_cons.mp hpc with rfl | hpc
  · intro x
    obtain ⟨r, l, rfl⟩ := index_eq x
    exact (shared _ r l _ 640 (by norm_num) (by norm_num)).trans (congrArg (byCoords (kCols (blockKv x0 x1 x3 x5) (k0_pay8 (F := Ideal) x0 x1 x6))) (place 640 (by norm_num) inb_S640x1024_S640x128_0_640 r l)).symm
  rcases List.mem_cons.mp hpc with rfl | hpc
  · intro x
    obtain ⟨r, l, rfl⟩ := index_eq x
    exact (key2 _ r l _).trans (congrArg (byCoords (kCols (blockKv x0 x1 x3 x5) (k0_pay8 (F := Ideal) x0 x1 x6))) (place 512 (by norm_num) inb_S640x1024_S640x128_0_512 r l)).symm
  rcases List.mem_cons.mp hpc with rfl | hpc
  · intro x
    obtain ⟨r, l, rfl⟩ := index_eq x
    exact (shared _ r l _ 384 (by norm_num) (by norm_num)).trans (congrArg (byCoords (kCols (blockKv x0 x1 x3 x5) (k0_pay8 (F := Ideal) x0 x1 x6))) (place 384 (by norm_num) inb_S640x1024_S640x128_0_384 r l)).symm
  rcases List.mem_cons.mp hpc with rfl | hpc
  · intro x
    obtain ⟨r, l, rfl⟩ := index_eq x
    exact (key1 _ r l _).trans (congrArg (byCoords (kCols (blockKv x0 x1 x3 x5) (k0_pay8 (F := Ideal) x0 x1 x6))) (place 256 (by norm_num) inb_S640x1024_S640x128_0_256 r l)).symm
  rcases List.mem_cons.mp hpc with rfl | hpc
  · intro x
    obtain ⟨r, l, rfl⟩ := index_eq x
    exact (shared _ r l _ 128 (by norm_num) (by norm_num)).trans (congrArg (byCoords (kCols (blockKv x0 x1 x3 x5) (k0_pay8 (F := Ideal) x0 x1 x6))) (place 128 (by norm_num) inb_S640x1024_S640x128_0_128 r l)).symm
  rcases List.mem_cons.mp hpc with rfl | hpc
  · intro x
    obtain ⟨r, l, rfl⟩ := index_eq x
    exact (key0 _ r l _).trans ((congrArg (kCols (blockKv x0 x1 x3 x5) (k0_pay8 (F := Ideal) x0 x1 x6) r) (Fin.ext (Nat.zero_add l.val).symm)).trans (congrArg (byCoords (kCols (blockKv x0 x1 x3 x5) (k0_pay8 (F := Ideal) x0 x1 x6))) (place 0 (by norm_num) inb_S640x1024_S640x128_0_0 r l)).symm)
  nomatch hpc

theorem out9_apply (r : Fin 640) (j : Fin 512) :
    out0_9 (F := Ideal) x0 x1 x2 x3 x4 x5 x6 (ix2 r j) = blockKv x0 x1 x3 x5 (ix2 r ⟨j.val + 512, by omega⟩) := by
  unfold out0_9 k0_pay29
  rw [load0, load1, load3, load5, Value.canon9_eq]
  refine congrArg (blockKv x0 x1 x3 x5) ?_
  exact funext fun a => Fin.ext (by match a with | ⟨0, _⟩ => rfl | ⟨1, _⟩ => rfl)

theorem out10_apply (r : Fin 640) (j : Fin 512) :
    out0_10 (F := Ideal) x0 x1 x2 x3 x4 x5 x6 (ix2 r j) = (k0_pay3 (F := Ideal) x0 x1 (ix2 r ⟨j.val + 768, by omega⟩) * bScale : EReal) := by
  unfold out0_10
  rw [load0, load1, Value.canon10_eq]
  refine congrArg (fun a : EReal => a * bScale) (congrArg (k0_pay3 (F := Ideal) x0 x1) ?_)
  exact funext fun a => Fin.ext (by match a with | ⟨0, _⟩ => rfl | ⟨1, _⟩ => rfl)

theorem out11_apply (r : Fin 640) (j : Fin 512) :
    out0_11 (F := Ideal) x0 x1 x2 x3 x4 x5 x6 (ix2 r j) = k0_pay3 (F := Ideal) x0 x1 (ix2 r ⟨j.val + 1280, by omega⟩) := by
  unfold out0_11
  rw [load0, load1, Value.canon11_eq]
  refine congrArg (k0_pay3 (F := Ideal) x0 x1) ?_
  exact funext fun a => Fin.ext (by match a with | ⟨0, _⟩ => rfl | ⟨1, _⟩ => rfl)

theorem out12_apply (r : Fin 640) (j : Fin 512) :
    out0_12 (F := Ideal) x0 x1 x2 x3 x4 x5 x6 (ix2 r j) = k0_pay3 (F := Ideal) x0 x1 (ix2 r ⟨j.val + 1792, by omega⟩) := by
  unfold out0_12
  rw [load0, load1, Value.canon12_eq]
  refine congrArg (k0_pay3 (F := Ideal) x0 x1) ?_
  exact funext fun a => Fin.ext (by match a with | ⟨0, _⟩ => rfl | ⟨1, _⟩ => rfl)

end Cert.Kernel4Ideal.Even

end
-- ==== Proof.EvenPoint.lean ====
/-
  A grid point of the even projection's kernel: what its blocks hold, as the projection's mathematics.
-/
module

public import proofs.«01_k».proof.Proof.EvenHost
public import proofs.«01_k».proof.Proof.EvenStore

@[expose] public section

noncomputable section

namespace Cert.Kernel4Ideal.Even

open Cert.Kernel4Ideal Cert.Kernel4Ideal.Gen Cert.Even Idealize.ShloMosaic Idealize.ShloMosaic.TcCoe Idealize.SL.Sem Finset

/-- The blocks of a grid point. -/
theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val % 13, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val, 0] := (by decide +kernel : ∀ t : Fin grid0.N, _)

variable (m : (ℓ : Loc nD τ sig) → Buf (Elt Ideal) ℓ) (c : Dev nD)

/-- The rows of a grid point's block. -/
def row (t : Fin cfg0.N) (r : Fin 640) : Fin 33280 := ⟨640 * t.val + r.val, by
  have : t.val < 52 := t.isLt
  omega⟩

/-- A grid point's blocks: rows of the first array and of the table, and the other arrays whole. -/
theorem rows_block (t : Fin cfg0.N) (r : Fin 640) (k : Fin 2048) :
    (iblk m c 0 t : S640x2048.Idx → EReal) (ix2 r k) = rows m c (ix2 (row t r) k) := by
  blk_simp [iblk]
  rw [V_main_arg0]
  have e : (win0_0.blk t).view.emb (ix2 r k) = (ix2 (row t r) k : S33280x2048.Idx) := by
    unfold row
    blk_ext [index0]
  rw [e]
  rfl

theorem table_block (t : Fin cfg0.N) (r : Fin 640) (l : Fin 128) :
    (iblk m c 6 t : S640x128.Idx → EReal) (ix2 r l) = table m c (ix2 ⟨(row t r).val % 8320, by omega⟩ l) := by
  blk_simp [iblk]
  have e : (win0_6.blk t).view.emb (ix2 r l) = (ix2 ⟨640 * (t.val % 13) + r.val, by omega⟩ l : S8320x128.Idx) := by
    blk_ext [index6]
  rw [e]
  refine congrArg (fun a => table m c (ix2 a l)) (Fin.ext ?_)
  show 640 * (t.val % 13) + r.val = (640 * t.val + r.val) % 8320
  omega

theorem wide_block (t : Fin cfg0.N) (k : Fin 2048) (j : Fin 2432) : (iblk m c 1 t : S2048x2432.Idx → EReal) (ix2 k j) = wide m c (ix2 k j) := by
  blk_simp [iblk]
  have e : (win0_1.blk t).view.emb (ix2 k j) = (ix2 k j : S2048x2432.Idx) := by
    blk_ext [index1]
  rw [e]
  rfl

theorem normQ_block (t : Fin cfg0.N) (k : Fin 1) (j : Fin 512) : (iblk m c 2 t : S1x512.Idx → EReal) (ix2 k j) = normQ m c (ix2 k j) := by
  blk_simp [iblk]
  have e : (win0_2.blk t).view.emb (ix2 k j) = (ix2 k j : S1x512.Idx) := by
    blk_ext [index2]
  rw [e]
  rfl

theorem normKv_block (t : Fin cfg0.N) (k : Fin 1) (j : Fin 256) : (iblk m c 3 t : S1x256.Idx → EReal) (ix2 k j) = normKv m c (ix2 k j) := by
  blk_simp [iblk]
  have e : (win0_3.blk t).view.emb (ix2 k j) = (ix2 k j : S1x256.Idx) := by
    blk_ext [index3]
  rw [e]
  rfl

theorem upQ_block (t : Fin cfg0.N) (k : Fin 512) (j : Fin 1024) : (iblk m c 4 t : S512x1024.Idx → EReal) (ix2 k j) = upQ m c (ix2 k j) := by
  blk_simp [iblk]
  have e : (win0_4.blk t).view.emb (ix2 k j) = (ix2 k j : S512x1024.Idx) := by
    blk_ext [index4]
  rw [e]
  rfl

theorem upKv_block (t : Fin cfg0.N) (k : Fin 256) (j : Fin 1024) : (iblk m c 5 t : S256x1024.Idx → EReal) (ix2 k j) = upKv m c (ix2 k j) := by
  blk_simp [iblk]
  have e : (win0_5.blk t).view.emb (ix2 k j) = (ix2 k j : S256x1024.Idx) := by
    blk_ext [index5]
  rw [e]
  rfl

/-- A point's product, queries, keys and values, and rotated keys. -/
def prod (t : Fin cfg0.N) : S640x2432.Idx → EReal := k0_pay3 (F := Ideal) (iblk m c 0 t) (iblk m c 1 t)
def que (t : Fin cfg0.N) : S640x1024.Idx → EReal := blockQ (iblk m c 0 t) (iblk m c 1 t) (iblk m c 2 t) (iblk m c 4 t)
def kv (t : Fin cfg0.N) : S640x1024.Idx → EReal := blockKv (iblk m c 0 t) (iblk m c 1 t) (iblk m c 3 t) (iblk m c 5 t)
def tab (t : Fin cfg0.N) : S640x128.Idx → EReal := iblk m c 6 t
def turn (t : Fin cfg0.N) : S640x128.Idx → EReal := k0_pay8 (F := Ideal) (iblk m c 0 t) (iblk m c 1 t) (iblk m c 6 t)

theorem prod_apply (t : Fin cfg0.N) (r : Fin 640) (j : Fin 2432) :
    prod m c t (ix2 r j) = ∑ k : Fin 2048, rows m c (ix2 (row t r) k) * wide m c (ix2 k j) := by
  unfold prod
  rw [product_apply]
  refine Finset.sum_congr rfl fun k _ => ?_
  rw [rows_block, wide_block]

theorem prod_first (t : Fin cfg0.N) (r : Fin 640) (j : Fin 2432) (i : Fin 2368) (hj : j.val < 768) (hi : i.val = j.val) :
    prod m c t (ix2 r j) = proj (rows m c) (wIn m c) (row t r) i := by
  rw [prod_apply]
  refine Finset.sum_congr rfl fun k _ => ?_
  rw [wide_first m c k j hj]
  exact congrArg (fun a => rows m c (ix2 (row t r) k) * wIn m c (ix2 k a)) (Fin.ext hi.symm)

theorem prod_middle (t : Fin cfg0.N) (r : Fin 640) (j : Fin 2432) (i : Fin 2368) (h0 : 768 ≤ j.val) (h1 : j.val < 2304) (hi : i.val = j.val + 64) :
    prod m c t (ix2 r j) = proj (rows m c) (wIn m c) (row t r) i := by
  rw [prod_apply]
  refine Finset.sum_congr rfl fun k _ => ?_
  rw [wide_middle m c k j h0 h1]
  exact congrArg (fun a => rows m c (ix2 (row t r) k) * wIn m c (ix2 k a)) (Fin.ext hi.symm)

theorem prod_rotary (t : Fin cfg0.N) (r : Fin 640) (l : Fin 64) :
    prod m c t (ix2 r ⟨2304 + l.val, by omega⟩) = proj (rows m c) (wIn m c) (row t r) ⟨768 + l.val, by omega⟩ := by
  rw [prod_apply]
  refine Finset.sum_congr rfl fun k _ => ?_
  rw [wide_rotary m c k l]

theorem prod_turned (hh : ∀ i, IsReal (rows m c i)) (hw : ∀ i, IsReal (wIn m c i)) (t : Fin cfg0.N) (r : Fin 640) (l : Fin 64) :
    prod m c t (ix2 r ⟨2368 + l.val, by omega⟩)
      = if hl : l.val < 32 then -proj (rows m c) (wIn m c) (row t r) ⟨768 + (l.val + 32), by omega⟩
        else proj (rows m c) (wIn m c) (row t r) ⟨768 + (l.val - 32), by omega⟩ := by
  rw [prod_apply]
  by_cases hl : l.val < 32
  · refine Eq.trans ?_ (dif_pos hl).symm
    refine (Finset.sum_congr rfl fun k _ => congrArg (fun a : EReal => rows m c (ix2 (row t r) k) * a) ((wide_turned m c k l).trans (dif_pos hl))).trans ?_
    exact sum_mul_neg _ _ (fun k => hh _) fun k => hw _
  · refine Eq.trans ?_ (dif_neg hl).symm
    exact Finset.sum_congr rfl fun k _ => congrArg (fun a : EReal => rows m c (ix2 (row t r) k) * a) ((wide_turned m c k l).trans (dif_neg hl))

theorem que_apply (t : Fin cfg0.N) (r : Fin 640) (j : Fin 1024) :
    que m c t (ix2 r j) = ∑ k : Fin 512, qLat (rows m c) (wIn m c) (gQ m c) (row t r) k * upQ m c (ix2 k j) := by
  unfold que blockQ
  rw [queries_apply]
  refine Finset.sum_congr rfl fun k _ => ?_
  rw [latent_apply, normQ_block, upQ_block, normQ_apply]
  unfold qLat
  refine congrArg (fun a : EReal => a * gQ m c (ix1 k) * upQ m c (ix2 k j)) ?_
  refine congrArg₂ (fun a b : EReal => a * b) (prod_first m c t r _ _ (by show k.val < 768; omega) rfl) ?_
  refine congrArg (invRms qLen) (funext fun e => ?_)
  exact prod_first m c t r _ _ (by show e.val < 768; omega) rfl

theorem que_plain (t : Fin cfg0.N) (r : Fin 640) (b : Fin 4) (l : Fin 256) (hl : l.val < 192) :
    que m c t (ix2 r ⟨256 * b.val + l.val, by omega⟩) = qUp (rows m c) (wIn m c) (gQ m c) (uQ m c) (row t r) ⟨192 * b.val + l.val, by omega⟩ := by
  rw [que_apply]
  refine Finset.sum_congr rfl fun k _ => ?_
  rw [upQ_plain m c k b l hl]

theorem que_turned (hh : ∀ i, IsReal (rows m c i)) (hw : ∀ i, IsReal (wIn m c i)) (hg : ∀ i, IsReal (gQ m c i)) (hu : ∀ i, IsReal (uQ m c i))
    (t : Fin cfg0.N) (r : Fin 640) (b : Fin 4) (l : Fin 64) :
    que m c t (ix2 r ⟨256 * b.val + 192 + l.val, by omega⟩)
      = if hl : l.val < 32 then -qUp (rows m c) (wIn m c) (gQ m c) (uQ m c) (row t r) ⟨192 * b.val + 128 + (l.val + 32), by omega⟩
        else qUp (rows m c) (wIn m c) (gQ m c) (uQ m c) (row t r) ⟨192 * b.val + 128 + (l.val - 32), by omega⟩ := by
  rw [que_apply]
  by_cases hl : l.val < 32
  · refine Eq.trans ?_ (dif_pos hl).symm
    refine (Finset.sum_congr rfl fun k _ => congrArg (fun a : EReal => qLat (rows m c) (wIn m c) (gQ m c) (row t r) k * a)
      ((upQ_turned m c k b l).trans (dif_pos hl))).trans ?_
    exact sum_mul_neg _ _ (fun k => real_qLat _ _ _ hh hw hg _ _) fun k => hu _
  · refine Eq.trans ?_ (dif_neg hl).symm
    exact Finset.sum_congr rfl fun k _ => congrArg (fun a : EReal => qLat (rows m c) (wIn m c) (gQ m c) (row t r) k * a)
      ((upQ_turned m c k b l).trans (dif_neg hl))

theorem kv_apply (t : Fin cfg0.N) (r : Fin 640) (j : Fin 1024) :
    kv m c t (ix2 r j) = ∑ k : Fin 256, kvLat (rows m c) (wIn m c) (gKv m c) (row t r) k * upKv m c (ix2 k j) := by
  unfold kv blockKv
  rw [keys_apply]
  refine Finset.sum_congr rfl fun k _ => ?_
  rw [normKv_block, upKv_block, normKv_apply]
  unfold kvLat
  refine congrArg (fun a : EReal => a * gKv m c (ix1 k) * upKv m c (ix2 k j)) ?_
  refine congrArg₂ (fun a b : EReal => a * b) (prod_first m c t r _ _ (by show 512 + k.val < 768; omega) rfl) ?_
  refine congrArg (invRms kvLen) (funext fun e => ?_)
  exact prod_first m c t r _ _ (by show 512 + e.val < 768; omega) rfl

theorem kv_keys (t : Fin cfg0.N) (r : Fin 640) (b : Fin 4) (l : Fin 128) :
    kv m c t (ix2 r ⟨128 * b.val + l.val, by omega⟩) = kvUp (rows m c) (wIn m c) (gKv m c) (uKv m c) (row t r) ⟨256 * b.val + l.val, by omega⟩ := by
  rw [kv_apply]
  refine Finset.sum_congr rfl fun k _ => ?_
  rw [upKv_keys m c k b l]

theorem kv_values (t : Fin cfg0.N) (r : Fin 640) (j : Fin 512) :
    kv m c t (ix2 r ⟨512 + j.val, by omega⟩)
      = kvUp (rows m c) (wIn m c) (gKv m c) (uKv m c) (row t r) ⟨256 * (j.val / 128) + 128 + j.val % 128, by omega⟩ := by
  rw [kv_apply]
  refine Finset.sum_congr rfl fun k _ => ?_
  rw [upKv_values m c k j]

theorem tab_cos (t : Fin cfg0.N) (r : Fin 640) (l : Fin 64) :
    tab m c t (ix2 r ⟨l.val, by omega⟩) = Ideal.cos (angle ((row t r).val % 8320) (l.val % 32)) := by
  unfold tab
  rw [table_block]
  exact table_cos m c _ _ l.isLt

theorem tab_sin (t : Fin cfg0.N) (r : Fin 640) (l : Fin 64) :
    tab m c t (ix2 r ⟨l.val + 64, by omega⟩) = Ideal.sin (angle ((row t r).val % 8320) (l.val % 32)) := by
  unfold tab
  rw [table_block]
  refine (table_sin m c _ _ (by show 64 ≤ l.val + 64; omega)).trans ?_
  have e : (l.val + 64) % 32 = l.val % 32 := by omega
  show Ideal.sin (angle ((row t r).val % 8320) ((l.val + 64) % 32)) = _
  rw [e]

/-- The rotated keys of a point: the same 64 columns twice. -/
theorem turn_apply (hh : ∀ i, IsReal (rows m c i)) (hw : ∀ i, IsReal (wIn m c i)) (t : Fin cfg0.N) (r : Fin 640) (l : Fin 128) :
    turn m c t (ix2 r l) = kRot (rows m c) (wIn m c) (row t r) ⟨l.val % 64, by omega⟩ := by
  have hrot := fun e : Fin 64 => (congrArg₂ (fun a b : EReal => a + b)
    (congrArg₂ (fun a b : EReal => a * b) (prod_rotary m c t r e) (tab_cos m c t r e))
    (congrArg (fun a : EReal => prod m c t (ix2 r ⟨2368 + e.val, by omega⟩) * a) (tab_sin m c t r e))).trans
      (rot_eq (fun e => proj (rows m c) (wIn m c) (row t r) ⟨768 + e.val, by omega⟩) (fun e => prod m c t (ix2 r ⟨2368 + e.val, by omega⟩))
        ((row t r).val % 8320) (prod_turned m c hh hw t r) e)
  unfold turn
  rw [rotary_apply]
  by_cases hl : l.val < 64
  · have e1 : (l.val + 64) % 128 = l.val + 64 := by omega
    have e2 : l.val % 64 = l.val := by omega
    have e3 : 2304 + (l.val + 64) = 2368 + l.val := by omega
    simp only [e1, e2, e3]
    exact hrot ⟨l.val, hl⟩
  · have e1 : (l.val + 64) % 128 = l.val % 64 := by omega
    have e2 : 2304 + l.val = 2368 + l.val % 64 := by omega
    have e3 : l = ⟨l.val % 64 + 64, by omega⟩ := Fin.ext (by show l.val = l.val % 64 + 64; omega)
    rw [add_comm]
    simp only [e1, e2]
    refine Eq.trans ?_ (hrot ⟨l.val % 64, by omega⟩)
    refine congrArg (fun a => prod m c t (ix2 r ⟨2304 + l.val % 64, by omega⟩) * tab m c t (ix2 r ⟨l.val % 64, by omega⟩)
      + prod m c t (ix2 r ⟨2368 + l.val % 64, by omega⟩) * tab m c t (ix2 r a)) e3

/-- The rotated queries of a point's head. -/
theorem que_rotated (hh : ∀ i, IsReal (rows m c i)) (hw : ∀ i, IsReal (wIn m c i)) (hg : ∀ i, IsReal (gQ m c i)) (hu : ∀ i, IsReal (uQ m c i))
    (t : Fin cfg0.N) (r : Fin 640) (b : Fin 4) (l : Fin 64) :
    que m c t (ix2 r ⟨256 * b.val + 128 + l.val, by omega⟩) * tab m c t (ix2 r ⟨l.val, by omega⟩)
      + que m c t (ix2 r ⟨256 * b.val + 192 + l.val, by omega⟩) * tab m c t (ix2 r ⟨l.val + 64, by omega⟩)
      = qRot (rows m c) (wIn m c) (gQ m c) (uQ m c) (row t r) b l := by
  have e1 : que m c t (ix2 r ⟨256 * b.val + 128 + l.val, by omega⟩)
      = qUp (rows m c) (wIn m c) (gQ m c) (uQ m c) (row t r) ⟨192 * b.val + 128 + l.val, by omega⟩ := by
    have h := que_plain m c t r b ⟨128 + l.val, by omega⟩ (by show 128 + l.val < 192; omega)
    simp only [← Nat.add_assoc] at h
    exact h
  rw [e1, tab_cos, tab_sin]
  exact rot_eq (fun e => qUp (rows m c) (wIn m c) (gQ m c) (uQ m c) (row t r) ⟨192 * b.val + 128 + e.val, by omega⟩)
    (fun e => que m c t (ix2 r ⟨256 * b.val + 192 + e.val, by omega⟩)) ((row t r).val % 8320) (que_turned m c hh hw hg hu t r b) l

/-- A point's stored queries and keys, head by head. -/
theorem que_head (hh : ∀ i, IsReal (rows m c i)) (hw : ∀ i, IsReal (wIn m c i)) (hg : ∀ i, IsReal (gQ m c i)) (hu : ∀ i, IsReal (uQ m c i))
    (t : Fin cfg0.N) (r : Fin 640) (b : Fin 4) (l : Fin 256) :
    qCols (que m c t) (tab m c t) r ⟨256 * b.val + l.val, by omega⟩ = qHead (rows m c) (wIn m c) (gQ m c) (uQ m c) (row t r) b l := by
  by_cases h1 : l.val < 128
  · rw [qHead_plain _ _ _ _ _ _ _ h1, qCols_plain _ _ _ _ (by show (256 * b.val + l.val) % 256 < 128; omega),
      que_plain m c t r b l (by omega)]
  · by_cases h2 : l.val < 192
    · obtain ⟨e, he⟩ : ∃ e : Fin 64, l.val = 128 + e.val := ⟨⟨l.val - 128, by omega⟩, by show l.val = 128 + (l.val - 128); omega⟩
      rw [qHead_rotated _ _ _ _ _ _ _ e he, ← que_rotated m c hh hw hg hu t r b e,
        qCols_rotated _ _ _ _ e (by show (256 * b.val + l.val) % 256 = 128 + e.val; omega)]
      have e1 : 256 * b.val + l.val = 256 * b.val + 128 + e.val := by omega
      have e2 : 256 * b.val + 128 + e.val + 64 = 256 * b.val + 192 + e.val := by omega
      simp only [e1, e2]
    · rw [qHead_zero _ _ _ _ _ _ _ (by omega), qCols_zero _ _ _ _ (by show 192 ≤ (256 * b.val + l.val) % 256; omega)]

theorem key_head (hh : ∀ i, IsReal (rows m c i)) (hw : ∀ i, IsReal (wIn m c i)) (t : Fin cfg0.N) (r : Fin 640) (b : Fin 4) (l : Fin 256) :
    kCols (kv m c t) (turn m c t) r ⟨256 * b.val + l.val, by omega⟩ = kHead (rows m c) (wIn m c) (gKv m c) (uKv m c) (row t r) b l := by
  by_cases h1 : l.val < 128
  · rw [kHead_plain _ _ _ _ _ _ _ h1, kCols_plain _ _ _ _ ⟨128 * b.val + l.val, by omega⟩ (by show (256 * b.val + l.val) % 256 < 128; omega)
      (by show 128 * b.val + l.val = 128 * ((256 * b.val + l.val) / 256) + (256 * b.val + l.val) % 256; omega)]
    exact kv_keys m c t r b ⟨l.val, h1⟩
  · rw [kHead_shared _ _ _ _ _ _ _ (by omega), kCols_shared _ _ _ _ ⟨l.val - 128, by omega⟩
      (by show (256 * b.val + l.val) % 256 = 128 + (l.val - 128); omega), turn_apply m c hh hw]

end Cert.Kernel4Ideal.Even

end
-- ==== Proof.EvenArray.lean ====
/-
  The even projection's six output arrays.
-/
module

public import proofs.«01_k».proof.Proof.EvenPoint

@[expose] public section

noncomputable section

namespace Cert.Kernel4Ideal.Even

open Cert.Kernel4Ideal Cert.Kernel4Ideal.Gen Cert.Even Idealize.ShloMosaic Idealize.ShloMosaic.TcCoe Idealize.SL.Sem Finset

variable (m : (ℓ : Loc nD τ sig) → Buf (Elt Ideal) ℓ) (c : Dev nD)

/-- The first attention's queries. -/
theorem array7 (hh : ∀ i, IsReal (rows m c i)) (hw : ∀ i, IsReal (wIn m c i)) (hg : ∀ i, IsReal (gQ m c i)) (hu : ∀ i, IsReal (uQ m c i)) :
    (dats m 0 c).arrAt 7 cfg0.N = qa (rows m c) (wIn m c) (gQ m c) (uQ m c) := by
  refine (dats m 0 c).arrAt_eq_of_covers 7 _ (by decide +kernel) fun t hf y => ?_
  blk_simp
  rw [after0_7]
  obtain ⟨r, j, rfl⟩ : ∃ (r : Fin 640) (j : Fin 1024), y = (ix2 r j : S640x1024.Idx) :=
    ⟨⟨(y 0).val, (y 0).isLt⟩, ⟨(y 1).val, (y 1).isLt⟩, funext fun a => Fin.ext (by match a with | ⟨0, _⟩ => rfl | ⟨1, _⟩ => rfl)⟩
  have e : (win0_7.blk t).view.emb (ix2 r j) = (ix2 (row t r) j : S33280x1024.Idx) := by
    unfold row
    blk_ext [index7]
  rw [e]
  refine (out7_apply _ _ _ _ _ _ _ r j).trans ?_
  refine Eq.trans ?_ (que_head m c hh hw hg hu t r ⟨j.val / 256, by omega⟩ ⟨j.val % 256, by omega⟩)
  exact congrArg (qCols (que m c t) (tab m c t) r) (Fin.ext (by show j.val = 256 * (j.val / 256) + j.val % 256; omega))

/-- The first attention's keys. -/
theorem array8 (hh : ∀ i, IsReal (rows m c i)) (hw : ∀ i, IsReal (wIn m c i)) :
    (dats m 0 c).arrAt 8 cfg0.N = ka (rows m c) (wIn m c) (gKv m c) (uKv m c) := by
  refine (dats m 0 c).arrAt_eq_of_covers 8 _ (by decide +kernel) fun t hf y => ?_
  blk_simp
  rw [after0_8]
  obtain ⟨r, j, rfl⟩ : ∃ (r : Fin 640) (j : Fin 1024), y = (ix2 r j : S640x1024.Idx) :=
    ⟨⟨(y 0).val, (y 0).isLt⟩, ⟨(y 1).val, (y 1).isLt⟩, funext fun a => Fin.ext (by match a with | ⟨0, _⟩ => rfl | ⟨1, _⟩ => rfl)⟩
  have e : (win0_8.blk t).view.emb (ix2 r j) = (ix2 (row t r) j : S33280x1024.Idx) := by
    unfold row
    blk_ext [index8]
  rw [e]
  refine (out8_apply _ _ _ _ _ _ _ r j).trans ?_
  refine Eq.trans ?_ (key_head m c hh hw t r ⟨j.val / 256, by omega⟩ ⟨j.val % 256, by omega⟩)
  exact congrArg (kCols (kv m c t) (turn m c t) r) (Fin.ext (by show j.val = 256 * (j.val / 256) + j.val % 256; omega))

/-- The first attention's values. -/
theorem array9 : (dats m 0 c).arrAt 9 cfg0.N = va (rows m c) (wIn m c) (gKv m c) (uKv m c) := by
  refine (dats m 0 c).arrAt_eq_of_covers 9 _ (by decide +kernel) fun t hf y => ?_
  blk_simp
  rw [after0_9]
  obtain ⟨r, j, rfl⟩ : ∃ (r : Fin 640) (j : Fin 512), y = (ix2 r j : S640x512.Idx) :=
    ⟨⟨(y 0).val, (y 0).isLt⟩, ⟨(y 1).val, (y 1).isLt⟩, funext fun a => Fin.ext (by match a with | ⟨0, _⟩ => rfl | ⟨1, _⟩ => rfl)⟩
  have e : (win0_9.blk t).view.emb (ix2 r j) = (ix2 (row t r) j : S33280x512.Idx) := by
    unfold row
    blk_ext [index9]
  rw [e]
  refine (out9_apply _ _ _ _ _ _ _ r j).trans ?_
  refine Eq.trans ?_ (kv_values m c t r j)
  exact congrArg (fun a => kv m c t (ix2 r a)) (Fin.ext (Nat.add_comm _ _))

/-- The second attention's queries. -/
theorem array10 : (dats m 0 c).arrAt 10 cfg0.N = sq (rows m c) (wIn m c) := by
  refine (dats m 0 c).arrAt_eq_of_covers 10 _ (by decide +kernel) fun t hf y => ?_
  blk_simp
  rw [after0_10]
  obtain ⟨r, j, rfl⟩ : ∃ (r : Fin 640) (j : Fin 512), y = (ix2 r j : S640x512.Idx) :=
    ⟨⟨(y 0).val, (y 0).isLt⟩, ⟨(y 1).val, (y 1).isLt⟩, funext fun a => Fin.ext (by match a with | ⟨0, _⟩ => rfl | ⟨1, _⟩ => rfl)⟩
  have e : (win0_10.blk t).view.emb (ix2 r j) = (ix2 (row t r) j : S33280x512.Idx) := by
    unfold row
    blk_ext [index10]
  rw [e]
  refine (out10_apply _ _ _ _ _ _ _ r j).trans ?_
  exact congrArg (fun a : EReal => a * bScale) (prod_middle m c t r ⟨j.val + 768, by omega⟩ ⟨832 + j.val, by omega⟩ (by show 768 ≤ j.val + 768; omega)
    (by show j.val + 768 < 2304; omega) (by show 832 + j.val = j.val + 768 + 64; omega))

/-- The second attention's keys. -/
theorem array11 : (dats m 0 c).arrAt 11 cfg0.N = sk (rows m c) (wIn m c) := by
  refine (dats m 0 c).arrAt_eq_of_covers 11 _ (by decide +kernel) fun t hf y => ?_
  blk_simp
  rw [after0_11]
  obtain ⟨r, j, rfl⟩ : ∃ (r : Fin 640) (j : Fin 512), y = (ix2 r j : S640x512.Idx) :=
    ⟨⟨(y 0).val, (y 0).isLt⟩, ⟨(y 1).val, (y 1).isLt⟩, funext fun a => Fin.ext (by match a with | ⟨0, _⟩ => rfl | ⟨1, _⟩ => rfl)⟩
  have e : (win0_11.blk t).view.emb (ix2 r j) = (ix2 (row t r) j : S33280x512.Idx) := by
    unfold row
    blk_ext [index11]
  rw [e]
  refine (out11_apply _ _ _ _ _ _ _ r j).trans ?_
  exact prod_middle m c t r ⟨j.val + 1280, by omega⟩ ⟨1344 + j.val, by omega⟩ (by show 768 ≤ j.val + 1280; omega)
    (by show j.val + 1280 < 2304; omega) (by show 1344 + j.val = j.val + 1280 + 64; omega)

/-- The second attention's values. -/
theorem array12 : (dats m 0 c).arrAt 12 cfg0.N = sv (rows m c) (wIn m c) := by
  refine (dats m 0 c).arrAt_eq_of_covers 12 _ (by decide +kernel) fun t hf y => ?_
  blk_simp
  rw [after0_12]
  obtain ⟨r, j, rfl⟩ : ∃ (r : Fin 640) (j : Fin 512), y = (ix2 r j : S640x512.Idx) :=
    ⟨⟨(y 0).val, (y 0).isLt⟩, ⟨(y 1).val, (y 1).isLt⟩, funext fun a => Fin.ext (by match a with | ⟨0, _⟩ => rfl | ⟨1, _⟩ => rfl)⟩
  have e : (win0_12.blk t).view.emb (ix2 r j) = (ix2 (row t r) j : S33280x512.Idx) := by
    unfold row
    blk_ext [index12]
  rw [e]
  refine (out12_apply _ _ _ _ _ _ _ r j).trans ?_
  exact prod_middle m c t r ⟨j.val + 1792, by omega⟩ ⟨1856 + j.val, by omega⟩ (by show 768 ≤ j.val + 1792; omega)
    (by show j.val + 1792 < 2304; omega) (by show 1856 + j.val = j.val + 1792 + 64; omega)

end Cert.Kernel4Ideal.Even

end
-- ==== Proof.EvenRef.lean ====
/-
  The reference of the even layers' projection, read at an index: its six results are those of `EvenMath`.
-/
module

public import proofs.«01_k».proof.Proof.EvenMath
public import proofs.«01_k».proof.Proof.Gen.Reference4Ideal.Read
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.Select

@[expose] public section
noncomputable section
namespace Cert.Reference4Ideal.Even
open Cert.Reference4Ideal Cert.Reference4Ideal.Read Cert.Even Idealize.ShloMosaic Finset

variable (h : (⟨S33280x2048, .bf16⟩ : BufTy).Contents (Elt Ideal)) (w : (⟨S2048x2368, .f32⟩ : BufTy).Contents (Elt Ideal))
  (g : (⟨S512, .f32⟩ : BufTy).Contents (Elt Ideal)) (gk : (⟨S256, .f32⟩ : BufTy).Contents (Elt Ideal))
  (u : (⟨S512x768, .f32⟩ : BufTy).Contents (Elt Ideal)) (uk : (⟨S256x1024, .f32⟩ : BufTy).Contents (Elt Ideal))

theorem filler : FloatOps.sitofp (F := Ideal) .f32 (0#32) = (0 : EReal) := by
  show (((0#32 : BitVec 32).toInt : ℝ) : EReal) = 0
  simp

theorem at_pair {n k : ℕ} (i : (⟨2, ![n, k]⟩ : Shape).Idx) : i = ix2 (⟨(i 0).val, (i 0).isLt⟩ : Fin n) (⟨(i 1).val, (i 1).isLt⟩ : Fin k) :=
  funext fun a => match a with | ⟨0, _⟩ => rfl | ⟨1, _⟩ => rfl

/-- The product of rows and input matrix. -/
theorem product_apply (i : S33280x2368.Idx) : val_main_v1 (F := Ideal) h w i = proj h w ⟨(i 0).val, (i 0).isLt⟩ ⟨(i 1).val, (i 1).isLt⟩ := by
  rw [val_main_v1_apply]
  unfold proj
  refine Finset.sum_congr rfl fun k _ => ?_
  rw [val_main_v0_apply]
  refine congrArg₂ (fun a b : EReal => a * b) (congrArg h ?_) (congrArg w ?_) <;>
    exact funext fun a => Fin.ext (by match a with | ⟨0, _⟩ => rfl | ⟨1, _⟩ => rfl)

theorem product_at (r : Fin 33280) (j : Fin 2368) : val_main_v1 (F := Ideal) h w (ix2 r j) = proj h w r j := product_apply h w (ix2 r j)

/-! ## The latents and what they are multiplied up to -/

theorem query_latent (r : Fin 33280) (k : Fin 512) : val_main_v20 (F := Ideal) h w g (ix2 r k) = qLat h w g r k := by
  have ha := product_at h w
  unfold val_main_v20 val_main_v19 val_main_v18 val_main_v17 val_main_v16 val_main_v15 val_main_v14 val_main_v13 val_main_v12 val_main_v11 val_main_v10 val_main_v9 val_main_v8 val_main_v2 val_main_cst val_main_cst_0 val_main_cst_1
  generalize val_main_v1 (F := Ideal) h w = a at ha ⊢
  pointwise
  simp only [ha]
  rfl

theorem key_latent (r : Fin 33280) (k : Fin 256) : val_main_v35 (F := Ideal) h w gk (ix2 r k) = kvLat h w gk r k := by
  have ha := product_at h w
  unfold val_main_v35 val_main_v34 val_main_v33 val_main_v32 val_main_v31 val_main_v30 val_main_v29 val_main_v28 val_main_v27 val_main_v26 val_main_v25 val_main_v24 val_main_v23 val_main_v3 val_main_cst_2 val_main_cst_3 val_main_cst_4
  generalize val_main_v1 (F := Ideal) h w = a at ha ⊢
  pointwise
  simp only [ha]
  rfl

theorem queries_at (r : Fin 33280) (j : Fin 768) : val_main_v21 (F := Ideal) h w g u (ix2 r j) = qUp h w g u r j := by
  have ha := query_latent h w g
  unfold val_main_v21
  generalize val_main_v20 (F := Ideal) h w g = a at ha ⊢
  pointwise
  simp only [ha]
  rfl

theorem keys_at (r : Fin 33280) (j : Fin 1024) : val_main_v36 (F := Ideal) h w gk uk (ix2 r j) = kvUp h w gk uk r j := by
  have ha := key_latent h w gk
  unfold val_main_v36
  generalize val_main_v35 (F := Ideal) h w gk = a at ha ⊢
  pointwise
  simp only [ha]
  rfl

/-! ## The rotations -/

theorem key_angle (s : Fin 8320) (l : Fin 32) : val_main_v51 (F := Ideal) (ix2 s l) = angle s.val l.val := by
  unfold val_main_v51 val_main_v50 val_main_v49 val_main_v48 val_main_v47 val_main_v46 val_main_v45 val_main_v44 val_main_v43 val_main_v42 val_main_v41 val_main_v40 val_main_v39 val_main_cst_5 val_main_cst_6
  pointwise
  rfl

theorem query_angle (s : Fin 8320) (l : Fin 32) : val_main_v84 (F := Ideal) (ix2 s l) = angle s.val l.val := by
  unfold val_main_v84 val_main_v83 val_main_v82 val_main_v81 val_main_v80 val_main_v79 val_main_v78 val_main_v77 val_main_v76 val_main_v75 val_main_v74 val_main_v73 val_main_v72 val_main_cst_7 val_main_cst_8
  pointwise
  rfl

theorem key_rotated (b : Fin 4) (s : Fin 8320) (l : Fin 64) : val_main_v68 (F := Ideal) h w (ix4 b s 0 l) = kRot h w ⟨b.val * 8320 + s.val, by omega⟩ l := by
  have ha := key_angle
  have hx := product_at h w
  unfold val_main_v68 val_main_v67 val_main_v66 val_main_v65 val_main_v64 val_main_v63 val_main_v62 val_main_v61 val_main_v60 val_main_v59 val_main_v58 val_main_v57 val_main_v56 val_main_v55 val_main_v54 val_main_v53 val_main_v52 val_main_v38 val_main_v4
  generalize val_main_v51 (F := Ideal) = a at ha ⊢
  generalize val_main_v1 (F := Ideal) h w = x at hx ⊢
  pointwise
  simp only [ha, hx]
  have es : (b.val * 8320 + s.val) % 8320 = s.val := by omega
  unfold kRot
  rw [es]
  unfold rot
  by_cases hl : l.val < 32
  · refine (dif_pos hl).trans (Eq.trans ?_ (dif_pos hl).symm)
    have e : (⟨768 + (32 + l.val), by omega⟩ : Fin 2368) = ⟨768 + (l.val + 32), by omega⟩ := Fin.ext (by show 768 + (32 + l.val) = 768 + (l.val + 32); omega)
    rw [e]
  · refine (dif_neg hl).trans (Eq.trans ?_ (dif_neg hl).symm)
    have e : (⟨768 + (32 + (l.val - 32)), by omega⟩ : Fin 2368) = ⟨768 + l.val, by omega⟩ := Fin.ext (by show 768 + (32 + (l.val - 32)) = 768 + l.val; omega)
    rw [e]

theorem query_rotated (b : Fin 4) (s : Fin 8320) (e : Fin 4) (l : Fin 64) :
    val_main_v101 (F := Ideal) h w g u (ix4 b s e l) = qRot h w g u ⟨b.val * 8320 + s.val, by omega⟩ e l := by
  have ha := query_angle
  have hx := queries_at h w g u
  unfold val_main_v101 val_main_v100 val_main_v99 val_main_v98 val_main_v97 val_main_v96 val_main_v95 val_main_v94 val_main_v93 val_main_v92 val_main_v91 val_main_v90 val_main_v89 val_main_v88 val_main_v87 val_main_v86 val_main_v85 val_main_v71 val_main_v22
  generalize val_main_v84 (F := Ideal) = a at ha ⊢
  generalize val_main_v21 (F := Ideal) h w g u = x at hx ⊢
  pointwise
  simp only [ha, hx]
  have es : (b.val * 8320 + s.val) % 8320 = s.val := by omega
  have column : ∀ n k : ℕ, (hn : n < 768) → (hk : k < 768) → n = k → (⟨n, hn⟩ : Fin 768) = ⟨k, hk⟩ := fun _ _ _ _ e => Fin.ext e
  unfold qRot
  rw [es]
  unfold rot
  by_cases hl : l.val < 32
  · refine (dif_pos hl).trans (Eq.trans ?_ (dif_pos hl).symm)
    rw [column (e.val * 192 + (128 + l.val)) (192 * e.val + 128 + l.val) (by omega) (by omega) (by omega),
      column (e.val * 192 + (128 + (32 + l.val))) (192 * e.val + 128 + (l.val + 32)) (by omega) (by omega) (by omega)]
  · refine (dif_neg hl).trans (Eq.trans ?_ (dif_neg hl).symm)
    rw [column (e.val * 192 + (128 + (l.val - 32))) (192 * e.val + 128 + (l.val - 32)) (by omega) (by omega) (by omega),
      column (e.val * 192 + (128 + (32 + (l.val - 32)))) (192 * e.val + 128 + l.val) (by omega) (by omega) (by omega)]

/-! ## The results -/

theorem row_split (r : Fin 33280) (hr : r.val / 8320 * 8320 + r.val % 8320 < 33280) : (⟨r.val / 8320 * 8320 + r.val % 8320, hr⟩ : Fin 33280) = r :=
  Fin.ext (by show r.val / 8320 * 8320 + r.val % 8320 = r.val; omega)

theorem qa_at (r : Fin 33280) (j : Fin 1024) :
    val_main_v114 (F := Ideal) h w g u (ix2 r j) = qHead h w g u r ⟨j.val / 256, by omega⟩ ⟨j.val % 256, by omega⟩ := by
  have ha := query_rotated h w g u
  have hx := queries_at h w g u
  unfold val_main_v114 val_main_v108 val_main_v105 val_main_v104 val_main_v103 val_main_v102 val_main_v70 val_main_v22 val_main_cst_9
  generalize val_main_v101 (F := Ideal) h w g u = a at ha ⊢
  generalize val_main_v21 (F := Ideal) h w g u = x at hx ⊢
  pointwise
  simp only [ha, hx, row_split]
  have hr : r.val / 8320 < 4 ∧ r.val % 8320 < 8320 ∧ j.val / 256 < 4 := ⟨by omega, by omega, by omega⟩
  by_cases h2 : j.val % 256 < 192
  · rw [dif_pos (show r.val / 8320 < 4 ∧ r.val % 8320 < 8320 ∧ j.val / 256 < 4 ∧ j.val % 256 < 192 from ⟨hr.1, hr.2.1, hr.2.2, h2⟩)]
    by_cases h1 : j.val % 256 < 128
    · have e : (⟨j.val / 256 * 192 + j.val % 256, by omega⟩ : Fin 768) = ⟨192 * (j.val / 256) + j.val % 256, by omega⟩ :=
        Fin.ext (by show j.val / 256 * 192 + j.val % 256 = 192 * (j.val / 256) + j.val % 256; omega)
      rw [dif_pos h1, e]
      exact (qHead_plain h w r ⟨j.val / 256, by omega⟩ ⟨j.val % 256, by omega⟩ g u h1).symm
    · rw [dif_neg h1]
      exact (qHead_rotated h w r ⟨j.val / 256, by omega⟩ ⟨j.val % 256, by omega⟩ g u ⟨j.val % 256 - 128, by omega⟩
        (by show j.val % 256 = 128 + (j.val % 256 - 128); omega)).symm
  · rw [dif_neg (show ¬(r.val / 8320 < 4 ∧ r.val % 8320 < 8320 ∧ j.val / 256 < 4 ∧ j.val % 256 < 192) from fun hc => h2 hc.2.2.2)]
    rw [val_main_call0_v0_apply, qHead_zero h w r ⟨j.val / 256, by omega⟩ ⟨j.val % 256, by omega⟩ g u (by show 192 ≤ j.val % 256; omega)]
    exact filler

theorem ka_at (r : Fin 33280) (j : Fin 1024) :
    val_main_v115 (F := Ideal) h w gk uk (ix2 r j) = kHead h w gk uk r ⟨j.val / 256, by omega⟩ ⟨j.val % 256, by omega⟩ := by
  have ha := key_rotated h w
  have hx := keys_at h w gk uk
  unfold val_main_v115 val_main_v109 val_main_v107 val_main_v106 val_main_v69 val_main_v37
  generalize val_main_v68 (F := Ideal) h w = a at ha ⊢
  generalize val_main_v36 (F := Ideal) h w gk uk = x at hx ⊢
  pointwise
  simp only [ha, hx, row_split]
  by_cases h1 : j.val % 256 < 128
  · rw [dif_pos h1, kHead_plain h w r _ _ gk uk h1]
    exact congrArg (kvUp h w gk uk r) (Fin.ext (by show j.val = 256 * (j.val / 256) + j.val % 256; omega))
  · rw [dif_neg h1, kHead_shared h w r _ _ gk uk (by show 128 ≤ j.val % 256; omega)]
    by_cases h2 : j.val % 256 - 128 < 64
    · rw [dif_pos h2]
      exact congrArg (kRot h w r) (Fin.ext (by show j.val % 256 - 128 = (j.val % 256 - 128) % 64; omega))
    · rw [dif_neg h2]
      exact congrArg (kRot h w r) (Fin.ext (by show j.val % 256 - 128 - 64 = (j.val % 256 - 128) % 64; omega))

theorem va_at (r : Fin 33280) (j : Fin 512) :
    val_main_v116 (F := Ideal) h w gk uk (ix2 r j) = kvUp h w gk uk r ⟨256 * (j.val / 128) + 128 + j.val % 128, by omega⟩ := by
  have hx := keys_at h w gk uk
  unfold val_main_v116 val_main_v111 val_main_v110 val_main_v37
  generalize val_main_v36 (F := Ideal) h w gk uk = x at hx ⊢
  pointwise
  simp only [hx]
  exact congrArg (kvUp h w gk uk r) (Fin.ext (by show j.val / 128 * 256 + (128 + j.val % 128) = 256 * (j.val / 128) + 128 + j.val % 128; omega))

theorem qa_eq : val_main_v114 (F := Ideal) h w g u = qa h w g u := by
  funext i
  rw [at_pair i]
  exact qa_at h w g u _ _

theorem ka_eq : val_main_v115 (F := Ideal) h w gk uk = ka h w gk uk := by
  funext i
  rw [at_pair i]
  exact ka_at h w gk uk _ _

theorem va_eq : val_main_v116 (F := Ideal) h w gk uk = va h w gk uk := by
  funext i
  rw [at_pair i]
  exact va_at h w gk uk _ _

theorem sq_at (r : Fin 33280) (j : Fin 512) : val_main_v117 (F := Ideal) h w (ix2 r j) = proj h w r ⟨832 + j.val, by omega⟩ * bScale := by
  have hx := product_at h w
  unfold val_main_v117 val_main_v113 val_main_v112 val_main_v5 val_main_cst_10
  generalize val_main_v1 (F := Ideal) h w = x at hx ⊢
  pointwise
  simp only [hx]
  rfl

theorem sk_at (r : Fin 33280) (j : Fin 512) : val_main_v118 (F := Ideal) h w (ix2 r j) = proj h w r ⟨1344 + j.val, by omega⟩ := by
  have hx := product_at h w
  unfold val_main_v118 val_main_v6
  generalize val_main_v1 (F := Ideal) h w = x at hx ⊢
  pointwise
  simp only [hx]

theorem sv_at (r : Fin 33280) (j : Fin 512) : val_main_v119 (F := Ideal) h w (ix2 r j) = proj h w r ⟨1856 + j.val, by omega⟩ := by
  have hx := product_at h w
  unfold val_main_v119 val_main_v7
  generalize val_main_v1 (F := Ideal) h w = x at hx ⊢
  pointwise
  simp only [hx]

theorem sq_eq : val_main_v117 (F := Ideal) h w = sq h w := by
  funext i
  rw [at_pair i]
  exact sq_at h w _ _

theorem sk_eq : val_main_v118 (F := Ideal) h w = sk h w := by
  funext i
  rw [at_pair i]
  exact sk_at h w _ _

theorem sv_eq : val_main_v119 (F := Ideal) h w = sv h w := by
  funext i
  rw [at_pair i]
  exact sv_at h w _ _

end Cert.Reference4Ideal.Even

end
-- ==== Proof.EvenPre.lean ====
/-
  What the precondition of the even layers' projection says: rows, input matrix, the queries' norm and the queries' matrix
  hold no infinity.
-/
module

public import proofs.«01_k».proof.Pre_finite4
public import proofs.«01_k».proof.Proof.Pre
public import proofs.«01_k».proof.Proof.EvenMath
public import Idealize.ShloMosaic.Lib.ReduceAll

@[expose] public section

noncomputable section

namespace Cert.Pre_finite4

open Idealize.ShloMosaic Cert.Even

/-- The side conditions that the printed precondition states. -/
instance facts : Facts := ⟨by decide, by decide, by decide, by decide, by decide, by decide, by decide, by decide, by decide, by decide⟩

/-- Where the precondition holds, the four arrays hold finite numbers. -/
theorem finite_of_fn (h : Rows) (w : In) (g : QNorm) (gk : KvNorm) (u : QUp) (uk : KvUp)
    (hp : fn (F := Ideal) h w g gk u uk = fun _ => 1#1) :
    (∀ i, IsReal (h i)) ∧ (∀ i, IsReal (w i)) ∧ (∀ i, IsReal (g i)) ∧ ∀ i, IsReal (u i) := by
  have h0 := congrFun hp (Shape.Idx.first Facts.h_S_)
  dsimp only [fn, fn_part1] at h0
  obtain ⟨ha, hb⟩ := IntOp.andi_eq_one.1 h0
  obtain ⟨h1, h2⟩ := IntOp.andi_eq_one.1 ha
  obtain ⟨h3, h4⟩ := IntOp.andi_eq_one.1 hb
  exact ⟨fun i => Cert.Pre_finite.finite_of_abs _ (Host.reduce_andi_all _ _ _ _ _ h1 i),
    fun i => Cert.Pre_finite.finite_of_abs _ (Host.reduce_andi_all _ _ _ _ _ h2 i),
    fun i => Cert.Pre_finite.finite_of_abs _ (Host.reduce_andi_all _ _ _ _ _ h3 i),
    fun i => Cert.Pre_finite.finite_of_abs _ (Host.reduce_andi_all _ _ _ _ _ h4 i)⟩

end Cert.Pre_finite4

end
-- ==== Proof.lean ====
/-
  The certificate: the frames, the idealizations, and the equations between the two kernels and their references.
-/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Array
public import proofs.«01_k».proof.Proof.Ref
public import proofs.«01_k».proof.Proof.Pre
public import Idealize.ShloMosaic.Lib.Quiescent
public import proofs.«01_k».proof.Proof.Gen.Kernel2
public import proofs.«01_k».proof.Proof.MoeBitsRun
public import proofs.«01_k».proof.Proof.Gen.Kernel2Ideal
public import proofs.«01_k».proof.Proof.MoeArray
public import proofs.«01_k».proof.Proof.MoeRef
public import proofs.«01_k».proof.Proof.MoePre
public import Idealize.ShloMosaic.Lib.Bf16Pair
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.OddArray
public import proofs.«01_k».proof.Proof.OddRef
public import proofs.«01_k».proof.Proof.EvenArray
public import proofs.«01_k».proof.Proof.EvenRef
public import proofs.«01_k».proof.Proof.EvenPre
public import Idealize.ShloMosaic.Adequacy
public import Idealize.ShloMosaic.Init

@[expose] public section

noncomputable section

namespace Cert.Proof

open Idealize.ShloMosaic Idealize.SL.Sem Cert.Kernel

/-- The idealized reference terminates, changes no argument and has no semaphore. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- From the same queries, keys and values, kernel and reference end with the same array: the attention. -/
theorem attention : Cert.algebraic_KernelIdeal_ReferenceIdeal_pre_finite := by
  intro m g m' g' hp hargs
  refine ⟨fun c => Cert.Att.attn (m ((c.tc : Thread _ _).loc Cert.KernelIdeal.main_arg0)) (m ((c.tc : Thread _ _).loc Cert.KernelIdeal.main_arg1))
    (m ((c.tc : Thread _ _).loc Cert.KernelIdeal.main_arg2)), ?_, ?_⟩
  · refine (θ_run (Cert.KernelIdeal.defs (F := Ideal)) _ _).mono (fun r h c => ?_) (Cert.KernelIdeal.Value.run_blocks (F := Ideal) m g)
    obtain ⟨hq, hk⟩ := Cert.Pre_finite.finite_of_fn _ _ _ (hp c)
    exact ⟨(h c).1.trans (Cert.KernelIdeal.Att.array m c hq hk), (h c).2⟩
  · refine (θ_run (Cert.ReferenceIdeal.defs (F := Ideal)) _ _).mono (fun r h c => ⟨(h c).1.trans ?_, (h c).2⟩) (Cert.ReferenceIdeal.Value.run (F := Ideal) m' g')
    rw [Cert.ReferenceIdeal.Read.val_main_v36_eq, Cert.ReferenceIdeal.Att.result_eq]
    obtain ⟨h0, h1, h2⟩ := hargs c
    exact congr (congrArg₂ _ h0 h1) h2

/-- With the precondition, the experts' tables are good: on the one device, and so on every device. -/
theorem tabled_bits (m : (ℓ : Loc Cert.Kernel2.nD Cert.Kernel2.τ Cert.Kernel2.sig) → Buf (Elt Bits) ℓ) (hp : Cert.Pre_Kernel2 m) :
    ∃ T0 T1, Cert.Moe.Good T0 T1 ∧ Cert.Kernel2.Moe.Tabled T0 T1 m :=
  ⟨_, _, Cert.Pre_tables.good_of_fn _ _ _ _ _ _ _ (hp (0 : Fin 1)), fun c => by
    obtain rfl : c = (0 : Fin 1) := Subsingleton.elim (α := Fin 1) _ _
    exact ⟨rfl, rfl⟩⟩

theorem tabled_ideal (m : (ℓ : Loc Cert.Kernel2Ideal.nD Cert.Kernel2Ideal.τ Cert.Kernel2Ideal.sig) → Buf (Elt Ideal) ℓ) (hp : Cert.Pre_Kernel2Ideal m) :
    ∃ T0 T1, Cert.Moe.Good T0 T1 ∧ Cert.Kernel2Ideal.Moe.Tabled T0 T1 m :=
  ⟨_, _, Cert.Pre_tables.good_of_fn _ _ _ _ _ _ _ (hp (0 : Fin 1)), fun c => by
    obtain rfl : c = (0 : Fin 1) := Subsingleton.elim (α := Fin 1) _ _
    exact ⟨rfl, rfl⟩⟩

/-- The experts' kernel terminates, changes no argument and leaves every semaphore at zero. -/
theorem frame_experts : Cert.quiescent_Kernel2 := fun m ρ hp => by
  obtain ⟨T0, T1, hg, ht⟩ := tabled_bits m hp
  exact (θ_run (Cert.Kernel2.defs (F := Bits)) _ _).mono
    (fun r h => ⟨fun c => Cert.Kernel2.Moe.args_unchanged hg m ht r h.1 c, h.2⟩) (Cert.Kernel2.Moe.run_main hg m ρ ht)

theorem frame_experts_ideal : Cert.quiescent_Kernel2Ideal := fun m ρ hp => by
  obtain ⟨T0, T1, hg, ht⟩ := tabled_ideal m hp
  exact (θ_run (Cert.Kernel2Ideal.defs (F := Ideal)) _ _).mono
    (fun r h => ⟨fun c => Cert.Kernel2Ideal.Moe.args_unchanged hg m ht r h.1 c, h.2⟩) (Cert.Kernel2Ideal.Moe.run_main hg m ρ ht)

/-- The experts' reference terminates, changes no argument and has no semaphore. -/
theorem frame_reference2 : Cert.quiescent_Reference2Ideal := fun m ρ _ =>
  (θ_run (Cert.Reference2Ideal.defs (F := Ideal)) _ _).mono
    (fun r h => ⟨fun c => (h c).2, Idealize.ShloMosaic.sem_eq_zero_of_no_sems (by decide) r.2⟩)
    (Cert.Reference2Ideal.Value.run (F := Ideal) m ρ)

/-- A 32-bit word of two bfloat16s, read as the pair. -/
theorem pairs : Cert.preserves_Kernel2_Kernel2Ideal := IdealRules.bf16_pair.statement _ _

/-- From the same tables, rows and experts, kernel and reference end with the same rows in every block in use: the experts'. -/
theorem experts : Cert.algebraic_Kernel2Ideal_Reference2Ideal_on_rows_used := by
  intro m g m' g' hp hargs
  obtain ⟨T0, T1, hg, ht⟩ := tabled_ideal m hp
  refine ⟨fun c => Cert.Moe.experts (m ((c.tc : Thread _ _).loc Cert.Kernel2Ideal.main_arg2)) (m ((c.tc : Thread _ _).loc Cert.Kernel2Ideal.main_arg3))
    (m ((c.tc : Thread _ _).loc Cert.Kernel2Ideal.main_arg4)) (m ((c.tc : Thread _ _).loc Cert.Kernel2Ideal.main_arg5))
    (m ((c.tc : Thread _ _).loc Cert.Kernel2Ideal.main_arg6)) T0 hg.expert, ?_, ?_⟩
  · refine (θ_run (Cert.Kernel2Ideal.defs (F := Ideal)) _ _).mono (fun r h c => ⟨fun i hi => ?_, Cert.Kernel2Ideal.Moe.args_unchanged hg m ht r h.1 c⟩)
      (Cert.Kernel2Ideal.Moe.run_main hg m g ht)
    rw [(ht c).1, (ht c).2] at hi
    have hu := Cert.On_rows_used.used_of_fn _ _ _ _ _ _ _ hg.lt_signed i hi
    have ha := ((h.1 c).1 (5 : Fin 6)).trans (Cert.Kernel2Ideal.Moe.array hg m c)
    exact (congrFun ha i).trans (if_pos hu)
  · refine (θ_run (Cert.Reference2Ideal.defs (F := Ideal)) _ _).mono (fun r h c => ⟨fun i _ => ?_, (h c).2⟩) (Cert.Reference2Ideal.Value.run (F := Ideal) m' g')
    obtain ⟨h0, h1, h2, h3, h4, h5, h6⟩ := hargs c
    refine (congrFun ((h c).1.trans (Cert.Reference2Ideal.Read.val_main_v55_eq m' c)) i).trans ?_
    rw [h0, h2, h3, h4, h5, h6, (ht c).1]
    exact congrFun (Cert.Reference2Ideal.Moe.result_eq T0 hg.expert _ _ _ _ _) i

/-- The projection's reference terminates, changes no argument and has no semaphore. -/
theorem frame_reference3 : Cert.quiescent_Reference3Ideal := fun m ρ _ =>
  (θ_run (Cert.Reference3Ideal.defs (F := Ideal)) _ _).mono
    (fun r h => ⟨fun c => (h c).2.2.2.2.2.2, Idealize.ShloMosaic.sem_eq_zero_of_no_sems (by decide) r.2⟩)
    (Cert.Reference3Ideal.Value.run (F := Ideal) m ρ)

/-- From the same rows and matrix, kernel and reference end with the same six arrays: the projection's. -/
theorem projection : Cert.algebraic_Kernel3Ideal_Reference3Ideal := by
  intro m g m' g' _ hargs
  refine ⟨fun c => Cert.Odd.cq (m ((c.tc : Thread _ _).loc Cert.Kernel3Ideal.main_arg0)) (m ((c.tc : Thread _ _).loc Cert.Kernel3Ideal.main_arg1)),
    fun c => Cert.Odd.ck (m ((c.tc : Thread _ _).loc Cert.Kernel3Ideal.main_arg0)) (m ((c.tc : Thread _ _).loc Cert.Kernel3Ideal.main_arg1)),
    fun c => Cert.Odd.iq (m ((c.tc : Thread _ _).loc Cert.Kernel3Ideal.main_arg0)) (m ((c.tc : Thread _ _).loc Cert.Kernel3Ideal.main_arg1)),
    fun c => Cert.Odd.ik (m ((c.tc : Thread _ _).loc Cert.Kernel3Ideal.main_arg0)) (m ((c.tc : Thread _ _).loc Cert.Kernel3Ideal.main_arg1)),
    fun c => Cert.Odd.vt (m ((c.tc : Thread _ _).loc Cert.Kernel3Ideal.main_arg0)) (m ((c.tc : Thread _ _).loc Cert.Kernel3Ideal.main_arg1)),
    fun c => Cert.Odd.wt (m ((c.tc : Thread _ _).loc Cert.Kernel3Ideal.main_arg0)) (m ((c.tc : Thread _ _).loc Cert.Kernel3Ideal.main_arg1)), ?_, ?_⟩
  · refine (θ_run (Cert.Kernel3Ideal.defs (F := Ideal)) _ _).mono (fun r h c => ?_) (Cert.Kernel3Ideal.Value.run_blocks (F := Ideal) m g)
    obtain ⟨h4, h5, h6, h7, h8, h9, h⟩ := h c
    exact ⟨h4.trans (Cert.Kernel3Ideal.Odd.array4 m c), h5.trans (Cert.Kernel3Ideal.Odd.array5 m c), h6.trans (Cert.Kernel3Ideal.Odd.array6 m c),
      h7.trans (Cert.Kernel3Ideal.Odd.array7 m c), h8.trans (Cert.Kernel3Ideal.Odd.array8 m c), h9.trans (Cert.Kernel3Ideal.Odd.array9 m c), h⟩
  · refine (θ_run (Cert.Reference3Ideal.defs (F := Ideal)) _ _).mono (fun r h c => ?_) (Cert.Reference3Ideal.Value.run (F := Ideal) m' g')
    obtain ⟨k0, k1, k2, k3, k4, k5, k⟩ := h c
    obtain ⟨h0, h1⟩ := hargs c
    refine ⟨k0.trans ?_, k1.trans ?_, k2.trans ?_, k3.trans ?_, k4.trans ?_, k5.trans ?_, k⟩
    · rw [Cert.Reference3Ideal.Read.val_main_v10_eq, Cert.Reference3Ideal.Odd.cq_eq]
      exact congrArg₂ Cert.Odd.cq h0 h1
    · rw [Cert.Reference3Ideal.Read.val_main_v18_eq, Cert.Reference3Ideal.Odd.ck_eq]
      exact congrArg₂ Cert.Odd.ck h0 h1
    · rw [Cert.Reference3Ideal.Read.val_main_v20_eq, Cert.Reference3Ideal.Odd.iq_eq]
      exact congrArg₂ Cert.Odd.iq h0 h1
    · rw [Cert.Reference3Ideal.Read.val_main_v21_eq, Cert.Reference3Ideal.Odd.ik_eq]
      exact congrArg₂ Cert.Odd.ik h0 h1
    · rw [Cert.Reference3Ideal.Read.val_main_v22_eq, Cert.Reference3Ideal.Odd.vt_eq]
      exact congrArg₂ Cert.Odd.vt h0 h1
    · rw [Cert.Reference3Ideal.Read.val_main_v25_eq, Cert.Reference3Ideal.Odd.wt_eq]
      exact congrArg₂ Cert.Odd.wt h0 h1

/-- The even layers' projection's reference terminates, changes no argument and has no semaphore. -/
theorem frame_reference4 : Cert.quiescent_Reference4Ideal := fun m ρ _ =>
  (θ_run (Cert.Reference4Ideal.defs (F := Ideal)) _ _).mono
    (fun r h => ⟨fun c => (h c).2.2.2.2.2.2, Idealize.ShloMosaic.sem_eq_zero_of_no_sems (by decide) r.2⟩)
    (Cert.Reference4Ideal.Value.run (F := Ideal) m ρ)

/-- From the same rows, norms and matrices, kernel and reference end with the same six arrays: those of the even layers' projection. -/
theorem even_projection : Cert.algebraic_Kernel4Ideal_Reference4Ideal_pre_finite4 := by
  intro m g m' g' hp hargs
  refine ⟨fun c => Cert.Even.qa (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg4)),
    fun c => Cert.Even.ka (m ((c.tc : Thread _ _).loc Cert.Kernel4Ideal.main_arg0)) (m ((c.tc : Thread _ _).loc Cert.Kernel4Ideal.main_arg1)) (m ((c.tc : Thread _ _).loc Cert.Kernel4Ideal.main_arg3)) (m ((c.tc : Thread _ _).loc Cert.Kernel4Ideal.main_arg5)),
    fun c => Cert.Even.va (m ((c.tc : Thread _ _).loc Cert.Kernel4Ideal.main_arg0)) (m ((c.tc : Thread _ _).loc Cert.Kernel4Ideal.main_arg1)) (m ((c.tc : Thread _ _).loc Cert.Kernel4Ideal.main_arg3)) (m ((c.tc : Thread _ _).loc Cert.Kernel4Ideal.main_arg5)),
    fun c => Cert.Even.sq (m ((c.tc : Thread _ _).loc Cert.Kernel4Ideal.main_arg0)) (m ((c.tc : Thread _ _).loc Cert.Kernel4Ideal.main_arg1)),
    fun c => Cert.Even.sk (m ((c.tc : Thread _ _).loc Cert.Kernel4Ideal.main_arg0)) (m ((c.tc : Thread _ _).loc Cert.Kernel4Ideal.main_arg1)),
    fun c => Cert.Even.sv (m ((c.tc : Thread _ _).loc Cert.Kernel4Ideal.main_arg0)) (m ((c.tc : Thread _ _).loc Cert.Kernel4Ideal.main_arg1)), ?_, ?_⟩
  · refine (θ_run (Cert.Kernel4Ideal.defs (F := Ideal)) _ _).mono (fun r h c => ?_) (Cert.Kernel4Ideal.Value.run_blocks (F := Ideal) m g)
    obtain ⟨hh, hw, hg, hu⟩ := Cert.Pre_finite4.finite_of_fn _ _ _ _ _ _ (hp c)
    obtain ⟨h7, h8, h9, h10, h11, h12, h⟩ := h c
    exact ⟨h7.trans (Cert.Kernel4Ideal.Even.array7 m c hh hw hg hu), h8.trans (Cert.Kernel4Ideal.Even.array8 m c hh hw),
      h9.trans (Cert.Kernel4Ideal.Even.array9 m c), h10.trans (Cert.Kernel4Ideal.Even.array10 m c),
      h11.trans (Cert.Kernel4Ideal.Even.array11 m c), h12.trans (Cert.Kernel4Ideal.Even.array12 m c), h⟩
  · refine (θ_run (Cert.Reference4Ideal.defs (F := Ideal)) _ _).mono (fun r h c => ?_) (Cert.Reference4Ideal.Value.run (F := Ideal) m' g')
    obtain ⟨k0, k1, k2, k3, k4, k5, k⟩ := h c
    obtain ⟨h0, h1, h2, h3, h4, h5⟩ := hargs c
    refine ⟨k0.trans ?_, k1.trans ?_, k2.trans ?_, k3.trans ?_, k4.trans ?_, k5.trans ?_, k⟩
    · rw [Cert.Reference4Ideal.Read.val_main_v114_eq, Cert.Reference4Ideal.Even.qa_eq, h0, h1, h2, h4]
    · rw [Cert.Reference4Ideal.Read.val_main_v115_eq, Cert.Reference4Ideal.Even.ka_eq, h0, h1, h3, h5]
    · rw [Cert.Reference4Ideal.Read.val_main_v116_eq, Cert.Reference4Ideal.Even.va_eq, h0, h1, h3, h5]
    · rw [Cert.Reference4Ideal.Read.val_main_v117_eq, Cert.Reference4Ideal.Even.sq_eq]
      exact congrArg₂ Cert.Even.sq h0 h1
    · rw [Cert.Reference4Ideal.Read.val_main_v118_eq, Cert.Reference4Ideal.Even.sk_eq]
      exact congrArg₂ Cert.Even.sk h0 h1
    · rw [Cert.Reference4Ideal.Read.val_main_v119_eq, Cert.Reference4Ideal.Even.sv_eq]
      exact congrArg₂ Cert.Even.sv h0 h1

/-- Everything that is claimed. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.facts, Cert.Pre_tables.facts, Cert.Pre_finite4.facts, Cert.On_rows_used.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  frame_experts, frame_experts_ideal, frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, fun m ρ _ => Cert.Kernel4Ideal.Gen.frame m ρ,
  frame_reference4, fun m ρ _ => frame_reference4 m ρ trivial,
  IdealRules.named_const.statement Cert.KernelIdeal.κ "mask" .f32 0xF149F2CA#32 ⊥ rfl,
  attention, pairs, experts, trivial, projection, trivial, even_projection⟩

end Cert.Proof

end
